-- ==== Defs.lean ====
def Pre_Gate [hPre_in_range : Cert.Pre_in_range.Facts] (m : (ℓ : Loc Cert.Gate.nD Cert.Gate.τ Cert.Gate.sig) → Buf (Elt Bits) ℓ) : Prop :=
  ∀ c : Dev Cert.Gate.nD,
    (Cert.Pre_in_range.fn (F := Bits) (m ((c.tc : Thread Cert.Gate.nD Cert.Gate.τ).loc Cert.Gate.main_arg0)) (m ((c.tc : Thread Cert.Gate.nD Cert.Gate.τ).loc Cert.Gate.main_arg1)) (m ((c.tc : Thread Cert.Gate.nD Cert.Gate.τ).loc Cert.Gate.main_arg2))) = (fun _ => 1#1)

def Pre_GateIdeal [hPre_in_range : Cert.Pre_in_range.Facts] (m : (ℓ : Loc Cert.GateIdeal.nD Cert.GateIdeal.τ Cert.GateIdeal.sig) → Buf (Elt Ideal) ℓ) : Prop :=
  ∀ c : Dev Cert.GateIdeal.nD,
    (Cert.Pre_in_range.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2))) = (fun _ => 1#1)

def Pre_GateRefIdeal [hPre_in_range : Cert.Pre_in_range.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_in_range.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2))) = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseRefIdeal (m : (ℓ : Loc Cert.DenseRefIdeal.nD Cert.DenseRefIdeal.τ Cert.DenseRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalIdeal_below_one [hPre_below_one : Cert.Pre_below_one.Facts] (m : (ℓ : Loc Cert.FinalIdeal.nD Cert.FinalIdeal.τ Cert.FinalIdeal.sig) → Buf (Elt Ideal) ℓ) : Prop :=
  ∀ c : Dev Cert.FinalIdeal.nD,
    (Cert.Pre_below_one.fn (F := Ideal) (m ((c.tc : Thread Cert.FinalIdeal.nD Cert.FinalIdeal.τ).loc Cert.FinalIdeal.main_arg0)) (m ((c.tc : Thread Cert.FinalIdeal.nD Cert.FinalIdeal.τ).loc Cert.FinalIdeal.main_arg1)) (m ((c.tc : Thread Cert.FinalIdeal.nD Cert.FinalIdeal.τ).loc Cert.FinalIdeal.main_arg2)) (m ((c.tc : Thread Cert.FinalIdeal.nD Cert.FinalIdeal.τ).loc Cert.FinalIdeal.main_arg3)) (m ((c.tc : Thread Cert.FinalIdeal.nD Cert.FinalIdeal.τ).loc Cert.FinalIdeal.main_arg4)) (m ((c.tc : Thread Cert.FinalIdeal.nD Cert.FinalIdeal.τ).loc Cert.FinalIdeal.main_arg5))) = (fun _ => 1#1)

def Pre_FinalRefIdeal (m : (ℓ : Loc Cert.FinalRefIdeal.nD Cert.FinalRefIdeal.τ Cert.FinalRefIdeal.sig) → Buf (Elt Ideal) ℓ) : Prop :=
  True

def Pre_FinalRefIdeal_below_one [hPre_below_one : Cert.Pre_below_one.Facts] (m : (ℓ : Loc Cert.FinalRefIdeal.nD Cert.FinalRefIdeal.τ Cert.FinalRefIdeal.sig) → Buf (Elt Ideal) ℓ) : Prop :=
  ∀ c : Dev Cert.FinalRefIdeal.nD,
    (Cert.Pre_below_one.fn (F := Ideal) (m ((c.tc : Thread Cert.FinalRefIdeal.nD Cert.FinalRefIdeal.τ).loc Cert.FinalRefIdeal.main_arg0)) (m ((c.tc : Thread Cert.FinalRefIdeal.nD Cert.FinalRefIdeal.τ).loc Cert.FinalRefIdeal.main_arg1)) (m ((c.tc : Thread Cert.FinalRefIdeal.nD Cert.FinalRefIdeal.τ).loc Cert.FinalRefIdeal.main_arg2)) (m ((c.tc : Thread Cert.FinalRefIdeal.nD Cert.FinalRefIdeal.τ).loc Cert.FinalRefIdeal.main_arg3)) (m ((c.tc : Thread Cert.FinalRefIdeal.nD Cert.FinalRefIdeal.τ).loc Cert.FinalRefIdeal.main_arg4)) (m ((c.tc : Thread Cert.FinalRefIdeal.nD Cert.FinalRefIdeal.τ).loc Cert.FinalRefIdeal.main_arg5))) = (fun _ => 1#1)

def quiescent_Gate [hGate : Cert.Gate.Facts] [hPre_in_range : Cert.Pre_in_range.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (Cert.Gate.threads (F := Bits)) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] [hPre_in_range : Cert.Pre_in_range.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (Cert.GateIdeal.threads (F := Ideal)) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateRefIdeal [hGateRefIdeal : Cert.GateRefIdeal.Facts] [hPre_in_range : Cert.Pre_in_range.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4)
      ∧ r.2.mem ((c.tc : Thread Cert.Dense.nD Cert.Dense.τ).loc Cert.Dense.main_arg5) = m ((c.tc : Thread Cert.Dense.nD Cert.Dense.τ).loc Cert.Dense.main_arg5))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5))
      ∧ r.2.sem = fun _ => 0)

def quiescent_DenseRefIdeal [hDenseRefIdeal : Cert.DenseRefIdeal.Facts] : Prop :=
  ∀ (m : (ℓ : Loc Cert.DenseRefIdeal.nD Cert.DenseRefIdeal.τ Cert.DenseRefIdeal.sig) → Buf (Elt Ideal) ℓ) (g : Dev Cert.DenseRefIdeal.nD → PrngReg), Pre_DenseRefIdeal m →
    θ_run (Cert.DenseRefIdeal.defs (F := Ideal)) (onTc (τ := Cert.DenseRefIdeal.τ) (Cert.DenseRefIdeal.main (F := Ideal))) ⟨m, fun _ => 0, g⟩ (fun r => (∀ c : Dev Cert.DenseRefIdeal.nD,
      r.2.mem ((c.tc : Thread Cert.DenseRefIdeal.nD Cert.DenseRefIdeal.τ).loc Cert.DenseRefIdeal.main_arg0) = m ((c.tc : Thread Cert.DenseRefIdeal.nD Cert.DenseRefIdeal.τ).loc Cert.DenseRefIdeal.main_arg0)
      ∧ r.2.mem ((c.tc : Thread Cert.DenseRefIdeal.nD Cert.DenseRefIdeal.τ).loc Cert.DenseRefIdeal.main_arg1) = m ((c.tc : Thread Cert.DenseRefIdeal.nD Cert.DenseRefIdeal.τ).loc Cert.DenseRefIdeal.main_arg1)
      ∧ r.2.mem ((c.tc : Thread Cert.DenseRefIdeal.nD Cert.DenseRefIdeal.τ).loc Cert.DenseRefIdeal.main_arg2) = m ((c.tc : Thread Cert.DenseRefIdeal.nD Cert.DenseRefIdeal.τ).loc Cert.DenseRefIdeal.main_arg2)
      ∧ r.2.mem ((c.tc : Thread Cert.DenseRefIdeal.nD Cert.DenseRefIdeal.τ).loc Cert.DenseRefIdeal.main_arg3) = m ((c.tc : Thread Cert.DenseRefIdeal.nD Cert.DenseRefIdeal.τ).loc Cert.DenseRefIdeal.main_arg3)
      ∧ r.2.mem ((c.tc : Thread Cert.DenseRefIdeal.nD Cert.DenseRefIdeal.τ).loc Cert.DenseRefIdeal.main_arg4) = m ((c.tc : Thread Cert.DenseRefIdeal.nD Cert.DenseRefIdeal.τ).loc Cert.DenseRefIdeal.main_arg4)
      ∧ r.2.mem ((c.tc : Thread Cert.DenseRefIdeal.nD Cert.DenseRefIdeal.τ).loc Cert.DenseRefIdeal.main_arg5) = m ((c.tc : Thread Cert.DenseRefIdeal.nD Cert.DenseRefIdeal.τ).loc Cert.DenseRefIdeal.main_arg5))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4)
      ∧ r.2.mem ((c.tc : Thread Cert.Final.nD Cert.Final.τ).loc Cert.Final.main_arg5) = m ((c.tc : Thread Cert.Final.nD Cert.Final.τ).loc Cert.Final.main_arg5))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
      ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5))
      ∧ r.2.sem = fun _ => 0)

def quiescent_FinalIdeal_pre_below_one [hFinalIdeal : Cert.FinalIdeal.Facts] [hPre_below_one : Cert.Pre_below_one.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal_below_one m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
      ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3)
      ∧ r.2.mem ((c.tc : Thread Cert.FinalRefIdeal.nD Cert.FinalRefIdeal.τ).loc Cert.FinalRefIdeal.main_arg4) = m ((c.tc : Thread Cert.FinalRefIdeal.nD Cert.FinalRefIdeal.τ).loc Cert.FinalRefIdeal.main_arg4)
      ∧ r.2.mem ((c.tc : Thread Cert.FinalRefIdeal.nD Cert.FinalRefIdeal.τ).loc Cert.FinalRefIdeal.main_arg5) = m ((c.tc : Thread Cert.FinalRefIdeal.nD Cert.FinalRefIdeal.τ).loc Cert.FinalRefIdeal.main_arg5))
      ∧ r.2.sem = fun _ => 0)

def quiescent_FinalRefIdeal_pre_below_one [hFinalRefIdeal : Cert.FinalRefIdeal.Facts] [hPre_below_one : Cert.Pre_below_one.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal_below_one m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3)
      ∧ r.2.mem ((c.tc : Thread Cert.FinalRefIdeal.nD Cert.FinalRefIdeal.τ).loc Cert.FinalRefIdeal.main_arg4) = m ((c.tc : Thread Cert.FinalRefIdeal.nD Cert.FinalRefIdeal.τ).loc Cert.FinalRefIdeal.main_arg4)
      ∧ r.2.mem ((c.tc : Thread Cert.FinalRefIdeal.nD Cert.FinalRefIdeal.τ).loc Cert.FinalRefIdeal.main_arg5) = m ((c.tc : Thread Cert.FinalRefIdeal.nD Cert.FinalRefIdeal.τ).loc Cert.FinalRefIdeal.main_arg5))
      ∧ r.2.sem = fun _ => 0)

def preserves_Gate_GateIdeal : Prop :=
  IdealRules.named_const.Statement Cert.GateIdeal.κ "third" .f32 0x3EAAAAAB#32 ((3⁻¹ : ℝ) : EReal)

def algebraic_GateIdeal_GateRefIdeal [hGateIdeal : Cert.GateIdeal.Facts] [hGateRefIdeal : Cert.GateRefIdeal.Facts] [hPre_in_range : Cert.Pre_in_range.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v23)),
      θ_run (Cert.GateIdeal.defs (F := Ideal)) (Cert.GateIdeal.threads (F := Ideal)) ⟨m, fun _ => 0, g⟩ (fun r => ∀ c : Dev Cert.GateIdeal.nD,
          r.2.mem ((c.tc : Thread Cert.GateIdeal.nD Cert.GateIdeal.τ).loc Cert.GateIdeal.main_v23) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v10_6) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2))

def preserves_Dense_DenseIdeal : Prop :=
  True

def algebraic_DenseIdeal_DenseRefIdeal [hDenseIdeal : Cert.DenseIdeal.Facts] [hDenseRefIdeal : Cert.DenseRefIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseRefIdeal.nD Cert.DenseRefIdeal.τ Cert.DenseRefIdeal.sig) → Buf (Elt Ideal) ℓ) (g' : Dev Cert.DenseRefIdeal.nD → PrngReg), Pre_DenseIdeal m →
    (∀ c : Dev Cert.DenseIdeal.nD,
      m' ((c.tc : Thread Cert.DenseRefIdeal.nD Cert.DenseRefIdeal.τ).loc Cert.DenseRefIdeal.main_arg0) = m ((c.tc : Thread Cert.DenseIdeal.nD Cert.DenseIdeal.τ).loc Cert.DenseIdeal.main_arg0)
      ∧ m' ((c.tc : Thread Cert.DenseRefIdeal.nD Cert.DenseRefIdeal.τ).loc Cert.DenseRefIdeal.main_arg1) = m ((c.tc : Thread Cert.DenseIdeal.nD Cert.DenseIdeal.τ).loc Cert.DenseIdeal.main_arg1)
      ∧ m' ((c.tc : Thread Cert.DenseRefIdeal.nD Cert.DenseRefIdeal.τ).loc Cert.DenseRefIdeal.main_arg2) = m ((c.tc : Thread Cert.DenseIdeal.nD Cert.DenseIdeal.τ).loc Cert.DenseIdeal.main_arg2)
      ∧ m' ((c.tc : Thread Cert.DenseRefIdeal.nD Cert.DenseRefIdeal.τ).loc Cert.DenseRefIdeal.main_arg3) = m ((c.tc : Thread Cert.DenseIdeal.nD Cert.DenseIdeal.τ).loc Cert.DenseIdeal.main_arg3)
      ∧ m' ((c.tc : Thread Cert.DenseRefIdeal.nD Cert.DenseRefIdeal.τ).loc Cert.DenseRefIdeal.main_arg4) = m ((c.tc : Thread Cert.DenseIdeal.nD Cert.DenseIdeal.τ).loc Cert.DenseIdeal.main_arg4)
      ∧ m' ((c.tc : Thread Cert.DenseRefIdeal.nD Cert.DenseRefIdeal.τ).loc Cert.DenseRefIdeal.main_arg5) = m ((c.tc : Thread Cert.DenseIdeal.nD Cert.DenseIdeal.τ).loc Cert.DenseIdeal.main_arg5)) →
    ∃ (v0 : (c : Dev Cert.DenseIdeal.nD) → Buf (Elt Ideal) ((c.tc : Thread Cert.DenseIdeal.nD Cert.DenseIdeal.τ).loc Cert.DenseIdeal.main_v3_0)) (v1 : (c : Dev Cert.DenseIdeal.nD) → Buf (Elt Ideal) ((c.tc : Thread Cert.DenseIdeal.nD Cert.DenseIdeal.τ).loc Cert.DenseIdeal.main_v3_1)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v3_0) = v0 c
          ∧ r.2.mem ((c.tc : Thread Cert.DenseIdeal.nD Cert.DenseIdeal.τ).loc Cert.DenseIdeal.main_v3_1) = v1 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5))
      ∧ θ_run (Cert.DenseRefIdeal.defs (F := Ideal)) (onTc (τ := Cert.DenseRefIdeal.τ) (Cert.DenseRefIdeal.main (F := Ideal))) ⟨m', fun _ => 0, g'⟩ (fun r => ∀ c : Dev Cert.DenseRefIdeal.nD,
          r.2.mem ((c.tc : Thread Cert.DenseRefIdeal.nD Cert.DenseRefIdeal.τ).loc Cert.DenseRefIdeal.main_v52) = v0 c
          ∧ r.2.mem ((c.tc : Thread Cert.DenseRefIdeal.nD Cert.DenseRefIdeal.τ).loc Cert.DenseRefIdeal.main_v51) = v1 c
          ∧ r.2.mem ((c.tc : Thread Cert.DenseRefIdeal.nD Cert.DenseRefIdeal.τ).loc Cert.DenseRefIdeal.main_arg0) = m' ((c.tc : Thread Cert.DenseRefIdeal.nD Cert.DenseRefIdeal.τ).loc Cert.DenseRefIdeal.main_arg0)
          ∧ r.2.mem ((c.tc : Thread Cert.DenseRefIdeal.nD Cert.DenseRefIdeal.τ).loc Cert.DenseRefIdeal.main_arg1) = m' ((c.tc : Thread Cert.DenseRefIdeal.nD Cert.DenseRefIdeal.τ).loc Cert.DenseRefIdeal.main_arg1)
          ∧ r.2.mem ((c.tc : Thread Cert.DenseRefIdeal.nD Cert.DenseRefIdeal.τ).loc Cert.DenseRefIdeal.main_arg2) = m' ((c.tc : Thread Cert.DenseRefIdeal.nD Cert.DenseRefIdeal.τ).loc Cert.DenseRefIdeal.main_arg2)
          ∧ r.2.mem ((c.tc : Thread Cert.DenseRefIdeal.nD Cert.DenseRefIdeal.τ).loc Cert.DenseRefIdeal.main_arg3) = m' ((c.tc : Thread Cert.DenseRefIdeal.nD Cert.DenseRefIdeal.τ).loc Cert.DenseRefIdeal.main_arg3)
          ∧ r.2.mem ((c.tc : Thread Cert.DenseRefIdeal.nD Cert.DenseRefIdeal.τ).loc Cert.DenseRefIdeal.main_arg4) = m' ((c.tc : Thread Cert.DenseRefIdeal.nD Cert.DenseRefIdeal.τ).loc Cert.DenseRefIdeal.main_arg4)
          ∧ r.2.mem ((c.tc : Thread Cert.DenseRefIdeal.nD Cert.DenseRefIdeal.τ).loc Cert.DenseRefIdeal.main_arg5) = m' ((c.tc : Thread Cert.DenseRefIdeal.nD Cert.DenseRefIdeal.τ).loc Cert.DenseRefIdeal.main_arg5))

def preserves_Prep_PrepIdeal : Prop :=
  IdealRules.named_const.Statement Cert.PrepIdeal.κ "mask" .f32 0xF149F2CA#32 ⊥

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)) →
    ∃ (v0 : (c : Dev Cert.PrepIdeal.nD) → Buf (Elt Ideal) ((c.tc : Thread Cert.PrepIdeal.nD Cert.PrepIdeal.τ).loc Cert.PrepIdeal.main_v3_0)) (v1 : (c : Dev Cert.PrepIdeal.nD) → Buf (Elt Ideal) ((c.tc : Thread Cert.PrepIdeal.nD Cert.PrepIdeal.τ).loc Cert.PrepIdeal.main_v3_1)) (v2 : (c : Dev Cert.PrepIdeal.nD) → Buf (Elt Ideal) ((c.tc : Thread Cert.PrepIdeal.nD Cert.PrepIdeal.τ).loc Cert.PrepIdeal.main_v3_2)) (v3 : (c : Dev Cert.PrepIdeal.nD) → Buf (Elt Ideal) ((c.tc : Thread Cert.PrepIdeal.nD Cert.PrepIdeal.τ).loc Cert.PrepIdeal.main_v3_3)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v3_0) = v0 c
          ∧ r.2.mem ((c.tc : Thread Cert.PrepIdeal.nD Cert.PrepIdeal.τ).loc Cert.PrepIdeal.main_v3_1) = v1 c
          ∧ r.2.mem ((c.tc : Thread Cert.PrepIdeal.nD Cert.PrepIdeal.τ).loc Cert.PrepIdeal.main_v3_2) = v2 c
          ∧ r.2.mem ((c.tc : Thread Cert.PrepIdeal.nD Cert.PrepIdeal.τ).loc Cert.PrepIdeal.main_v3_3) = v3 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_indices) = v0 c
          ∧ r.2.mem ((c.tc : Thread Cert.PrepRefIdeal.nD Cert.PrepRefIdeal.τ).loc Cert.PrepRefIdeal.main_v19) = v1 c
          ∧ r.2.mem ((c.tc : Thread Cert.PrepRefIdeal.nD Cert.PrepRefIdeal.τ).loc Cert.PrepRefIdeal.main_v27) = v2 c
          ∧ r.2.mem ((c.tc : Thread Cert.PrepRefIdeal.nD Cert.PrepRefIdeal.τ).loc Cert.PrepRefIdeal.main_v30) = v3 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5))

def preserves_Final_FinalIdeal : Prop :=
  True

def algebraic_FinalIdeal_FinalRefIdeal_pre_below_one [hFinalIdeal : Cert.FinalIdeal.Facts] [hFinalRefIdeal : Cert.FinalRefIdeal.Facts] [hPre_below_one : Cert.Pre_below_one.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal_below_one m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)
      ∧ m' ((c.tc : Thread Cert.FinalRefIdeal.nD Cert.FinalRefIdeal.τ).loc Cert.FinalRefIdeal.main_arg4) = m ((c.tc : Thread Cert.FinalIdeal.nD Cert.FinalIdeal.τ).loc Cert.FinalIdeal.main_arg4)
      ∧ m' ((c.tc : Thread Cert.FinalRefIdeal.nD Cert.FinalRefIdeal.τ).loc Cert.FinalRefIdeal.main_arg5) = m ((c.tc : Thread Cert.FinalIdeal.nD Cert.FinalIdeal.τ).loc Cert.FinalIdeal.main_arg5)) →
    ∃ (v0 : (c : Dev Cert.FinalIdeal.nD) → Buf (Elt Ideal) ((c.tc : Thread Cert.FinalIdeal.nD Cert.FinalIdeal.τ).loc Cert.FinalIdeal.main_v3)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v3) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
          ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v27) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3)
          ∧ r.2.mem ((c.tc : Thread Cert.FinalRefIdeal.nD Cert.FinalRefIdeal.τ).loc Cert.FinalRefIdeal.main_arg4) = m' ((c.tc : Thread Cert.FinalRefIdeal.nD Cert.FinalRefIdeal.τ).loc Cert.FinalRefIdeal.main_arg4)
          ∧ r.2.mem ((c.tc : Thread Cert.FinalRefIdeal.nD Cert.FinalRefIdeal.τ).loc Cert.FinalRefIdeal.main_arg5) = m' ((c.tc : Thread Cert.FinalRefIdeal.nD Cert.FinalRefIdeal.τ).loc Cert.FinalRefIdeal.main_arg5))

def Claim : Prop :=
  ∃ (hGate : Cert.Gate.Facts) (hGateIdeal : Cert.GateIdeal.Facts) (hGateRefIdeal : Cert.GateRefIdeal.Facts) (hDense : Cert.Dense.Facts) (hDenseIdeal : Cert.DenseIdeal.Facts) (hDenseRefIdeal : Cert.DenseRefIdeal.Facts) (hPrep : Cert.Prep.Facts) (hPrepIdeal : Cert.PrepIdeal.Facts) (hPrepRefIdeal : Cert.PrepRefIdeal.Facts) (hFinal : Cert.Final.Facts) (hFinalIdeal : Cert.FinalIdeal.Facts) (hFinalRefIdeal : Cert.FinalRefIdeal.Facts) (hPre_in_range : Cert.Pre_in_range.Facts) (hPre_below_one : Cert.Pre_below_one.Facts),
    quiescent_Gate (hGate := hGate) (hPre_in_range := hPre_in_range)
    ∧ quiescent_GateIdeal (hGateIdeal := hGateIdeal) (hPre_in_range := hPre_in_range)
    ∧ quiescent_GateRefIdeal (hGateRefIdeal := hGateRefIdeal) (hPre_in_range := hPre_in_range)
    ∧ quiescent_Dense (hDense := hDense)
    ∧ quiescent_DenseIdeal (hDenseIdeal := hDenseIdeal)
    ∧ quiescent_DenseRefIdeal (hDenseRefIdeal := hDenseRefIdeal)
    ∧ quiescent_Prep (hPrep := hPrep)
    ∧ quiescent_PrepIdeal (hPrepIdeal := hPrepIdeal)
    ∧ quiescent_PrepRefIdeal (hPrepRefIdeal := hPrepRefIdeal)
    ∧ quiescent_Final (hFinal := hFinal)
    ∧ quiescent_FinalIdeal (hFinalIdeal := hFinalIdeal)
    ∧ quiescent_FinalIdeal_pre_below_one (hFinalIdeal := hFinalIdeal) (hPre_below_one := hPre_below_one)
    ∧ quiescent_FinalRefIdeal (hFinalRefIdeal := hFinalRefIdeal)
    ∧ quiescent_FinalRefIdeal_pre_below_one (hFinalRefIdeal := hFinalRefIdeal) (hPre_below_one := hPre_below_one)
    ∧ preserves_Gate_GateIdeal
    ∧ algebraic_GateIdeal_GateRefIdeal (hGateIdeal := hGateIdeal) (hGateRefIdeal := hGateRefIdeal) (hPre_in_range := hPre_in_range)
    ∧ preserves_Dense_DenseIdeal
    ∧ algebraic_DenseIdeal_DenseRefIdeal (hDenseIdeal := hDenseIdeal) (hDenseRefIdeal := hDenseRefIdeal)
    ∧ preserves_Prep_PrepIdeal
    ∧ algebraic_PrepIdeal_PrepRefIdeal (hPrepIdeal := hPrepIdeal) (hPrepRefIdeal := hPrepRefIdeal)
    ∧ preserves_Final_FinalIdeal
    ∧ algebraic_FinalIdeal_FinalRefIdeal_pre_below_one (hFinalIdeal := hFinalIdeal) (hFinalRefIdeal := hFinalRefIdeal) (hPre_below_one := hPre_below_one)
-- ==== Pre_below_one.lean ====
abbrev S128x16 : Shape := ⟨2, ![128, 16]⟩
abbrev S512x3 : Shape := ⟨2, ![512, 3]⟩
abbrev S512x128 : Shape := ⟨2, ![512, 128]⟩
abbrev S1x64x128 : Shape := ⟨3, ![1, 64, 128]⟩
abbrev S128 : Shape := ⟨1, ![128]⟩
abbrev S128x4 : Shape := ⟨2, ![128, 4]⟩
abbrev S512x1 : Shape := ⟨2, ![512, 1]⟩
abbrev S512 : Shape := ⟨1, ![512]⟩
abbrev S_ : Shape := ⟨0, ![]⟩

class Facts : Prop where
  slices_S128x16_S128x4_0_0 : S128x16.Slices ![0, 0] S128x4
  slices_S512x3_S512x1_0_0 : S512x3.Slices ![0, 0] S512x1
  shapeCasts_S512x1_S512 : S512x1.ShapeCasts S512
  slices_S512x3_S512x1_0_1 : S512x3.Slices ![0, 1] S512x1
  slices_S512x3_S512x1_0_2 : S512x3.Slices ![0, 2] S512x1
  bcast_S_S128x4 : S_.BroadcastsInDim S128x4 (![] : Fin 0 → Fin S128x4.rank)
  reducesTo_S128x4_S_d0_1 : S128x4.ReducesTo [0, 1] S_
  h_S_ : 0 < S_.numel
  reducesTo_S512_S_d0 : S512.ReducesTo [0] S_

variable [Facts]

def fn_part1 {F : FTy → Type} [FloatOps F] (main_v14 : IVec S_ 1) (main_v19 : IVec S512 1) : IVec S_ 1 :=
  let main_c_2 : IVec S_ 1 := constantI S_ 1 1#1
  let main_v20 : IVec S_ 1 := (fun x v => Host.reduce IntOp.andi x v reducesTo_S512_S_d0 h_S_) main_v19 main_c_2
  let main_v21 : IVec S_ 1 := andi main_v14 main_v20
  main_v21

def fn {F : FTy → Type} [FloatOps F] (main_arg0 : FVec F S128x16 .f32) (main_arg1 : IVec S512x3 32) (main_arg2 : FVec F S512x128 .f32) (main_arg3 : FVec F S1x64x128 .f32) (main_arg4 : FVec F S128 .f32) (main_arg5 : FVec F S128 .f32) : IVec S_ 1 :=
  let main_v0 : FVec F S128x4 .f32 := (extractStridedSlice S128x4 ![0, 0] · slices_S128x16_S128x4_0_0) main_arg0
  let main_v1 : IVec S512x1 32 := (extractStridedSlice S512x1 ![0, 0] · slices_S512x3_S512x1_0_0) main_arg1
  let main_v2 : IVec S512 32 := shapeCast S512 main_v1 shapeCasts_S512x1_S512
  let main_v3 : IVec S512x1 32 := (extractStridedSlice S512x1 ![0, 1] · slices_S512x3_S512x1_0_1) main_arg1
  let main_v4 : IVec S512 32 := shapeCast S512 main_v3 shapeCasts_S512x1_S512
  let main_v5 : IVec S512x1 32 := (extractStridedSlice S512x1 ![0, 2] · slices_S512x3_S512x1_0_2) main_arg1
  let main_v6 : IVec S512 32 := shapeCast S512 main_v5 shapeCasts_S512x1_S512
  let main_cst : FVec F S_ .f32 := constant S_ .f32 0x00000000#32
  let main_v7 : FVec F S128x4 .f32 := broadcastInDim S128x4 ![] bcast_S_S128x4 main_cst
  let main_v8 : IVec S128x4 1 := cmpf .oge main_v0 main_v7
  let main_cst_0 : FVec F S_ .f32 := constant S_ .f32 0x3F800000#32
  let main_v9 : FVec F S128x4 .f32 := broadcastInDim S128x4 ![] bcast_S_S128x4 main_cst_0
  let main_v10 : FVec F S128x4 .f32 := subf main_v9 main_v0
  let main_cst_1 : FVec F S_ .f32 := constant S_ .f32 0x0DA24260#32
  let main_v11 : FVec F S128x4 .f32 := broadcastInDim S128x4 ![] bcast_S_S128x4 main_cst_1
  let main_v12 : IVec S128x4 1 := cmpf .oge main_v10 main_v11
  let main_v13 : IVec S128x4 1 := andi main_v8 main_v12
  let main_c : IVec S_ 1 := constantI S_ 1 1#1
  let main_v14 : IVec S_ 1 := (fun x v => Host.reduce IntOp.andi x v reducesTo_S128x4_S_d0_1 h_S_) main_v13 main_c
  let main_v15 : IVec S512 1 := cmpi .ne main_v2 main_v4
  let main_v16 : IVec S512 1 := cmpi .ne main_v2 main_v6
  let main_v17 : IVec S512 1 := andi main_v15 main_v16
  let main_v18 : IVec S512 1 := cmpi .ne main_v4 main_v6
  let main_v19 : IVec S512 1 := andi main_v17 main_v18
  fn_part1 (F := F) main_v14 main_v19
-- ==== Pre_in_range.lean ====
abbrev S512x3 : Shape := ⟨2, ![512, 3]⟩
abbrev S512x2 : Shape := ⟨2, ![512, 2]⟩
abbrev S64x1 : Shape := ⟨2, ![64, 1]⟩
abbrev S_ : Shape := ⟨0, ![]⟩

class Facts : Prop where
  bcast_S_S512x3 : S_.BroadcastsInDim S512x3 (![] : Fin 0 → Fin S512x3.rank)
  reducesTo_S512x3_S_d0_1 : S512x3.ReducesTo [0, 1] S_
  h_S_ : 0 < S_.numel

variable [Facts]

def fn {F : FTy → Type} [FloatOps F] (main_arg0 : IVec S512x3 32) (main_arg1 : FVec F S512x2 .f32) (main_arg2 : FVec F S64x1 .f32) : IVec S_ 1 :=
  let main_c : IVec S_ 32 := constantI S_ 32 0#32
  let main_v0 : IVec S512x3 32 := broadcastInDim S512x3 ![] bcast_S_S512x3 main_c
  let main_v1 : IVec S512x3 1 := cmpi .sge main_arg0 main_v0
  let main_c_0 : IVec S_ 32 := constantI S_ 32 64#32
  let main_v2 : IVec S512x3 32 := broadcastInDim S512x3 ![] bcast_S_S512x3 main_c_0
  let main_v3 : IVec S512x3 1 := cmpi .slt main_arg0 main_v2
  let main_v4 : IVec S512x3 1 := andi main_v1 main_v3
  let main_c_1 : IVec S_ 1 := constantI S_ 1 1#1
  let main_v5 : IVec S_ 1 := (fun x v => Host.reduce IntOp.andi x v reducesTo_S512x3_S_d0_1 h_S_) main_v4 main_c_1
  main_v5
-- ==== Gate.lean ====
abbrev S512x3 : Shape := ⟨2, ![512, 3]⟩
abbrev S512x2 : Shape := ⟨2, ![512, 2]⟩
abbrev S64x1 : Shape := ⟨2, ![64, 1]⟩
abbrev S4x128x3 : Shape := ⟨3, ![4, 128, 3]⟩
abbrev S128x3x4 : Shape := ⟨3, ![128, 3, 4]⟩
abbrev S4 : Shape := ⟨1, ![4]⟩
abbrev S_ : Shape := ⟨0, ![]⟩
abbrev S1x1x4 : Shape := ⟨3, ![1, 1, 4]⟩
abbrev S128x3x16 : Shape := ⟨3, ![128, 3, 16]⟩
abbrev S4x128x2 : Shape := ⟨3, ![4, 128, 2]⟩
abbrev S4x128x1 : Shape := ⟨3, ![4, 128, 1]⟩
abbrev S4x128 : Shape := ⟨2, ![4, 128]⟩
abbrev S128x4 : Shape := ⟨2, ![128, 4]⟩
abbrev S128x16 : Shape := ⟨2, ![128, 16]⟩
abbrev S64 : Shape := ⟨1, ![64]⟩
abbrev S1x64 : Shape := ⟨2, ![1, 64]⟩
abbrev S4x64 : Shape := ⟨2, ![4, 64]⟩
abbrev S256 : Shape := ⟨1, ![256]⟩
abbrev S16 : Shape := ⟨1, ![16]⟩
abbrev S1x1x16 : Shape := ⟨3, ![1, 1, 16]⟩
abbrev S1x16 : Shape := ⟨2, ![1, 16]⟩

abbrev nBuf : Table → Nat
  | .hbm => 34
  | .local .scVector .vmem => 5
  | _ => 0

abbrev bufTy : (tb : Table) → Fin (nBuf tb) → BufTy
  | .hbm, ⟨0, _⟩ => ⟨S512x3, .i32⟩
  | .hbm, ⟨1, _⟩ => ⟨S512x2, .f32⟩
  | .hbm, ⟨2, _⟩ => ⟨S64x1, .f32⟩
  | .hbm, ⟨3, _⟩ => ⟨S4x128x3, .i32⟩
  | .hbm, ⟨4, _⟩ => ⟨S128x3x4, .i32⟩
  | .hbm, ⟨5, _⟩ => ⟨S4, .i32⟩
  | .hbm, ⟨6, _⟩ => ⟨S_, .i32⟩
  | .hbm, ⟨7, _⟩ => ⟨S4, .i32⟩
  | .hbm, ⟨8, _⟩ => ⟨S4, .i32⟩
  | .hbm, ⟨9, _⟩ => ⟨S1x1x4, .i32⟩
  | .hbm, ⟨10, _⟩ => ⟨S128x3x4, .i32⟩
  | .hbm, ⟨11, _⟩ => ⟨S128x3x4, .i32⟩
  | .hbm, ⟨12, _⟩ => ⟨S_, .i32⟩
  | .hbm, ⟨13, _⟩ => ⟨S_, .i32⟩
  | .hbm, ⟨14, _⟩ => ⟨S128x3x16, .i32⟩
  | .hbm, ⟨15, _⟩ => ⟨S4x128x2, .f32⟩
  | .hbm, ⟨16, _⟩ => ⟨S4x128x1, .f32⟩
  | .hbm, ⟨17, _⟩ => ⟨S4x128, .f32⟩
  | .hbm, ⟨18, _⟩ => ⟨S128x4, .f32⟩
  | .hbm, ⟨19, _⟩ => ⟨S_, .i32⟩
  | .hbm, ⟨20, _⟩ => ⟨S_, .f32⟩
  | .hbm, ⟨21, _⟩ => ⟨S128x16, .f32⟩
  | .hbm, ⟨22, _⟩ => ⟨S4x128x1, .f32⟩
  | .hbm, ⟨23, _⟩ => ⟨S4x128, .f32⟩
  | .hbm, ⟨24, _⟩ => ⟨S128x4, .f32⟩
  | .hbm, ⟨25, _⟩ => ⟨S_, .i32⟩
  | .hbm, ⟨26, _⟩ => ⟨S_, .f32⟩
  | .hbm, ⟨27, _⟩ => ⟨S128x16, .f32⟩
  | .hbm, ⟨28, _⟩ => ⟨S64, .f32⟩
  | .hbm, ⟨29, _⟩ => ⟨S1x64, .f32⟩
  | .hbm, ⟨30, _⟩ => ⟨S4x64, .f32⟩
  | .hbm, ⟨31, _⟩ => ⟨S256, .f32⟩
  | .hbm, ⟨32, _⟩ => ⟨S128x16, .f32⟩
  | .hbm, ⟨33, _⟩ => ⟨S128x4, .f32⟩
  | .local .scVector .vmem, ⟨0, _⟩ => ⟨S256, .f32⟩
  | .local .scVector .vmem, ⟨1, _⟩ => ⟨S128x3x16, .i32⟩
  | .local .scVector .vmem, ⟨2, _⟩ => ⟨S128x16, .f32⟩
  | .local .scVector .vmem, ⟨3, _⟩ => ⟨S128x16, .f32⟩
  | .local .scVector .vmem, ⟨4, _⟩ => ⟨S128x16, .f32⟩
  | _, _ => ⟨S512x3, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_call1_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_call2_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v21_scv : Ref sig .scVector := ⟨.hbm, 31, rfl⟩
abbrev main_v8_scv : Ref sig .scVector := ⟨.hbm, 14, rfl⟩
abbrev main_v13_scv : Ref sig .scVector := ⟨.hbm, 21, rfl⟩
abbrev main_v17_scv : Ref sig .scVector := ⟨.hbm, 27, rfl⟩
abbrev main_v22_scv : Ref sig .scVector := ⟨.hbm, 32, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_3 : BitVec 32 := 0#32
  let c128_i32 : BitVec 32 := 128#32
  let v8 : BitVec 32 := Scalar.addi c0_i32_3 c128_i32
  let c1_i32 : BitVec 32 := 1#32
  ⟨c0_i32_3, v8, c1_i32⟩
def k0_off1 (k0_t1 : Fin k0_t1_loop.trips) : Fin 3 → Nat :=
  let c0_i32_3 : BitVec 32 := 0#32
  let c1_i32 : BitVec 32 := 1#32
  let arg12 : BitVec 32 := Scf.iv c0_i32_3 c1_i32 k0_t1
  let v9 : Index := Scalar.indexCast arg12
  let c0_i32_5 : BitVec 32 := 0#32
  let v10 : Index := Scalar.indexCast c0_i32_5
  let c0 : Index := 0#32
  ![v9.toNat, 0, 0]
def k0_off2 (k0_t1 : Fin k0_t1_loop.trips) : Fin 3 → Nat :=
  let c0_i32_3 : BitVec 32 := 0#32
  let c1_i32 : BitVec 32 := 1#32
  let arg12 : BitVec 32 := Scf.iv c0_i32_3 c1_i32 k0_t1
  let v12 : Index := Scalar.indexCast arg12
  let c1_i32_6 : BitVec 32 := 1#32
  let v13 : Index := Scalar.indexCast c1_i32_6
  let c0_7 : Index := 0#32
  ![v12.toNat, 1, 0]
def k0_off3 (k0_t1 : Fin k0_t1_loop.trips) : Fin 3 → Nat :=
  let c0_i32_3 : BitVec 32 := 0#32
  let c1_i32 : BitVec 32 := 1#32
  let arg12 : BitVec 32 := Scf.iv c0_i32_3 c1_i32 k0_t1
  let v15 : Index := Scalar.indexCast arg12
  let c2_i32 : BitVec 32 := 2#32
  let v16 : Index := Scalar.indexCast c2_i32
  let c0_8 : Index := 0#32
  ![v15.toNat, 2, 0]
def k0_off4 (k0_t1 : Fin k0_t1_loop.trips) : Fin 2 → Nat :=
  let c0_i32_3 : BitVec 32 := 0#32
  let c1_i32 : BitVec 32 := 1#32
  let arg12 : BitVec 32 := Scf.iv c0_i32_3 c1_i32 k0_t1
  let v25 : Index := Scalar.indexCast arg12
  let c0_9 : Index := 0#32
  ![v25.toNat, 0]

def k0_chk1 (i : grid0.Coords) (v11 : IVec S16 32) : Prop :=
  (∀ (k0_h1 : k0_cond1 i = 1#1), ∀ a x, ((![v11] : Fin 1 → IVec S16 32) a x).toNat < S256.size a) ∧
  (∀ (k0_h1 : k0_cond1 i = 1#1), ∀ a x, ((![v11] : Fin 1 → IVec S16 32) a x).toNat < S256.size a)
theorem k0_idx1_inb : ∀ (i : grid0.Coords) (v11 : IVec S16 32) (k0_hw1 : k0_chk1 i v11), ∀ (k0_h1 : k0_cond1 i = 1#1), ∀ a x, ((![v11] : Fin 1 → IVec S16 32) a x).toNat < S256.size a := fun i v11 k0_hw1 k0_h1 => k0_hw1.1 k0_h1
theorem k0_idx4_inb : ∀ (i : grid0.Coords) (v11 : IVec S16 32) (k0_hw1 : k0_chk1 i v11), ∀ (k0_h1 : k0_cond1 i = 1#1), ∀ a x, ((![v11] : Fin 1 → IVec S16 32) a x).toNat < S256.size a := fun i v11 k0_hw1 k0_h1 => k0_hw1.2 k0_h1

def k0_chk2 (i : grid0.Coords) (v14 : IVec S16 32) : Prop :=
  (∀ (k0_h1 : k0_cond1 i = 1#1), ∀ a x, ((![v14] : Fin 1 → IVec S16 32) a x).toNat < S256.size a) ∧
  (∀ (k0_h1 : k0_cond1 i = 1#1), ∀ a x, ((![v14] : Fin 1 → IVec S16 32) a x).toNat < S256.size a)
theorem k0_idx2_inb : ∀ (i : grid0.Coords) (v14 : IVec S16 32) (k0_hw2 : k0_chk2 i v14), ∀ (k0_h1 : k0_cond1 i = 1#1), ∀ a x, ((![v14] : Fin 1 → IVec S16 32) a x).toNat < S256.size a := fun i v14 k0_hw2 k0_h1 => k0_hw2.1 k0_h1
theorem k0_idx5_inb : ∀ (i : grid0.Coords) (v14 : IVec S16 32) (k0_hw2 : k0_chk2 i v14), ∀ (k0_h1 : k0_cond1 i = 1#1), ∀ a x, ((![v14] : Fin 1 → IVec S16 32) a x).toNat < S256.size a := fun i v14 k0_hw2 k0_h1 => k0_hw2.2 k0_h1

def k0_chk3 (i : grid0.Coords) (v17 : IVec S16 32) : Prop :=
  (∀ (k0_h1 : k0_cond1 i = 1#1), ∀ a x, ((![v17] : Fin 1 → IVec S16 32) a x).toNat < S256.size a) ∧
  (∀ (k0_h1 : k0_cond1 i = 1#1), ∀ a x, ((![v17] : Fin 1 → IVec S16 32) a x).toNat < S256.size a)
theorem k0_idx3_inb : ∀ (i : grid0.Coords) (v17 : IVec S16 32) (k0_hw3 : k0_chk3 i v17), ∀ (k0_h1 : k0_cond1 i = 1#1), ∀ a x, ((![v17] : Fin 1 → IVec S16 32) a x).toNat < S256.size a := fun i v17 k0_hw3 k0_h1 => k0_hw3.1 k0_h1
theorem k0_idx6_inb : ∀ (i : grid0.Coords) (v17 : IVec S16 32) (k0_hw3 : k0_chk3 i v17), ∀ (k0_h1 : k0_cond1 i = 1#1), ∀ a x, ((![v17] : Fin 1 → IVec S16 32) a x).toNat < S256.size a := fun i v17 k0_hw3 k0_h1 => k0_hw3.2 k0_h1
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== GateIdeal.lean ====
variable {F : FTy → Type} [FloatOps F] [Named F]
def κ : String → Option EReal := fun
  | "third" => some ((3⁻¹ : ℝ) : EReal)
  | _ => none
-- ==== GateRefIdeal.lean ====
abbrev S512x3 : Shape := ⟨2, ![512, 3]⟩
abbrev S512x2 : Shape := ⟨2, ![512, 2]⟩
abbrev S64x1 : Shape := ⟨2, ![64, 1]⟩
abbrev S4x128x3 : Shape := ⟨3, ![4, 128, 3]⟩
abbrev S512x1 : Shape := ⟨2, ![512, 1]⟩
abbrev S512 : Shape := ⟨1, ![512]⟩
abbrev S4x128 : Shape := ⟨2, ![4, 128]⟩
abbrev S64 : Shape := ⟨1, ![64]⟩
abbrev S4x64 : Shape := ⟨2, ![4, 64]⟩
abbrev S_ : Shape := ⟨0, ![]⟩
abbrev S128x4 : Shape := ⟨2, ![128, 4]⟩
abbrev S4x1x3 : Shape := ⟨3, ![4, 1, 3]⟩
abbrev S4x3 : Shape := ⟨2, ![4, 3]⟩
abbrev S4x3x1 : Shape := ⟨3, ![4, 3, 1]⟩
abbrev S1 : Shape := ⟨1, ![1]⟩
abbrev S1x1x1 : Shape := ⟨3, ![1, 1, 1]⟩
abbrev S4x1 : Shape := ⟨2, ![4, 1]⟩
abbrev S4 : Shape := ⟨1, ![4]⟩
abbrev S1x1x64 : Shape := ⟨3, ![1, 1, 64]⟩
abbrev S4x3x64 : Shape := ⟨3, ![4, 3, 64]⟩
abbrev S1x4 : Shape := ⟨2, ![1, 4]⟩

abbrev nBuf : Space → Nat
  | .hbm => 121
  | .vmem => 0
  | .smem => 0
  | _ => 0

abbrev bufTy : (tb : Table) → Fin (tcTables nBuf tb) → BufTy
  | .hbm, ⟨0, _⟩ => ⟨S512x3, .i32⟩
  | .hbm, ⟨1, _⟩ => ⟨S512x2, .f32⟩
  | .hbm, ⟨2, _⟩ => ⟨S64x1, .f32⟩
  | .hbm, ⟨3, _⟩ => ⟨S4x128x3, .i32⟩
  | .hbm, ⟨4, _⟩ => ⟨S512x1, .f32⟩
  | .hbm, ⟨5, _⟩ => ⟨S512, .f32⟩
  | .hbm, ⟨6, _⟩ => ⟨S4x128, .f32⟩
  | .hbm, ⟨7, _⟩ => ⟨S512x1, .f32⟩
  | .hbm, ⟨8, _⟩ => ⟨S512, .f32⟩
  | .hbm, ⟨9, _⟩ => ⟨S4x128, .f32⟩
  | .hbm, ⟨10, _⟩ => ⟨S64, .f32⟩
  | .hbm, ⟨11, _⟩ => ⟨S4x64, .f32⟩
  | .hbm, ⟨12, _⟩ => ⟨S_, .f32⟩
  | .hbm, ⟨13, _⟩ => ⟨S128x4, .f32⟩
  | .hbm, ⟨14, _⟩ => ⟨S_, .i32⟩
  | .hbm, ⟨15, _⟩ => ⟨S_, .i32⟩
  | .hbm, ⟨16, _⟩ => ⟨S4x128x3, .i32⟩
  | .hbm, ⟨17, _⟩ => ⟨S4x128, .f32⟩
  | .hbm, ⟨18, _⟩ => ⟨S4x128, .f32⟩
  | .hbm, ⟨19, _⟩ => ⟨S_, .i32⟩
  | .hbm, ⟨20, _⟩ => ⟨S_, .i32⟩
  | .hbm, ⟨21, _⟩ => ⟨S4x64, .f32⟩
  | .hbm, ⟨22, _⟩ => ⟨S128x4, .f32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S4x1x3, .i32⟩
  | .hbm, ⟨36, _⟩ => ⟨S4x3, .i32⟩
  | .hbm, ⟨37, _⟩ => ⟨S_, .i32⟩
  | .hbm, ⟨38, _⟩ => ⟨S4x3, .i32⟩
  | .hbm, ⟨39, _⟩ => ⟨S4x3, .i1⟩
  | .hbm, ⟨40, _⟩ => ⟨S_, .i32⟩
  | .hbm, ⟨41, _⟩ => ⟨S4x3, .i32⟩
  | .hbm, ⟨42, _⟩ => ⟨S4x3, .i32⟩
  | .hbm, ⟨43, _⟩ => ⟨S4x3, .i32⟩
  | .hbm, ⟨44, _⟩ => ⟨S4x3x1, .i32⟩
  | .hbm, ⟨45, _⟩ => ⟨S1, .i32⟩
  | .hbm, ⟨46, _⟩ => ⟨S_, .i32⟩
  | .hbm, ⟨47, _⟩ => ⟨S4x3x1, .i32⟩
  | .hbm, ⟨48, _⟩ => ⟨S4x3x1, .i1⟩
  | .hbm, ⟨49, _⟩ => ⟨S1x1x1, .i32⟩
  | .hbm, ⟨50, _⟩ => ⟨S4x3x1, .i32⟩
  | .hbm, ⟨51, _⟩ => ⟨S4x3x1, .i1⟩
  | .hbm, ⟨52, _⟩ => ⟨S4x3x1, .i1⟩
  | .hbm, ⟨53, _⟩ => ⟨S_, .i1⟩
  | .hbm, ⟨54, _⟩ => ⟨S4x3, .i1⟩
  | .hbm, ⟨55, _⟩ => ⟨S4x3, .f32⟩
  | .hbm, ⟨56, _⟩ => ⟨S_, .f32⟩
  | .hbm, ⟨57, _⟩ => ⟨S4x3, .f32⟩
  | .hbm, ⟨58, _⟩ => ⟨S4x3, .f32⟩
  | .hbm, ⟨59, _⟩ => ⟨S_, .i32⟩
  | .hbm, ⟨60, _⟩ => ⟨S_, .i1⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S4x1, .f32⟩
  | .hbm, ⟨67, _⟩ => ⟨S4, .f32⟩
  | .hbm, ⟨68, _⟩ => ⟨S_, .i32⟩
  | .hbm, ⟨69, _⟩ => ⟨S_, .i1⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S4x1, .f32⟩
  | .hbm, ⟨76, _⟩ => ⟨S4, .f32⟩
  | .hbm, ⟨77, _⟩ => ⟨S_, .f32⟩
  | .hbm, ⟨78, _⟩ => ⟨S4, .f32⟩
  | .hbm, ⟨79, _⟩ => ⟨S_, .f32⟩
  | .hbm, ⟨80, _⟩ => ⟨S4, .f32⟩
  | .hbm, ⟨81, _⟩ => ⟨S4, .f32⟩
  | .hbm, ⟨82, _⟩ => ⟨S4, .f32⟩
  | .hbm, ⟨83, _⟩ => ⟨S4, .f32⟩
  | .hbm, ⟨84, _⟩ => ⟨S4, .f32⟩
  | .hbm, ⟨85, _⟩ => ⟨S_, .f32⟩
  | .hbm, ⟨86, _⟩ => ⟨S4, .f32⟩
  | .hbm, ⟨87, _⟩ => ⟨S4, .f32⟩
  | .hbm, ⟨88, _⟩ => ⟨S_, .f32⟩
  | .hbm, ⟨89, _⟩ => ⟨S4, .f32⟩
  | .hbm, ⟨90, _⟩ => ⟨S4, .f32⟩
  | .hbm, ⟨91, _⟩ => ⟨S4x3x1, .i32⟩
  | .hbm, ⟨92, _⟩ => ⟨S64, .i32⟩
  | .hbm, ⟨93, _⟩ => ⟨S1x1x64, .i32⟩
  | .hbm, ⟨94, _⟩ => ⟨S4x3x64, .i32⟩
  | .hbm, ⟨95, _⟩ => ⟨S4x3x64, .i32⟩
  | .hbm, ⟨96, _⟩ => ⟨S4x3x64, .i1⟩
  | .hbm, ⟨97, _⟩ => ⟨S_, .i1⟩
  | .hbm, ⟨98, _⟩ => ⟨S4x64, .i1⟩
  | .hbm, ⟨99, _⟩ => ⟨S_, .f32⟩
  | .hbm, ⟨100, _⟩ => ⟨S4, .f32⟩
  | .hbm, ⟨101, _⟩ => ⟨S4, .f32⟩
  | .hbm, ⟨102, _⟩ => ⟨S4x1, .f32⟩
  | .hbm, ⟨103, _⟩ => ⟨S4x64, .f32⟩
  | .hbm, ⟨104, _⟩ => ⟨S4x64, .f32⟩
  | .hbm, ⟨105, _⟩ => ⟨S4, .f32⟩
  | .hbm, ⟨106, _⟩ => ⟨S4x1, .f32⟩
  | .hbm, ⟨107, _⟩ => ⟨S4x64, .f32⟩
  | .hbm, ⟨108, _⟩ => ⟨S4x64, .f32⟩
  | .hbm, ⟨109, _⟩ => ⟨S4x64, .f32⟩
  | .hbm, ⟨110, _⟩ => ⟨S1x4, .f32⟩
  | .hbm, ⟨111, _⟩ => ⟨S_, .i32⟩
  | .hbm, ⟨112, _⟩ => ⟨S_, .i1⟩
  | .hbm, ⟨113, _⟩ => ⟨S_, .i32⟩
  | .hbm, ⟨114, _⟩ => ⟨S_, .i32⟩
  | .hbm, ⟨115, _⟩ => ⟨S_, .i32⟩
  | .hbm, ⟨116, _⟩ => ⟨S_, .i32⟩
  | .hbm, ⟨117, _⟩ => ⟨S_, .i32⟩
  | .hbm, ⟨118, _⟩ => ⟨S128x4, .f32⟩
  | .hbm, ⟨119, _⟩ => ⟨S_, .i32⟩
  | .hbm, ⟨120, _⟩ => ⟨S_, .i32⟩
  | _, _ => ⟨S512x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_c : Ref sig .tc := ⟨.hbm, 14, rfl⟩
abbrev main_c_0 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev main_v10_4 : Ref sig .tc := ⟨.hbm, 20, rfl⟩
abbrev main_v10_5 : Ref sig .tc := ⟨.hbm, 21, rfl⟩
abbrev main_v10_6 : Ref sig .tc := ⟨.hbm, 22, rfl⟩
abbrev main_while0c_c_7 : Ref sig .tc := ⟨.hbm, 23, rfl⟩
abbrev main_while0c_v11 : Ref sig .tc := ⟨.hbm, 24, rfl⟩
abbrev main_while0b_c_7 : Ref sig .tc := ⟨.hbm, 25, rfl⟩
abbrev main_while0b_v11 : Ref sig .tc := ⟨.hbm, 26, rfl⟩
abbrev main_while0b_call0_c : Ref sig .tc := ⟨.hbm, 27, rfl⟩
abbrev main_while0b_call0_v0 : Ref sig .tc := ⟨.hbm, 28, rfl⟩
abbrev main_while0b_call0_v1 : Ref sig .tc := ⟨.hbm, 29, rfl⟩
abbrev main_while0b_call0_c_0 : Ref sig .tc := ⟨.hbm, 30, rfl⟩
abbrev main_while0b_call0_v2 : Ref sig .tc := ⟨.hbm, 31, rfl⟩
abbrev main_while0b_call0_v3 : Ref sig .tc := ⟨.hbm, 32, rfl⟩
abbrev main_while0b_call0_c_1 : Ref sig .tc := ⟨.hbm, 33, rfl⟩
abbrev main_while0b_call0_c_2 : Ref sig .tc := ⟨.hbm, 34, rfl⟩
abbrev main_while0b_call0_v4 : Ref sig .tc := ⟨.hbm, 35, rfl⟩
abbrev main_while0b_v12 : Ref sig .tc := ⟨.hbm, 36, rfl⟩
abbrev main_while0b_call1_c : Ref sig .tc := ⟨.hbm, 37, rfl⟩
abbrev main_while0b_call1_v0 : Ref sig .tc := ⟨.hbm, 38, rfl⟩
abbrev main_while0b_call1_v1 : Ref sig .tc := ⟨.hbm, 39, rfl⟩
abbrev main_while0b_call1_c_0 : Ref sig .tc := ⟨.hbm, 40, rfl⟩
abbrev main_while0b_call1_v2 : Ref sig .tc := ⟨.hbm, 41, rfl⟩
abbrev main_while0b_call1_v3 : Ref sig .tc := ⟨.hbm, 42, rfl⟩
abbrev main_while0b_call1_v4 : Ref sig .tc := ⟨.hbm, 43, rfl⟩
abbrev main_while0b_call1_v5 : Ref sig .tc := ⟨.hbm, 44, rfl⟩
abbrev main_while0b_call1_c_1 : Ref sig .tc := ⟨.hbm, 45, rfl⟩
abbrev main_while0b_call1_c_2 : Ref sig .tc := ⟨.hbm, 46, rfl⟩
abbrev main_while0b_call1_v6 : Ref sig .tc := ⟨.hbm, 47, rfl⟩
abbrev main_while0b_call1_v7 : Ref sig .tc := ⟨.hbm, 48, rfl⟩
abbrev main_while0b_call1_v8 : Ref sig .tc := ⟨.hbm, 49, rfl⟩
abbrev main_while0b_call1_v9 : Ref sig .tc := ⟨.hbm, 50, rfl⟩
abbrev main_while0b_call1_v10 : Ref sig .tc := ⟨.hbm, 51, rfl⟩
abbrev main_while0b_call1_v11 : Ref sig .tc := ⟨.hbm, 52, rfl⟩
abbrev main_while0b_call1_c_3 : Ref sig .tc := ⟨.hbm, 53, rfl⟩
abbrev main_while0b_call1_v12 : Ref sig .tc := ⟨.hbm, 54, rfl⟩
abbrev main_while0b_call1_v13 : Ref sig .tc := ⟨.hbm, 55, rfl⟩
abbrev main_while0b_call1_cst : Ref sig .tc := ⟨.hbm, 56, rfl⟩
abbrev main_while0b_call1_v14 : Ref sig .tc := ⟨.hbm, 57, rfl⟩
abbrev main_while0b_v13 : Ref sig .tc := ⟨.hbm, 58, rfl⟩
abbrev main_while0b_call2_c : Ref sig .tc := ⟨.hbm, 59, rfl⟩
abbrev main_while0b_call2_v0 : Ref sig .tc := ⟨.hbm, 60, rfl⟩
abbrev main_while0b_call2_v1 : Ref sig .tc := ⟨.hbm, 61, rfl⟩
abbrev main_while0b_call2_c_0 : Ref sig .tc := ⟨.hbm, 62, rfl⟩
abbrev main_while0b_call2_v2 : Ref sig .tc := ⟨.hbm, 63, rfl⟩
abbrev main_while0b_call2_v3 : Ref sig .tc := ⟨.hbm, 64, rfl⟩
abbrev main_while0b_call2_c_1 : Ref sig .tc := ⟨.hbm, 65, rfl⟩
abbrev main_while0b_call2_v4 : Ref sig .tc := ⟨.hbm, 66, rfl⟩
abbrev main_while0b_v14 : Ref sig .tc := ⟨.hbm, 67, rfl⟩
abbrev main_while0b_call3_c : Ref sig .tc := ⟨.hbm, 68, rfl⟩
abbrev main_while0b_call3_v0 : Ref sig .tc := ⟨.hbm, 69, rfl⟩
abbrev main_while0b_call3_v1 : Ref sig .tc := ⟨.hbm, 70, rfl⟩
abbrev main_while0b_call3_c_0 : Ref sig .tc := ⟨.hbm, 71, rfl⟩
abbrev main_while0b_call3_v2 : Ref sig .tc := ⟨.hbm, 72, rfl⟩
abbrev main_while0b_call3_v3 : Ref sig .tc := ⟨.hbm, 73, rfl⟩
abbrev main_while0b_call3_c_1 : Ref sig .tc := ⟨.hbm, 74, rfl⟩
abbrev main_while0b_call3_v4 : Ref sig .tc := ⟨.hbm, 75, rfl⟩
abbrev main_while0b_v15 : Ref sig .tc := ⟨.hbm, 76, rfl⟩
abbrev main_while0b_cst_8 : Ref sig .tc := ⟨.hbm, 77, rfl⟩
abbrev main_while0b_v16 : Ref sig .tc := ⟨.hbm, 78, rfl⟩
abbrev main_while0b_cst_9 : Ref sig .tc := ⟨.hbm, 79, rfl⟩
abbrev main_while0b_v17 : Ref sig .tc := ⟨.hbm, 80, rfl⟩
abbrev main_while0b_v18 : Ref sig .tc := ⟨.hbm, 81, rfl⟩
abbrev main_while0b_v19 : Ref sig .tc := ⟨.hbm, 82, rfl⟩
abbrev main_while0b_v20 : Ref sig .tc := ⟨.hbm, 83, rfl⟩
abbrev main_while0b_v21 : Ref sig .tc := ⟨.hbm, 84, rfl⟩
abbrev main_while0b_cst_10 : Ref sig .tc := ⟨.hbm, 85, rfl⟩
abbrev main_while0b_v22 : Ref sig .tc := ⟨.hbm, 86, rfl⟩
abbrev main_while0b_v23 : Ref sig .tc := ⟨.hbm, 87, rfl⟩
abbrev main_while0b_cst_11 : Ref sig .tc := ⟨.hbm, 88, rfl⟩
abbrev main_while0b_v24 : Ref sig .tc := ⟨.hbm, 89, rfl⟩
abbrev main_while0b_v25 : Ref sig .tc := ⟨.hbm, 90, rfl⟩
abbrev main_while0b_v26 : Ref sig .tc := ⟨.hbm, 91, rfl⟩
abbrev main_while0b_v27 : Ref sig .tc := ⟨.hbm, 92, rfl⟩
abbrev main_while0b_v28 : Ref sig .tc := ⟨.hbm, 93, rfl⟩
abbrev main_while0b_v29 : Ref sig .tc := ⟨.hbm, 94, rfl⟩
abbrev main_while0b_v30 : Ref sig .tc := ⟨.hbm, 95, rfl⟩
abbrev main_while0b_v31 : Ref sig .tc := ⟨.hbm, 96, rfl⟩
abbrev main_while0b_c_12 : Ref sig .tc := ⟨.hbm, 97, rfl⟩
abbrev main_while0b_v32 : Ref sig .tc := ⟨.hbm, 98, rfl⟩
abbrev main_while0b_cst_13 : Ref sig .tc := ⟨.hbm, 99, rfl⟩
abbrev main_while0b_v33 : Ref sig .tc := ⟨.hbm, 100, rfl⟩
abbrev main_while0b_v34 : Ref sig .tc := ⟨.hbm, 101, rfl⟩
abbrev main_while0b_v35 : Ref sig .tc := ⟨.hbm, 102, rfl⟩
abbrev main_while0b_v36 : Ref sig .tc := ⟨.hbm, 103, rfl⟩
abbrev main_while0b_v37 : Ref sig .tc := ⟨.hbm, 104, rfl⟩
abbrev main_while0b_v38 : Ref sig .tc := ⟨.hbm, 105, rfl⟩
abbrev main_while0b_v39 : Ref sig .tc := ⟨.hbm, 106, rfl⟩
abbrev main_while0b_v40 : Ref sig .tc := ⟨.hbm, 107, rfl⟩
abbrev main_while0b_v41 : Ref sig .tc := ⟨.hbm, 108, rfl⟩
abbrev main_while0b_v42 : Ref sig .tc := ⟨.hbm, 109, rfl⟩
abbrev main_while0b_call5_v0 : Ref sig .tc := ⟨.hbm, 110, rfl⟩
abbrev main_while0b_call5_c : Ref sig .tc := ⟨.hbm, 111, rfl⟩
abbrev main_while0b_call5_v1 : Ref sig .tc := ⟨.hbm, 112, rfl⟩
abbrev main_while0b_call5_v2 : Ref sig .tc := ⟨.hbm, 113, rfl⟩
abbrev main_while0b_call5_c_0 : Ref sig .tc := ⟨.hbm, 114, rfl⟩
abbrev main_while0b_call5_v3 : Ref sig .tc := ⟨.hbm, 115, rfl⟩
abbrev main_while0b_call5_v4 : Ref sig .tc := ⟨.hbm, 116, rfl⟩
abbrev main_while0b_call5_c_1 : Ref sig .tc := ⟨.hbm, 117, rfl⟩
abbrev main_while0b_v43 : Ref sig .tc := ⟨.hbm, 118, rfl⟩
abbrev main_while0b_c_14 : Ref sig .tc := ⟨.hbm, 119, rfl⟩
abbrev main_while0b_v44 : Ref sig .tc := ⟨.hbm, 120, rfl⟩

abbrev nD : Nat := 1
abbrev τ : Topo := Topo.v7x

variable {F : FTy → Type} [FloatOps F]

abbrev main_while0_count : Scf.Loop 32 := ⟨0#32, 128#32, 1#32⟩
-- ==== Dense.lean ====
abbrev S4x2048x2048 : Shape := ⟨3, ![4, 2048, 2048]⟩
abbrev S1x64x128 : Shape := ⟨3, ![1, 64, 128]⟩
abbrev S2048x128 : Shape := ⟨2, ![2048, 128]⟩
abbrev S2048 : Shape := ⟨1, ![2048]⟩
abbrev S128x2048 : Shape := ⟨2, ![128, 2048]⟩
abbrev S64x128 : Shape := ⟨2, ![64, 128]⟩
abbrev S1x2048 : Shape := ⟨2, ![1, 2048]⟩
abbrev S4x128x128 : Shape := ⟨3, ![4, 128, 128]⟩
abbrev S1x512x2048 : Shape := ⟨3, ![1, 512, 2048]⟩
abbrev S1x32x128 : Shape := ⟨3, ![1, 32, 128]⟩
abbrev S512x2048 : Shape := ⟨2, ![512, 2048]⟩
abbrev S512 : Shape := ⟨1, ![512]⟩
abbrev S512x1 : Shape := ⟨2, ![512, 1]⟩
abbrev S512x128 : Shape := ⟨2, ![512, 128]⟩
abbrev S64x32 : Shape := ⟨2, ![64, 32]⟩
abbrev S512x32 : Shape := ⟨2, ![512, 32]⟩
abbrev S512x64 : Shape := ⟨2, ![512, 64]⟩
abbrev S32x512 : Shape := ⟨2, ![32, 512]⟩
abbrev S32x128 : Shape := ⟨2, ![32, 128]⟩

abbrev nBuf : Space → Nat
  | .hbm => 11
  | .vmem => 11
  | .smem => 0
  | _ => 0

abbrev bufTy : (tb : Table) → Fin (tcTables nBuf tb) → BufTy
  | .hbm, ⟨0, _⟩ => ⟨S4x2048x2048, .f32⟩
  | .hbm, ⟨1, _⟩ => ⟨S1x64x128, .f32⟩
  | .hbm, ⟨2, _⟩ => ⟨S2048x128, .f32⟩
  | .hbm, ⟨3, _⟩ => ⟨S2048, .f32⟩
  | .hbm, ⟨4, _⟩ => ⟨S2048, .f32⟩
  | .hbm, ⟨5, _⟩ => ⟨S128x2048, .f32⟩
  | .hbm, ⟨6, _⟩ => ⟨S64x128, .f32⟩
  | .hbm, ⟨7, _⟩ => ⟨S1x2048, .f32⟩
  | .hbm, ⟨8, _⟩ => ⟨S1x2048, .f32⟩
  | .hbm, ⟨9, _⟩ => ⟨S4x2048x2048, .f32⟩
  | .hbm, ⟨10, _⟩ => ⟨S4x128x128, .f32⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x2048, .f32⟩
  | .local _ .vmem, ⟨4, _⟩ => ⟨S2048x128, .f32⟩
  | .local _ .vmem, ⟨5, _⟩ => ⟨S64x128, .f32⟩
  | .local _ .vmem, ⟨6, _⟩ => ⟨S128x2048, .f32⟩
  | .local _ .vmem, ⟨7, _⟩ => ⟨S1x512x2048, .f32⟩
  | .local _ .vmem, ⟨8, _⟩ => ⟨S1x512x2048, .f32⟩
  | .local _ .vmem, ⟨9, _⟩ => ⟨S1x32x128, .f32⟩
  | .local _ .vmem, ⟨10, _⟩ => ⟨S1x32x128, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== DenseRefIdeal.lean ====
abbrev S4x2048x2048 : Shape := ⟨3, ![4, 2048, 2048]⟩
abbrev S1x64x128 : Shape := ⟨3, ![1, 64, 128]⟩
abbrev S2048x128 : Shape := ⟨2, ![2048, 128]⟩
abbrev S2048 : Shape := ⟨1, ![2048]⟩
abbrev S128x2048 : Shape := ⟨2, ![128, 2048]⟩
abbrev S4x64x128 : Shape := ⟨3, ![4, 64, 128]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x128 : Shape := ⟨3, ![4, 2048, 128]⟩
abbrev S4x2048x4x32 : Shape := ⟨4, ![4, 2048, 4, 32]⟩
abbrev S4x4x2048x32 : Shape := ⟨4, ![4, 4, 2048, 32]⟩
abbrev S4x64x4x32 : Shape := ⟨4, ![4, 64, 4, 32]⟩
abbrev S4x4x64x32 : Shape := ⟨4, ![4, 4, 64, 32]⟩
abbrev S4x4x32x64 : Shape := ⟨4, ![4, 4, 32, 64]⟩
abbrev S4x4x2048x64 : Shape := ⟨4, ![4, 4, 2048, 64]⟩
abbrev S4x4x2048 : Shape := ⟨3, ![4, 4, 2048]⟩
abbrev S4x4x2048x1 : Shape := ⟨4, ![4, 4, 2048, 1]⟩
abbrev S4x128x16x128 : Shape := ⟨4, ![4, 128, 16, 128]⟩
abbrev S4x128x128 : Shape := ⟨3, ![4, 128, 128]⟩

abbrev nBuf : Space → Nat
  | .hbm => 70
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x64x128, .f32⟩
  | .hbm, ⟨2, _⟩ => ⟨S2048x128, .f32⟩
  | .hbm, ⟨3, _⟩ => ⟨S2048, .f32⟩
  | .hbm, ⟨4, _⟩ => ⟨S2048, .f32⟩
  | .hbm, ⟨5, _⟩ => ⟨S128x2048, .f32⟩
  | .hbm, ⟨6, _⟩ => ⟨S4x64x128, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x2048, .f32⟩
  | .hbm, ⟨14, _⟩ => ⟨S4x2048x2048, .f32⟩
  | .hbm, ⟨15, _⟩ => ⟨S4x2048x2048, .f32⟩
  | .hbm, ⟨16, _⟩ => ⟨S_, .f32⟩
  | .hbm, ⟨17, _⟩ => ⟨S4x2048, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S4x2048x2048, .f32⟩
  | .hbm, ⟨23, _⟩ => ⟨S4x2048x2048, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S4x2048x1, .f32⟩
  | .hbm, ⟨28, _⟩ => ⟨S4x2048x2048, .f32⟩
  | .hbm, ⟨29, _⟩ => ⟨S4x2048x2048, .f32⟩
  | .hbm, ⟨30, _⟩ => ⟨S1x1x2048, .f32⟩
  | .hbm, ⟨31, _⟩ => ⟨S4x2048x2048, .f32⟩
  | .hbm, ⟨32, _⟩ => ⟨S4x2048x2048, .f32⟩
  | .hbm, ⟨33, _⟩ => ⟨S1x1x2048, .f32⟩
  | .hbm, ⟨34, _⟩ => ⟨S4x2048x2048, .f32⟩
  | .hbm, ⟨35, _⟩ => ⟨S4x2048x2048, .f32⟩
  | .hbm, ⟨36, _⟩ => ⟨S4x2048x128, .f32⟩
  | .hbm, ⟨37, _⟩ => ⟨S4x2048x4x32, .f32⟩
  | .hbm, ⟨38, _⟩ => ⟨S4x4x2048x32, .f32⟩
  | .hbm, ⟨39, _⟩ => ⟨S4x64x4x32, .f32⟩
  | .hbm, ⟨40, _⟩ => ⟨S4x4x64x32, .f32⟩
  | .hbm, ⟨41, _⟩ => ⟨S4x4x32x64, .f32⟩
  | .hbm, ⟨42, _⟩ => ⟨S4x4x2048x64, .f32⟩
  | .hbm, ⟨43, _⟩ => ⟨S_, .f32⟩
  | .hbm, ⟨44, _⟩ => ⟨S4x4x2048x64, .f32⟩
  | .hbm, ⟨45, _⟩ => ⟨S4x4x2048x64, .f32⟩
  | .hbm, ⟨46, _⟩ => ⟨S_, .f32⟩
  | .hbm, ⟨47, _⟩ => ⟨S4x4x2048, .f32⟩
  | .hbm, ⟨48, _⟩ => ⟨S_, .f32⟩
  | .hbm, ⟨49, _⟩ => ⟨S4x4x2048, .f32⟩
  | .hbm, ⟨50, _⟩ => ⟨S4x4x2048, .f32⟩
  | .hbm, ⟨51, _⟩ => ⟨S4x4x2048x1, .f32⟩
  | .hbm, ⟨52, _⟩ => ⟨S4x4x2048x64, .f32⟩
  | .hbm, ⟨53, _⟩ => ⟨S4x4x2048x64, .f32⟩
  | .hbm, ⟨54, _⟩ => ⟨S4x4x2048x64, .f32⟩
  | .hbm, ⟨55, _⟩ => ⟨S_, .f32⟩
  | .hbm, ⟨56, _⟩ => ⟨S4x4x2048, .f32⟩
  | .hbm, ⟨57, _⟩ => ⟨S4x4x2048x1, .f32⟩
  | .hbm, ⟨58, _⟩ => ⟨S4x4x2048x64, .f32⟩
  | .hbm, ⟨59, _⟩ => ⟨S4x4x2048x64, .f32⟩
  | .hbm, ⟨60, _⟩ => ⟨S4x4x2048x32, .f32⟩
  | .hbm, ⟨61, _⟩ => ⟨S4x2048x4x32, .f32⟩
  | .hbm, ⟨62, _⟩ => ⟨S4x2048x128, .f32⟩
  | .hbm, ⟨63, _⟩ => ⟨S4x128x16x128, .f32⟩
  | .hbm, ⟨64, _⟩ => ⟨S_, .f32⟩
  | .hbm, ⟨65, _⟩ => ⟨S4x128x128, .f32⟩
  | .hbm, ⟨66, _⟩ => ⟨S_, .f32⟩
  | .hbm, ⟨67, _⟩ => ⟨S4x128x128, .f32⟩
  | .hbm, ⟨68, _⟩ => ⟨S4x128x128, .f32⟩
  | .hbm, ⟨69, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_8 : Ref sig .tc := ⟨.hbm, 64, rfl⟩
abbrev main_v49 : Ref sig .tc := ⟨.hbm, 65, rfl⟩
abbrev main_cst_9 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩

abbrev nD : Nat := 1
abbrev τ : Topo := Topo.v7x

variable {F : FTy → Type} [FloatOps F]
-- ==== Prep.lean ====
abbrev S4x128x128 : Shape := ⟨3, ![4, 128, 128]⟩
abbrev S1x64x128 : Shape := ⟨3, ![1, 64, 128]⟩
abbrev S64x128 : Shape := ⟨2, ![64, 128]⟩
abbrev S128x128 : Shape := ⟨2, ![128, 128]⟩
abbrev S256x1 : Shape := ⟨2, ![256, 1]⟩
abbrev S1 : Shape := ⟨1, ![1]⟩
abbrev S512x128 : Shape := ⟨2, ![512, 128]⟩
abbrev S1x1 : Shape := ⟨2, ![1, 1]⟩
abbrev S512x3 : Shape := ⟨2, ![512, 3]⟩
abbrev S512x2 : Shape := ⟨2, ![512, 2]⟩
abbrev S64x1 : Shape := ⟨2, ![64, 1]⟩
abbrev S512 : Shape := ⟨1, ![512]⟩
abbrev S512x1 : Shape := ⟨2, ![512, 1]⟩
abbrev S64 : Shape := ⟨1, ![64]⟩
abbrev S512x64 : Shape := ⟨2, ![512, 64]⟩
abbrev S128x1 : Shape := ⟨2, ![128, 1]⟩

abbrev nBuf : Space → Nat
  | .hbm => 13
  | .vmem => 10
  | .smem => 0
  | _ => 0

abbrev bufTy : (tb : Table) → Fin (tcTables nBuf tb) → BufTy
  | .hbm, ⟨0, _⟩ => ⟨S4x128x128, .f32⟩
  | .hbm, ⟨1, _⟩ => ⟨S1x64x128, .f32⟩
  | .hbm, ⟨2, _⟩ => ⟨S64x128, .f32⟩
  | .hbm, ⟨3, _⟩ => ⟨S128x128, .f32⟩
  | .hbm, ⟨4, _⟩ => ⟨S256x1, .f32⟩
  | .hbm, ⟨5, _⟩ => ⟨S1, .f32⟩
  | .hbm, ⟨6, _⟩ => ⟨S64x128, .f32⟩
  | .hbm, ⟨7, _⟩ => ⟨S512x128, .f32⟩
  | .hbm, ⟨8, _⟩ => ⟨S1x1, .f32⟩
  | .hbm, ⟨9, _⟩ => ⟨S512x3, .i32⟩
  | .hbm, ⟨10, _⟩ => ⟨S512x128, .f32⟩
  | .hbm, ⟨11, _⟩ => ⟨S512x2, .f32⟩
  | .hbm, ⟨12, _⟩ => ⟨S64x1, .f32⟩
  | .local _ .vmem, ⟨0, _⟩ => ⟨S512x128, .f32⟩
  | .local _ .vmem, ⟨1, _⟩ => ⟨S64x128, .f32⟩
  | .local _ .vmem, ⟨2, _⟩ => ⟨S128x128, .f32⟩
  | .local _ .vmem, ⟨3, _⟩ => ⟨S256x1, .f32⟩
  | .local _ .vmem, ⟨4, _⟩ => ⟨S1x1, .f32⟩
  | .local _ .vmem, ⟨5, _⟩ => ⟨S64x128, .f32⟩
  | .local _ .vmem, ⟨6, _⟩ => ⟨S512x3, .i32⟩
  | .local _ .vmem, ⟨7, _⟩ => ⟨S512x128, .f32⟩
  | .local _ .vmem, ⟨8, _⟩ => ⟨S512x2, .f32⟩
  | .local _ .vmem, ⟨9, _⟩ => ⟨S64x1, .f32⟩
  | _, _ => ⟨S4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x3 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== PrepIdeal.lean ====
variable {F : FTy → Type} [FloatOps F] [Named F]
def κ : String → Option EReal := fun
  | "mask" => some ⊥
  | _ => none
-- ==== PrepRefIdeal.lean ====
abbrev S4x128x128 : Shape := ⟨3, ![4, 128, 128]⟩
abbrev S1x64x128 : Shape := ⟨3, ![1, 64, 128]⟩
abbrev S64x128 : Shape := ⟨2, ![64, 128]⟩
abbrev S128x128 : Shape := ⟨2, ![128, 128]⟩
abbrev S256x1 : Shape := ⟨2, ![256, 1]⟩
abbrev S1 : Shape := ⟨1, ![1]⟩
abbrev S512x128 : Shape := ⟨2, ![512, 128]⟩
abbrev S_ : Shape := ⟨0, ![]⟩
abbrev S512 : Shape := ⟨1, ![512]⟩
abbrev S512x1 : Shape := ⟨2, ![512, 1]⟩
abbrev S64 : Shape := ⟨1, ![64]⟩
abbrev S64x1 : Shape := ⟨2, ![64, 1]⟩
abbrev S128x64 : Shape := ⟨2, ![128, 64]⟩
abbrev S512x64 : Shape := ⟨2, ![512, 64]⟩
abbrev S512x3 : Shape := ⟨2, ![512, 3]⟩
abbrev S128x1 : Shape := ⟨2, ![128, 1]⟩
abbrev S1x1 : Shape := ⟨2, ![1, 1]⟩
abbrev S512x2 : Shape := ⟨2, ![512, 2]⟩

abbrev nBuf : Space → Nat
  | .hbm => 43
  | .vmem => 0
  | .smem => 0
  | _ => 0

abbrev bufTy : (tb : Table) → Fin (tcTables nBuf tb) → BufTy
  | .hbm, ⟨0, _⟩ => ⟨S4x128x128, .f32⟩
  | .hbm, ⟨1, _⟩ => ⟨S1x64x128, .f32⟩
  | .hbm, ⟨2, _⟩ => ⟨S64x128, .f32⟩
  | .hbm, ⟨3, _⟩ => ⟨S128x128, .f32⟩
  | .hbm, ⟨4, _⟩ => ⟨S256x1, .f32⟩
  | .hbm, ⟨5, _⟩ => ⟨S1, .f32⟩
  | .hbm, ⟨6, _⟩ => ⟨S512x128, .f32⟩
  | .hbm, ⟨7, _⟩ => ⟨S512x128, .f32⟩
  | .hbm, ⟨8, _⟩ => ⟨S_, .f32⟩
  | .hbm, ⟨9, _⟩ => ⟨S512, .f32⟩
  | .hbm, ⟨10, _⟩ => ⟨S512x1, .f32⟩
  | .hbm, ⟨11, _⟩ => ⟨S512x1, .f32⟩
  | .hbm, ⟨12, _⟩ => ⟨S_, .f32⟩
  | .hbm, ⟨13, _⟩ => ⟨S512x1, .f32⟩
  | .hbm, ⟨14, _⟩ => ⟨S512x1, .f32⟩
  | .hbm, ⟨15, _⟩ => ⟨S512x128, .f32⟩
  | .hbm, ⟨16, _⟩ => ⟨S512x128, .f32⟩
  | .hbm, ⟨17, _⟩ => ⟨S64x128, .f32⟩
  | .hbm, ⟨18, _⟩ => ⟨S_, .f32⟩
  | .hbm, ⟨19, _⟩ => ⟨S64, .f32⟩
  | .hbm, ⟨20, _⟩ => ⟨S64x1, .f32⟩
  | .hbm, ⟨21, _⟩ => ⟨S64x1, .f32⟩
  | .hbm, ⟨22, _⟩ => ⟨S_, .f32⟩
  | .hbm, ⟨23, _⟩ => ⟨S64x1, .f32⟩
  | .hbm, ⟨24, _⟩ => ⟨S64x1, .f32⟩
  | .hbm, ⟨25, _⟩ => ⟨S64x128, .f32⟩
  | .hbm, ⟨26, _⟩ => ⟨S64x128, .f32⟩
  | .hbm, ⟨27, _⟩ => ⟨S128x64, .f32⟩
  | .hbm, ⟨28, _⟩ => ⟨S512x64, .f32⟩
  | .hbm, ⟨29, _⟩ => ⟨S512x3, .f32⟩
  | .hbm, ⟨30, _⟩ => ⟨S512x3, .i32⟩
  | .hbm, ⟨31, _⟩ => ⟨S512x128, .f32⟩
  | .hbm, ⟨32, _⟩ => ⟨S128x1, .f32⟩
  | .hbm, ⟨33, _⟩ => ⟨S512x1, .f32⟩
  | .hbm, ⟨34, _⟩ => ⟨S128x1, .f32⟩
  | .hbm, ⟨35, _⟩ => ⟨S512x1, .f32⟩
  | .hbm, ⟨36, _⟩ => ⟨S1x1, .f32⟩
  | .hbm, ⟨37, _⟩ => ⟨S512x1, .f32⟩
  | .hbm, ⟨38, _⟩ => ⟨S512x1, .f32⟩
  | .hbm, ⟨39, _⟩ => ⟨S512x2, .f32⟩
  | .hbm, ⟨40, _⟩ => ⟨S64x128, .f32⟩
  | .hbm, ⟨41, _⟩ => ⟨S128x1, .f32⟩
  | .hbm, ⟨42, _⟩ => ⟨S64x1, .f32⟩
  | _, _ => ⟨S4x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_values : Ref sig .tc := ⟨.hbm, 29, rfl⟩
abbrev main_indices : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Final.lean ====
abbrev S128x16 : Shape := ⟨2, ![128, 16]⟩
abbrev S512x3 : Shape := ⟨2, ![512, 3]⟩
abbrev S512x128 : Shape := ⟨2, ![512, 128]⟩
abbrev S1x64x128 : Shape := ⟨3, ![1, 64, 128]⟩
abbrev S128 : Shape := ⟨1, ![128]⟩
abbrev S64x128 : Shape := ⟨2, ![64, 128]⟩
abbrev S1x128 : Shape := ⟨2, ![1, 128]⟩
abbrev S4x64x128 : Shape := ⟨3, ![4, 64, 128]⟩
abbrev S128x128 : Shape := ⟨2, ![128, 128]⟩
abbrev S128x64 : Shape := ⟨2, ![128, 64]⟩
abbrev S128x1 : Shape := ⟨2, ![128, 1]⟩
abbrev S64x1 : Shape := ⟨2, ![64, 1]⟩
abbrev S64 : Shape := ⟨1, ![64]⟩

abbrev nBuf : Space → Nat
  | .hbm => 10
  | .vmem => 7
  | .smem => 0
  | _ => 0

abbrev bufTy : (tb : Table) → Fin (tcTables nBuf tb) → BufTy
  | .hbm, ⟨0, _⟩ => ⟨S128x16, .f32⟩
  | .hbm, ⟨1, _⟩ => ⟨S512x3, .i32⟩
  | .hbm, ⟨2, _⟩ => ⟨S512x128, .f32⟩
  | .hbm, ⟨3, _⟩ => ⟨S1x64x128, .f32⟩
  | .hbm, ⟨4, _⟩ => ⟨S128, .f32⟩
  | .hbm, ⟨5, _⟩ => ⟨S128, .f32⟩
  | .hbm, ⟨6, _⟩ => ⟨S64x128, .f32⟩
  | .hbm, ⟨7, _⟩ => ⟨S1x128, .f32⟩
  | .hbm, ⟨8, _⟩ => ⟨S1x128, .f32⟩
  | .hbm, ⟨9, _⟩ => ⟨S4x64x128, .f32⟩
  | .local _ .vmem, ⟨0, _⟩ => ⟨S128x16, .f32⟩
  | .local _ .vmem, ⟨1, _⟩ => ⟨S512x3, .i32⟩
  | .local _ .vmem, ⟨2, _⟩ => ⟨S512x128, .f32⟩
  | .local _ .vmem, ⟨3, _⟩ => ⟨S64x128, .f32⟩
  | .local _ .vmem, ⟨4, _⟩ => ⟨S1x128, .f32⟩
  | .local _ .vmem, ⟨5, _⟩ => ⟨S1x128, .f32⟩
  | .local _ .vmem, ⟨6, _⟩ => ⟨S4x64x128, .f32⟩
  | _, _ => ⟨S128x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S128x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x3 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== FinalRefIdeal.lean ====
abbrev S128x16 : Shape := ⟨2, ![128, 16]⟩
abbrev S512x3 : Shape := ⟨2, ![512, 3]⟩
abbrev S512x128 : Shape := ⟨2, ![512, 128]⟩
abbrev S1x64x128 : Shape := ⟨3, ![1, 64, 128]⟩
abbrev S128 : Shape := ⟨1, ![128]⟩
abbrev S4x128x3 : Shape := ⟨3, ![4, 128, 3]⟩
abbrev S4x128x128 : Shape := ⟨3, ![4, 128, 128]⟩
abbrev S4x64x128 : Shape := ⟨3, ![4, 64, 128]⟩
abbrev S_ : Shape := ⟨0, ![]⟩
abbrev S4x1x3 : Shape := ⟨3, ![4, 1, 3]⟩
abbrev S4x3 : Shape := ⟨2, ![4, 3]⟩
abbrev S4x1x128 : Shape := ⟨3, ![4, 1, 128]⟩
abbrev S4x128 : Shape := ⟨2, ![4, 128]⟩
abbrev S128x4 : Shape := ⟨2, ![128, 4]⟩
abbrev S1x4 : Shape := ⟨2, ![1, 4]⟩
abbrev S4 : Shape := ⟨1, ![4]⟩
abbrev S4x1x1 : Shape := ⟨3, ![4, 1, 1]⟩
abbrev S4x3x1 : Shape := ⟨3, ![4, 3, 1]⟩
abbrev S64 : Shape := ⟨1, ![64]⟩
abbrev S1x1x64 : Shape := ⟨3, ![1, 1, 64]⟩
abbrev S4x3x64 : Shape := ⟨3, ![4, 3, 64]⟩
abbrev S4x64 : Shape := ⟨2, ![4, 64]⟩
abbrev S4x64x1 : Shape := ⟨3, ![4, 64, 1]⟩
abbrev S1x1x128 : Shape := ⟨3, ![1, 1, 128]⟩

abbrev nBuf : Space → Nat
  | .hbm => 104
  | .vmem => 0
  | .smem => 0
  | _ => 0

abbrev bufTy : (tb : Table) → Fin (tcTables nBuf tb) → BufTy
  | .hbm, ⟨0, _⟩ => ⟨S128x16, .f32⟩
  | .hbm, ⟨1, _⟩ => ⟨S512x3, .i32⟩
  | .hbm, ⟨2, _⟩ => ⟨S512x128, .f32⟩
  | .hbm, ⟨3, _⟩ => ⟨S1x64x128, .f32⟩
  | .hbm, ⟨4, _⟩ => ⟨S128, .f32⟩
  | .hbm, ⟨5, _⟩ => ⟨S128, .f32⟩
  | .hbm, ⟨6, _⟩ => ⟨S4x128x3, .i32⟩
  | .hbm, ⟨7, _⟩ => ⟨S4x128x128, .f32⟩
  | .hbm, ⟨8, _⟩ => ⟨S4x64x128, .f32⟩
  | .hbm, ⟨9, _⟩ => ⟨S_, .i32⟩
  | .hbm, ⟨10, _⟩ => ⟨S_, .i32⟩
  | .hbm, ⟨11, _⟩ => ⟨S4x128x3, .i32⟩
  | .hbm, ⟨12, _⟩ => ⟨S4x128x128, .f32⟩
  | .hbm, ⟨13, _⟩ => ⟨S128x16, .f32⟩
  | .hbm, ⟨14, _⟩ => ⟨S_, .i32⟩
  | .hbm, ⟨15, _⟩ => ⟨S_, .i32⟩
  | .hbm, ⟨16, _⟩ => ⟨S4x64x128, .f32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S4x1x3, .i32⟩
  | .hbm, ⟨30, _⟩ => ⟨S4x3, .i32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S4x1x128, .f32⟩
  | .hbm, ⟨40, _⟩ => ⟨S4x128, .f32⟩
  | .hbm, ⟨41, _⟩ => ⟨S128x4, .f32⟩
  | .hbm, ⟨42, _⟩ => ⟨S_, .i32⟩
  | .hbm, ⟨43, _⟩ => ⟨S_, .i1⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S1x4, .f32⟩
  | .hbm, ⟨50, _⟩ => ⟨S4, .f32⟩
  | .hbm, ⟨51, _⟩ => ⟨S4x1x1, .f32⟩
  | .hbm, ⟨52, _⟩ => ⟨S4x3x1, .i32⟩
  | .hbm, ⟨53, _⟩ => ⟨S64, .i32⟩
  | .hbm, ⟨54, _⟩ => ⟨S1x1x64, .i32⟩
  | .hbm, ⟨55, _⟩ => ⟨S4x3x64, .i32⟩
  | .hbm, ⟨56, _⟩ => ⟨S4x3x64, .i32⟩
  | .hbm, ⟨57, _⟩ => ⟨S4x3x64, .i1⟩
  | .hbm, ⟨58, _⟩ => ⟨S_, .i1⟩
  | .hbm, ⟨59, _⟩ => ⟨S4x64, .i1⟩
  | .hbm, ⟨60, _⟩ => ⟨S4x64x1, .i1⟩
  | .hbm, ⟨61, _⟩ => ⟨S_, .f32⟩
  | .hbm, ⟨62, _⟩ => ⟨S4x1x1, .f32⟩
  | .hbm, ⟨63, _⟩ => ⟨S4x1x1, .f32⟩
  | .hbm, ⟨64, _⟩ => ⟨S4x64x128, .f32⟩
  | .hbm, ⟨65, _⟩ => ⟨S4x64x128, .f32⟩
  | .hbm, ⟨66, _⟩ => ⟨S4x1x128, .f32⟩
  | .hbm, ⟨67, _⟩ => ⟨S4x1x128, .f32⟩
  | .hbm, ⟨68, _⟩ => ⟨S4x1x128, .f32⟩
  | .hbm, ⟨69, _⟩ => ⟨S4x64x128, .f32⟩
  | .hbm, ⟨70, _⟩ => ⟨S4x64x128, .f32⟩
  | .hbm, ⟨71, _⟩ => ⟨S4x64x128, .i1⟩
  | .hbm, ⟨72, _⟩ => ⟨S4x64x128, .f32⟩
  | .hbm, ⟨73, _⟩ => ⟨S_, .i32⟩
  | .hbm, ⟨74, _⟩ => ⟨S_, .i32⟩
  | .hbm, ⟨75, _⟩ => ⟨S_, .f32⟩
  | .hbm, ⟨76, _⟩ => ⟨S4x64, .f32⟩
  | .hbm, ⟨77, _⟩ => ⟨S4x64x1, .f32⟩
  | .hbm, ⟨78, _⟩ => ⟨S_, .f32⟩
  | .hbm, ⟨79, _⟩ => ⟨S4x64x1, .f32⟩
  | .hbm, ⟨80, _⟩ => ⟨S4x64x1, .f32⟩
  | .hbm, ⟨81, _⟩ => ⟨S4x64x128, .f32⟩
  | .hbm, ⟨82, _⟩ => ⟨S4x64x128, .f32⟩
  | .hbm, ⟨83, _⟩ => ⟨S4x64x128, .f32⟩
  | .hbm, ⟨84, _⟩ => ⟨S_, .f32⟩
  | .hbm, ⟨85, _⟩ => ⟨S4x64, .f32⟩
  | .hbm, ⟨86, _⟩ => ⟨S4x64x1, .f32⟩
  | .hbm, ⟨87, _⟩ => ⟨S_, .f32⟩
  | .hbm, ⟨88, _⟩ => ⟨S4x64x1, .f32⟩
  | .hbm, ⟨89, _⟩ => ⟨S4x64x1, .f32⟩
  | .hbm, ⟨90, _⟩ => ⟨S4x64x128, .f32⟩
  | .hbm, ⟨91, _⟩ => ⟨S4x64x128, .f32⟩
  | .hbm, ⟨92, _⟩ => ⟨S_, .f32⟩
  | .hbm, ⟨93, _⟩ => ⟨S4x64x1, .f32⟩
  | .hbm, ⟨94, _⟩ => ⟨S4x64x1, .f32⟩
  | .hbm, ⟨95, _⟩ => ⟨S4x64x1, .f32⟩
  | .hbm, ⟨96, _⟩ => ⟨S4x64x128, .f32⟩
  | .hbm, ⟨97, _⟩ => ⟨S4x64x128, .f32⟩
  | .hbm, ⟨98, _⟩ => ⟨S1x1x128, .f32⟩
  | .hbm, ⟨99, _⟩ => ⟨S4x64x128, .f32⟩
  | .hbm, ⟨100, _⟩ => ⟨S4x64x128, .f32⟩
  | .hbm, ⟨101, _⟩ => ⟨S1x1x128, .f32⟩
  | .hbm, ⟨102, _⟩ => ⟨S4x64x128, .f32⟩
  | .hbm, ⟨103, _⟩ => ⟨S4x64x128, .f32⟩
  | _, _ => ⟨S128x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_c_0 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev main_while0c_c_10 : Ref sig .tc := ⟨.hbm, 17, rfl⟩
abbrev main_while0c_v28 : Ref sig .tc := ⟨.hbm, 18, rfl⟩
abbrev main_while0b_c_10 : Ref sig .tc := ⟨.hbm, 19, rfl⟩
abbrev main_while0b_v28 : Ref sig .tc := ⟨.hbm, 20, rfl⟩
abbrev main_while0b_call0_c : Ref sig .tc := ⟨.hbm, 21, rfl⟩
abbrev main_while0b_call0_v0 : Ref sig .tc := ⟨.hbm, 22, rfl⟩
abbrev main_while0b_call0_v1 : Ref sig .tc := ⟨.hbm, 23, rfl⟩
abbrev main_while0b_call0_c_0 : Ref sig .tc := ⟨.hbm, 24, rfl⟩
abbrev main_while0b_call0_v2 : Ref sig .tc := ⟨.hbm, 25, rfl⟩
abbrev main_while0b_call0_v3 : Ref sig .tc := ⟨.hbm, 26, rfl⟩
abbrev main_while0b_call0_c_1 : Ref sig .tc := ⟨.hbm, 27, rfl⟩
abbrev main_while0b_call0_c_2 : Ref sig .tc := ⟨.hbm, 28, rfl⟩
abbrev main_while0b_call0_v4 : Ref sig .tc := ⟨.hbm, 29, rfl⟩
abbrev main_while0b_v29 : Ref sig .tc := ⟨.hbm, 30, rfl⟩
abbrev main_while0b_call1_c : Ref sig .tc := ⟨.hbm, 31, rfl⟩
abbrev main_while0b_call1_v0 : Ref sig .tc := ⟨.hbm, 32, rfl⟩
abbrev main_while0b_call1_v1 : Ref sig .tc := ⟨.hbm, 33, rfl⟩
abbrev main_while0b_call1_c_0 : Ref sig .tc := ⟨.hbm, 34, rfl⟩
abbrev main_while0b_call1_v2 : Ref sig .tc := ⟨.hbm, 35, rfl⟩
abbrev main_while0b_call1_v3 : Ref sig .tc := ⟨.hbm, 36, rfl⟩
abbrev main_while0b_call1_c_1 : Ref sig .tc := ⟨.hbm, 37, rfl⟩
abbrev main_while0b_call1_c_2 : Ref sig .tc := ⟨.hbm, 38, rfl⟩
abbrev main_while0b_call1_v4 : Ref sig .tc := ⟨.hbm, 39, rfl⟩
abbrev main_while0b_v30 : Ref sig .tc := ⟨.hbm, 40, rfl⟩
abbrev main_while0b_v31 : Ref sig .tc := ⟨.hbm, 41, rfl⟩
abbrev main_while0b_call2_c : Ref sig .tc := ⟨.hbm, 42, rfl⟩
abbrev main_while0b_call2_v0 : Ref sig .tc := ⟨.hbm, 43, rfl⟩
abbrev main_while0b_call2_v1 : Ref sig .tc := ⟨.hbm, 44, rfl⟩
abbrev main_while0b_call2_c_0 : Ref sig .tc := ⟨.hbm, 45, rfl⟩
abbrev main_while0b_call2_v2 : Ref sig .tc := ⟨.hbm, 46, rfl⟩
abbrev main_while0b_call2_v3 : Ref sig .tc := ⟨.hbm, 47, rfl⟩
abbrev main_while0b_call2_c_1 : Ref sig .tc := ⟨.hbm, 48, rfl⟩
abbrev main_while0b_call2_v4 : Ref sig .tc := ⟨.hbm, 49, rfl⟩
abbrev main_while0b_v32 : Ref sig .tc := ⟨.hbm, 50, rfl⟩
abbrev main_while0b_v33 : Ref sig .tc := ⟨.hbm, 51, rfl⟩
abbrev main_while0b_v34 : Ref sig .tc := ⟨.hbm, 52, rfl⟩
abbrev main_while0b_v35 : Ref sig .tc := ⟨.hbm, 53, rfl⟩
abbrev main_while0b_v36 : Ref sig .tc := ⟨.hbm, 54, rfl⟩
abbrev main_while0b_v37 : Ref sig .tc := ⟨.hbm, 55, rfl⟩
abbrev main_while0b_v38 : Ref sig .tc := ⟨.hbm, 56, rfl⟩
abbrev main_while0b_v39 : Ref sig .tc := ⟨.hbm, 57, rfl⟩
abbrev main_while0b_c_11 : Ref sig .tc := ⟨.hbm, 58, rfl⟩
abbrev main_while0b_v40 : Ref sig .tc := ⟨.hbm, 59, rfl⟩
abbrev main_while0b_v41 : Ref sig .tc := ⟨.hbm, 60, rfl⟩
abbrev main_while0b_cst_12 : Ref sig .tc := ⟨.hbm, 61, rfl⟩
abbrev main_while0b_v42 : Ref sig .tc := ⟨.hbm, 62, rfl⟩
abbrev main_while0b_v43 : Ref sig .tc := ⟨.hbm, 63, rfl⟩
abbrev main_while0b_v44 : Ref sig .tc := ⟨.hbm, 64, rfl⟩
abbrev main_while0b_v45 : Ref sig .tc := ⟨.hbm, 65, rfl⟩
abbrev main_while0b_v46 : Ref sig .tc := ⟨.hbm, 66, rfl⟩
abbrev main_while0b_v47 : Ref sig .tc := ⟨.hbm, 67, rfl⟩
abbrev main_while0b_v48 : Ref sig .tc := ⟨.hbm, 68, rfl⟩
abbrev main_while0b_v49 : Ref sig .tc := ⟨.hbm, 69, rfl⟩
abbrev main_while0b_v50 : Ref sig .tc := ⟨.hbm, 70, rfl⟩
abbrev main_while0b_call3_v0 : Ref sig .tc := ⟨.hbm, 71, rfl⟩
abbrev main_while0b_v51 : Ref sig .tc := ⟨.hbm, 72, rfl⟩
abbrev main_while0b_c_13 : Ref sig .tc := ⟨.hbm, 73, rfl⟩
abbrev main_while0b_v52 : Ref sig .tc := ⟨.hbm, 74, rfl⟩
abbrev main_cst : Ref sig .tc := ⟨.hbm, 75, rfl⟩
abbrev main_v4 : Ref sig .tc := ⟨.hbm, 76, rfl⟩
abbrev main_v5 : Ref sig .tc := ⟨.hbm, 77, rfl⟩
abbrev main_cst_1 : Ref sig .tc := ⟨.hbm, 78, rfl⟩
abbrev main_v6 : Ref sig .tc := ⟨.hbm, 79, rfl⟩
abbrev main_v7 : Ref sig .tc := ⟨.hbm, 80, rfl⟩
abbrev main_v8 : Ref sig .tc := ⟨.hbm, 81, rfl⟩
abbrev main_v9 : Ref sig .tc := ⟨.hbm, 82, rfl⟩
abbrev main_v10 : Ref sig .tc := ⟨.hbm, 83, rfl⟩
abbrev main_cst_2 : Ref sig .tc := ⟨.hbm, 84, rfl⟩
abbrev main_v11 : Ref sig .tc := ⟨.hbm, 85, rfl⟩
abbrev main_v12 : Ref sig .tc := ⟨.hbm, 86, rfl⟩
abbrev main_cst_3 : Ref sig .tc := ⟨.hbm, 87, rfl⟩
abbrev main_v13 : Ref sig .tc := ⟨.hbm, 88, rfl⟩
abbrev main_v14 : Ref sig .tc := ⟨.hbm, 89, rfl⟩
abbrev main_v15 : Ref sig .tc := ⟨.hbm, 90, rfl⟩
abbrev main_v16 : Ref sig .tc := ⟨.hbm, 91, rfl⟩
abbrev main_cst_4 : Ref sig .tc := ⟨.hbm, 92, rfl⟩
abbrev main_v17 : Ref sig .tc := ⟨.hbm, 93, rfl⟩
abbrev main_v18 : Ref sig .tc := ⟨.hbm, 94, rfl⟩
abbrev main_v19 : Ref sig .tc := ⟨.hbm, 95, rfl⟩
abbrev main_v20 : Ref sig .tc := ⟨.hbm, 96, rfl⟩
abbrev main_v21 : Ref sig .tc := ⟨.hbm, 97, rfl⟩
abbrev main_v22 : Ref sig .tc := ⟨.hbm, 98, rfl⟩
abbrev main_v23 : Ref sig .tc := ⟨.hbm, 99, rfl⟩
abbrev main_v24 : Ref sig .tc := ⟨.hbm, 100, rfl⟩
abbrev main_v25 : Ref sig .tc := ⟨.hbm, 101, rfl⟩
abbrev main_v26 : Ref sig .tc := ⟨.hbm, 102, rfl⟩
abbrev main_v27 : Ref sig .tc := ⟨.hbm, 103, rfl⟩

abbrev nD : Nat := 1
abbrev τ : Topo := Topo.v7x

variable {F : FTy → Type} [FloatOps F]

abbrev main_while0_count : Scf.Loop 32 := ⟨0#32, 128#32, 1#32⟩
-- ==== Proof.GateIdealRun.lean ====
/-
  The run of the gate call. The program is host code (the tables of flat slot indices and of the two per-chunk scalars,
  four copies of the initial importances), one SparseCore call on a mesh of 2 × 16 vector subcores of which subcore
  (0, 0) alone works, and a slice of its result. The working subcore copies the four tables into its own memory, walks
  the 128 chunks in order — three gathers of the importances, the gate, three scatters of the updated importances, the
  gate's row stored — and copies the gates out. Here the run is stated with the gates it leaves (`gOut`), a recursion
  over the chunks (`dAt`), for any float operations.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Tactic
public import Idealize.ShloMosaic.Lib.Writes
public import proofs.«01_k».proof.Proof.Gen.Gate
public import proofs.«01_k».proof.Proof.Gen.GateIdeal.Skeleton

@[expose] public section

noncomputable section

namespace Cert.GateIdealRun

open Cert.GateIdeal Cert.GateIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after wp_hlo_within wp_seq)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the copies' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## What the chunks compute -/

abbrev sD : Memref sig .scVector .vmem S256 .f32 := Memref.whole cc0_scratch0
abbrev sI : Memref sig .scVector .vmem S128x3x16 .i32 := Memref.whole cc0_scratch1
abbrev sA : Memref sig .scVector .vmem S128x16 .f32 := Memref.whole cc0_scratch2
abbrev sB : Memref sig .scVector .vmem S128x16 .f32 := Memref.whole cc0_scratch3
abbrev sG : Memref sig .scVector .vmem S128x16 .f32 := Memref.whole cc0_scratch4

section Spec

variable [FloatOps F] [Named F]

/-- The flat indices of chunk `c`'s `j`-th chosen slot, one per lane. -/
def idxRow (fi : Vec F S128x3x16 .i32) (c : Fin 128) (j : Fin 3) : Vec F S16 .i32 :=
  fun x => fi fun a => match a with | 0 => c | 1 => j | 2 => x 0

/-- Chunk `c`'s row of a table of one scalar per chunk and lane, as the kernel loads it. -/
def scalRow (w : Vec F S128x16 .f32) (c : Fin 128) : Vec F S1x16 .f32 :=
  fun x => w fun a => match a with | 0 => c | 1 => x 1

/-- Every flat index names an importance. -/
def InRange (fi : Vec F S128x3x16 .i32) : Prop := ∀ j, (fi j).toNat < 256

variable {fi : Vec F S128x3x16 .i32} (hfi : InRange fi) (w1 w2 : Vec F S128x16 .f32)

omit [FloatOps F] [Named F] in
include hfi in
theorem idxRow_lt (c : Fin 128) (j : Fin 3) : ∀ a x, ((![idxRow fi c j] : Fin 1 → IVec S16 32) a x).toNat < S256.size a := by
  intro a x
  obtain rfl : a = 0 := Subsingleton.elim _ _
  exact hfi _

/-- The importances chunk `c` gathers at its `j`-th indices. -/
def got (c : Fin 128) (d : Vec F S256 .f32) (j : Fin 3) : Vec F S16 .f32 := loadIdx d ![idxRow fi c j] (idxRow_lt hfi c j)

/-- Chunk `c`'s gate, from the importances before it. -/
def gateOf (c : Fin 128) (d : Vec F S256 .f32) : Vec F S16 .f32 :=
  k0_pay3 (got hfi c d 0) (got hfi c d 1) (got hfi c d 2) (scalRow w2 c)

/-- The importances after chunk `c`, from those before it. -/
def dStep (c : Fin 128) (d : Vec F S256 .f32) : Vec F S256 .f32 :=
  storeIdx
    (storeIdx
      (storeIdx d ![idxRow fi c 0] (k0_pay6 (got hfi c d 0) (got hfi c d 1) (got hfi c d 2) (scalRow w2 c) (scalRow w1 c)) k0_pay1 false (idxRow_lt hfi c 0))
      ![idxRow fi c 1] (k0_pay7 (got hfi c d 0) (got hfi c d 1) (got hfi c d 2) (scalRow w2 c) (scalRow w1 c)) k0_pay1 false (idxRow_lt hfi c 1))
    ![idxRow fi c 2] (k0_pay2 (k0_pay5 (got hfi c d 0) (got hfi c d 1) (got hfi c d 2) (scalRow w2 c) (scalRow w1 c))
      (k0_pay8 (got hfi c d 0) (got hfi c d 1) (got hfi c d 2) (scalRow w2 c))) k0_pay1 false (idxRow_lt hfi c 2)

/-- The importances before chunk `n`, from the initial ones. -/
def dAt (d₀ : Vec F S256 .f32) : ℕ → Vec F S256 .f32
  | 0 => d₀
  | n + 1 => if h : n < 128 then dStep hfi w1 w2 ⟨n, h⟩ (dAt d₀ n) else dAt d₀ n

theorem dAt_succ (d₀ : Vec F S256 .f32) (c : Fin 128) : dAt hfi w1 w2 d₀ (c.val + 1) = dStep hfi w1 w2 c (dAt hfi w1 w2 d₀ c.val) := by
  show (if h : c.val < 128 then _ else _) = _
  rw [dif_pos c.isLt]

/-- The gates the call leaves. -/
def gOut (d₀ : Vec F S256 .f32) : Vec F S128x16 .f32 :=
  fun x => gateOf hfi w2 (x 0) (dAt hfi w1 w2 d₀ (x 0).val) fun a => match a with | 0 => x 1

end Spec

/-! ## The rows the kernel loads -/

theorem trips_eq : k0_t1_loop.trips = 128 := by decide +kernel

abbrev chunk (k : Fin k0_t1_loop.trips) : Fin 128 := Fin.cast trips_eq k

/-- The coordinates of the working subcore. -/
def L₀ : grid0.Coords := fun | 0 => ⟨0, by decide⟩ | 1 => ⟨0, by decide⟩ | ⟨_ + 2, h⟩ => absurd h (Nat.not_lt.2 (Nat.le_add_left _ _))
theorem h₀ : k0_cond1 L₀ = 1#1 := by decide +revert

abbrev rI0 (k : Fin k0_t1_loop.trips) : Rect S128x3x16 := Rect.unit (s := S128x3x16) (k0_off1 k) S1x1x16.size (k0_off1_inb L₀ k h₀)
abbrev rI1 (k : Fin k0_t1_loop.trips) : Rect S128x3x16 := Rect.unit (s := S128x3x16) (k0_off2 k) S1x1x16.size (k0_off2_inb L₀ k h₀)
abbrev rI2 (k : Fin k0_t1_loop.trips) : Rect S128x3x16 := Rect.unit (s := S128x3x16) (k0_off3 k) S1x1x16.size (k0_off3_inb L₀ k h₀)
abbrev rW (k : Fin k0_t1_loop.trips) : Rect S128x16 := Rect.unit (s := S128x16) (k0_off4 k) S1x16.size (k0_off4_inb L₀ k h₀)

/-- A row of the index table, loaded at `(k, j, 0)`. -/
theorem load_idx (fi : Vec F S128x3x16 .i32) (k : Fin k0_t1_loop.trips) (j : Fin 3) (off : Fin 3 → ℕ) (inb : ∀ a, off a + S1x1x16.size a ≤ S128x3x16.size a)
    (hoff : off = ![k.val, j.val, 0]) :
    (shapeCast S16 ((sI : Memref sig .scVector .vmem S128x3x16 .i32).view.readAt (Elt F) (Rect.unit (s := S128x3x16) off S1x1x16.size inb).toLoadRect fi : Vec F S1x1x16 .i32) shapeCasts_S1x1x16_S16 : Vec F S16 .i32)
      = idxRow fi (chunk k) j := by
  subst hoff
  funext x
  rw [shapeCast_apply _ _ x (show S1x1x16.Idx from fun a => match a with | 0 => ⟨0, by decide⟩ | 1 => ⟨0, by decide⟩ | 2 => x 0)
    (by rw [Shape.rowMajor_val_three, Shape.rowMajor_val_one]; simp)]
  simp only [View.readAt_apply, Memref.view_whole, View.read_whole]
  unfold idxRow
  congr 1
  funext a; apply Fin.ext
  rw [LoadRect.idx_apply]
  fin_cases a <;> simp

/-- A row of a scalar table, loaded at `(k, 0)` from either table's copy. -/
theorem load_scalA (w : Vec F S128x16 .f32) (k : Fin k0_t1_loop.trips) :
    ((sA : Memref sig .scVector .vmem S128x16 .f32).view.readAt (Elt F) (rW k).toLoadRect w : Vec F S1x16 .f32) = scalRow w (chunk k) := by
  funext x
  simp only [View.readAt_apply, Memref.view_whole, View.read_whole]
  unfold scalRow
  congr 1
  funext a; apply Fin.ext
  rw [LoadRect.idx_apply]
  show k0_off4 k a + 1 * (x a).val = _
  rw [k0_off4_eq]
  have h0 : (x 0).val = 0 := by have := (x 0).isLt; simp at this; omega
  fin_cases a
  · simp [h0]
  · simp

theorem load_scalB (w : Vec F S128x16 .f32) (k : Fin k0_t1_loop.trips) :
    ((sB : Memref sig .scVector .vmem S128x16 .f32).view.readAt (Elt F) (rW k).toLoadRect w : Vec F S1x16 .f32) = scalRow w (chunk k) :=
  load_scalA w k

/-- The gate's row stored: row `k` holds the gate, the rows before it what they held. -/
theorem store_gate [FloatOps F] [Named F] (f : Vec F S128x16 .f32) (g : Vec F S16 .f32) (k : Fin k0_t1_loop.trips) (y : S128x16.Idx) (hy : (y 0).val < k.val + 1) :
    ((sG : Memref sig .scVector .vmem S128x16 .f32).access (rW k)).write (Elt F) f (shapeCast S1x16 g shapeCasts_S16_S1x16) Finset.univ y
      = if (y 0).val < k.val then f y else g (fun a => match a with | 0 => y 1) := by
  have hoff : ∀ a, (rW k).off a = (![k.val, 0] : Fin 2 → ℕ) a := fun a => congrFun (k0_off4_eq k) a
  have hw := View.writes_singleton (View.whole cc0_scratch4 : View sig .scVector .vmem S128x16 .f32) f (rW k) (shapeCast S1x16 g shapeCasts_S16_S1x16)
  have hr : ∀ f' : (View.whole cc0_scratch4 : View sig .scVector .vmem S128x16 .f32).ty.Contents (Elt F), (View.whole cc0_scratch4 : View sig .scVector .vmem S128x16 .f32).read (Elt F) f' = f' := fun f' => View.read_whole _ _
  have he : ((sG : Memref sig .scVector .vmem S128x16 .f32).access (rW k)).write (Elt F) f (shapeCast S1x16 g shapeCasts_S16_S1x16) Finset.univ y
      = (View.whole cc0_scratch4 : View sig .scVector .vmem S128x16 .f32).read (Elt F)
          ((View.whole cc0_scratch4 : View sig .scVector .vmem S128x16 .f32).writes (Elt F) f [⟨rW k, shapeCast S1x16 g shapeCasts_S16_S1x16⟩]) y := by
    rw [hr]; exact congrFun hw.symm y
  rw [he]
  split
  · rename_i hlt
    rw [View.read_writes_cons_miss_of_axis _ _ _ _ y 0 k.val 1 (hoff 0) rfl rfl (.inl hlt)]
    exact congrFun (hr f) y
  · rename_i hlt
    rw [View.read_writes_cons_hit_of_coords _ _ _ _ _ (fun a => match a with | 0 => ⟨0, by decide⟩ | 1 => y 1 : S1x16.Idx) y (by
      intro a
      rw [hoff]
      fin_cases a
      · simp; omega
      · simp)]
    exact shapeCast_apply _ _ _ _ (by rw [Shape.rowMajor_val_two, Shape.rowMajor_val_one]; simp)

/-! ## The arrays and what the call hands over -/

/-- The five arrays of the call, as locations of device `d`: the importances, the index table, the two scalar tables,
    the gates. -/
abbrev dLoc (d : Dev nD) : Loc nD τ sig := (SparseCore.T d).loc main_v21
abbrev iLoc (d : Dev nD) : Loc nD τ sig := (SparseCore.T d).loc main_v8
abbrev aLoc (d : Dev nD) : Loc nD τ sig := (SparseCore.T d).loc main_v13
abbrev bLoc (d : Dev nD) : Loc nD τ sig := (SparseCore.T d).loc main_v17
abbrev gLoc (d : Dev nD) : Loc nD τ sig := (SparseCore.T d).loc main_v22

abbrev dV : Memref sig .scVector .hbm S256 .f32 := Memref.whole main_v21_scv
abbrev iV : Memref sig .scVector .hbm S128x3x16 .i32 := Memref.whole main_v8_scv
abbrev aV : Memref sig .scVector .hbm S128x16 .f32 := Memref.whole main_v13_scv
abbrev bV : Memref sig .scVector .hbm S128x16 .f32 := Memref.whole main_v17_scv
abbrev gV : Memref sig .scVector .hbm S128x16 .f32 := Memref.whole main_v22_scv

/-- The four tables' contents at the call, per device, the index table in range. -/
structure Tables (F : FTy → Type) where
  d0 : Dev nD → Vec F S256 .f32
  fi : Dev nD → Vec F S128x3x16 .i32
  w1 : Dev nD → Vec F S128x16 .f32
  w2 : Dev nD → Vec F S128x16 .f32
  ok : ∀ d, InRange (fi d)

variable (X : Tables F)

/-- The four tables at their contents. -/
abbrev tabs (d : Dev nD) : sProp 𝕄 :=
  iprop((dLoc d ↦{fullShare} X.d0 d) ∗ (iLoc d ↦{fullShare} X.fi d) ∗ (aLoc d ↦{fullShare} X.w1 d) ∗ (bLoc d ↦{fullShare} X.w2 d))

variable [FloatOps F] [Named F]

/-- What the working subcore takes, and what it brings back. -/
def takes (d : Dev nD) : sProp 𝕄 := iprop(tabs X d ∗ ∃ f, gLoc d ↦{fullShare} f)
def brings (d : Dev nD) : sProp 𝕄 := iprop(tabs X d ∗ gLoc d ↦{fullShare} gOut (X.ok d) (X.w1 d) (X.w2 d) (X.d0 d))

/-! ## The working subcore -/

section Tile

variable (d : Dev nD)

abbrev thr₀ : Thread nD τ := V d ((L₀ 0).castLE hcore0) ((L₀ 1).castLE hsub0)

omit [FloatOps F] [Named F] in
theorem read_sD (f : Vec F S256 .f32) : ((sD : Memref sig .scVector .vmem S256 .f32).access (.whole S256)).read (Elt F) f = f := by
  funext x
  exact congrArg f (funext fun a => Fin.ext (by show 0 + 1 * (x a).val = _; omega))
omit [FloatOps F] [Named F] in
theorem write_sD (f w : Vec F S256 .f32) : ((sD : Memref sig .scVector .vmem S256 .f32).access (.whole S256)).write (Elt F) f w Finset.univ = w := by
  have hx : ∀ x, ((sD : Memref sig .scVector .vmem S256 .f32).access (.whole S256)).emb x = x := fun x =>
    funext fun a => Fin.ext (by show 0 + 1 * (x a).val = _; omega)
  funext x
  have := View.write_emb_of_mem (v := (sD : Memref sig .scVector .vmem S256 .f32).access (.whole S256)) (Val := Elt F) f w (Finset.mem_univ x)
  rw [hx] at this
  exact this
omit [FloatOps F] [Named F] in
theorem pts_access (f : Vec F S256 .f32) :
    (((sD : Memref sig .scVector .vmem S256 .f32).access (.whole S256)).loc (thr₀ d) ↦[((sD : Memref sig .scVector .vmem S256 .f32).access (.whole S256)).set]{fullShare} f : sProp 𝕄)
      = ((sD).view.loc (thr₀ d) ↦{fullShare} f) := by
  rw [show ((sD : Memref sig .scVector .vmem S256 .f32).access (.whole S256)).set = Finset.univ from Memref.set_access_whole cc0_scratch0]

/-- The loop's invariant before chunk `k`: the copies of the tables, the importances after the chunks before, the
    gates of the chunks before, and what the copies out need. -/
def inv (k : Nat) (_ : PUnit) : sProp 𝕄 :=
  iprop(((sD).view.loc (thr₀ d) ↦{fullShare} dAt (X.ok d) (X.w1 d) (X.w2 d) (X.d0 d) k)
    ∗ ((sI).view.loc (thr₀ d) ↦{fullShare} X.fi d)
    ∗ ((sA).view.loc (thr₀ d) ↦{fullShare} X.w1 d)
    ∗ ((sB).view.loc (thr₀ d) ↦{fullShare} X.w2 d)
    ∗ ∃ f, ⌜∀ x : S128x16.Idx, (x 0).val < k → f x = gOut (X.ok d) (X.w1 d) (X.w2 d) (X.d0 d) x⌝ ∗ (sG).view.loc (thr₀ d) ↦{fullShare} f)

/-- One chunk: the rows loaded, the checks, the three gathers, the three scatters, the gate's row stored. -/
theorem trip (k : Fin k0_t1_loop.trips) :
    inv X d k.val ⟨⟩ ⊢ wp frame (wpE (defs₀ (F := F)) 𝒱₀ (thr₀ d) none) Set.univ
      (k0_t1_body (F := F) L₀ dV (Memref.isWhole_whole _) iV (Memref.isWhole_whole _) aV (Memref.isWhole_whole _) bV (Memref.isWhole_whole _) gV (Memref.isWhole_whole _)
        sD (Memref.isWhole_whole _) sI (Memref.isWhole_whole _) sA (Memref.isWhole_whole _) sB (Memref.isWhole_whole _) sG (Memref.isWhole_whole _)
        cc0_scoped0 cc0_scoped1 cc0_scoped2 cc0_scoped3 cc0_scoped4 h₀ k ⟨⟩)
      fun _ => inv X d (k.val + 1) ⟨⟩ := by
  unfold k0_t1_body
  simp only [k0_part1_eq_skeleton]; unfold k0_part1_skel
  simp only [Prog.lift, Prog.bind_op, Prog.bind_ret, Prog.pure_eq_ret, Prog.bind_assoc]
  unfold inv
  iintro ⟨Hd, Hi, Ha, Hb, %f, %hf, Hg⟩
  have hc (j : Fin 3) : ∀ a x, ((![idxRow (X.fi d) (chunk k) j] : Fin 1 → IVec S16 32) a x).toNat < S256.size a := idxRow_lt (X.ok d) _ _
  iapply (wp_load 𝒱₀ (thr₀ d) none Set.univ (m := sI) (S := Finset.univ) (Finset.subset_univ _)) $$ Hi; iintro Hi
  rw [load_idx (X.fi d) k 0 _ _ (k0_off1_eq k), wp_assume_of _ _ _ _ (show k0_chk1 L₀ _ from ⟨fun _ => hc 0, fun _ => hc 0⟩)]
  iapply (wp_load 𝒱₀ (thr₀ d) none Set.univ (m := sI) (S := Finset.univ) (Finset.subset_univ _)) $$ Hi; iintro Hi
  rw [load_idx (X.fi d) k 1 _ _ (k0_off2_eq k), wp_assume_of _ _ _ _ (show k0_chk2 L₀ _ from ⟨fun _ => hc 1, fun _ => hc 1⟩)]
  iapply (wp_load 𝒱₀ (thr₀ d) none Set.univ (m := sI) (S := Finset.univ) (Finset.subset_univ _)) $$ Hi; iintro Hi
  rw [load_idx (X.fi d) k 2 _ _ (k0_off3_eq k), wp_assume_of _ _ _ _ (show k0_chk3 L₀ _ from ⟨fun _ => hc 2, fun _ => hc 2⟩)]
  iapply (SparseCore.wp_vectorLoadIdx 𝒱₀ (thr₀ d) none Set.univ (base := sD) (S := Finset.univ) (q := fullShare) (Finset.subset_univ _)) $$ Hd; iintro Hd
  iapply (SparseCore.wp_vectorLoadIdx 𝒱₀ (thr₀ d) none Set.univ (base := sD) (S := Finset.univ) (q := fullShare) (Finset.subset_univ _)) $$ Hd; iintro Hd
  iapply (SparseCore.wp_vectorLoadIdx 𝒱₀ (thr₀ d) none Set.univ (base := sD) (S := Finset.univ) (q := fullShare) (Finset.subset_univ _)) $$ Hd; iintro Hd
  iapply (wp_load 𝒱₀ (thr₀ d) none Set.univ (m := sB) (S := Finset.univ) (Finset.subset_univ _)) $$ Hb; iintro Hb
  iapply (wp_load 𝒱₀ (thr₀ d) none Set.univ (m := sA) (S := Finset.univ) (Finset.subset_univ _)) $$ Ha; iintro Ha
  rw [load_scalB (X.w2 d) k, load_scalA (X.w1 d) k, read_sD]
  ihave Hd := (Entails.of_eq (pts_access d _).symm) $$ Hd
  iapply (SparseCore.wp_vectorStoreIdx 𝒱₀ (thr₀ d) none Set.univ (base := sD)) $$ Hd; iintro Hd
  rw [read_sD, write_sD]
  iapply (SparseCore.wp_vectorStoreIdx 𝒱₀ (thr₀ d) none Set.univ (base := sD)) $$ Hd; iintro Hd
  rw [read_sD, write_sD]
  iapply (SparseCore.wp_vectorStoreIdx 𝒱₀ (thr₀ d) none Set.univ (base := sD)) $$ Hd; iintro Hd
  rw [read_sD, write_sD]
  ihave Hd := (Entails.of_eq (pts_access d _)) $$ Hd
  iapply (wp_load 𝒱₀ (thr₀ d) none Set.univ (m := sG) (S := Finset.univ) (Finset.subset_univ _)) $$ Hg; iintro Hg
  iapply (wp_store 𝒱₀ (thr₀ d) none Set.univ (m := sG) (r := rW k) (Mk := Finset.univ) (S := Finset.univ) (Finset.subset_univ _)) $$ Hg; iintro Hg
  rw [wp_ret]; imodintro
  isplitl [Hd]
  · rw [show k.val + 1 = (chunk k).val + 1 from rfl, dAt_succ]; iexact Hd
  isplitl [Hi]; · iexact Hi
  isplitl [Ha]; · iexact Ha
  isplitl [Hb]; · iexact Hb
  iexists (((sG : Memref sig .scVector .vmem S128x16 .f32).access (rW k)).write (Elt F) f
    (shapeCast S1x16 (gateOf (X.ok d) (X.w2 d) (chunk k) (dAt (X.ok d) (X.w1 d) (X.w2 d) (X.d0 d) k.val)) shapeCasts_S16_S1x16) Finset.univ); isplitr
  · ipureintro
    intro x hx
    refine (store_gate f _ k x hx).trans ?_
    split
    · rename_i hlt; exact hf x hlt
    · rename_i hlt
      have hk : x 0 = chunk k := Fin.ext (by show (x 0).val = k.val; omega)
      unfold gOut; rw [hk]; rfl
  · iexact Hg

/-! The copies' semaphores and the scratch buffers, taken out of what the subcore owns. -/

abbrev copySem (j : Fin 5) : SemLoc sig :=
  .dma (match j with | 0 => cc0_scoped0.sem | 1 => cc0_scoped1.sem | 2 => cc0_scoped2.sem | 3 => cc0_scoped3.sem | 4 => cc0_scoped4.sem)
abbrev cell (j : Fin 5) : GSem nD τ sig := (thr₀ d, copySem j)

omit [FloatOps F] [Named F] in
theorem cell_mem (j : Fin 5) : cell d j ∈ ownCells (thr₀ d) :=
  mem_ownCells.mpr ⟨rfl, (show ∀ j : Fin 5, (copySem j).isScoped .scVector = true by decide) j⟩
omit [FloatOps F] [Named F] in
theorem cell_inj {i j : Fin 5} (h : i ≠ j) : cell d i ≠ cell d j := fun e => h (by
  exact (show ∀ i j : Fin 5, copySem i = copySem j → i = j by decide) i j (Prod.mk.inj e).2)

/-- The cells besides the copies'. -/
abbrev restCells : Finset (GSem nD τ sig) := (((((ownCells (thr₀ d)).erase (cell d 0)).erase (cell d 1)).erase (cell d 2)).erase (cell d 3)).erase (cell d 4)

omit [FloatOps F] [Named F] in
theorem ownSems0_tile : (ownSems0 (thr₀ d) : sProp 𝕄)
    = iprop(semVal (cell d 0) 0 ∗ semVal (cell d 1) 0 ∗ semVal (cell d 2) 0 ∗ semVal (cell d 3) 0 ∗ semVal (cell d 4) 0
        ∗ bigSep (restCells d) fun g => semVal g 0) := by
  unfold ownSems0
  have hm (j : Fin 5) := cell_mem d j
  have hn {i j : Fin 5} (h : i ≠ j) := cell_inj d h
  rw [SparseCore.bigSep_erase' (hm 0), SparseCore.bigSep_erase' (i := cell d 1) (by simp only [Finset.mem_erase]; exact ⟨hn (by decide), hm 1⟩),
    SparseCore.bigSep_erase' (i := cell d 2) (by simp only [Finset.mem_erase]; exact ⟨hn (by decide), hn (by decide), hm 2⟩),
    SparseCore.bigSep_erase' (i := cell d 3) (by simp only [Finset.mem_erase]; exact ⟨hn (by decide), hn (by decide), hn (by decide), hm 3⟩),
    SparseCore.bigSep_erase' (i := cell d 4) (by simp only [Finset.mem_erase]; exact ⟨hn (by decide), hn (by decide), hn (by decide), hn (by decide), hm 4⟩)]

abbrev scr (j : Fin 5) : Ref sig .scVector :=
  match j with | 0 => cc0_scratch0 | 1 => cc0_scratch1 | 2 => cc0_scratch2 | 3 => cc0_scratch3 | 4 => cc0_scratch4
abbrev scrBuf (j : Fin 5) : DevRef τ sig := (thr₀ d).2.devRef (scr j)

omit [FloatOps F] [Named F] in
theorem scr_mem (j : Fin 5) : scrBuf d j ∈ ownRefs (τ := τ) (sig := sig) (thr₀ d).2 :=
  SparseCore.Cfg.mem_ownRefs_of_owner (by fin_cases j <;> rfl)
omit [FloatOps F] [Named F] in
theorem scr_inj {i j : Fin 5} (h : i ≠ j) : scrBuf d i ≠ scrBuf d j := fun e => h (by
  exact (show ∀ i j : Fin 5, scr i = scr j → i = j by decide) i j (Proc.devRef_injective _ e))

abbrev restBufs : Finset (DevRef τ sig) :=
  (((((ownRefs (τ := τ) (sig := sig) (thr₀ d).2).erase (scrBuf d 0)).erase (scrBuf d 1)).erase (scrBuf d 2)).erase (scrBuf d 3)).erase (scrBuf d 4)

omit [FloatOps F] [Named F] in
theorem ownBufs_tile : (ownBufs (thr₀ d) : sProp 𝕄)
    = iprop((∃ f, (sD).view.loc (thr₀ d) ↦{fullShare} f) ∗ (∃ f, (sI).view.loc (thr₀ d) ↦{fullShare} f) ∗ (∃ f, (sA).view.loc (thr₀ d) ↦{fullShare} f)
        ∗ (∃ f, (sB).view.loc (thr₀ d) ↦{fullShare} f) ∗ (∃ f, (sG).view.loc (thr₀ d) ↦{fullShare} f)
        ∗ bigSep (restBufs d) fun b => iprop(∃ f, ((d, b) : Loc nD τ sig) ↦{fullShare} f)) := by
  unfold ownBufs
  have hm (j : Fin 5) := scr_mem d j
  have hn {i j : Fin 5} (h : i ≠ j) := scr_inj d h
  refine (SparseCore.bigSep_erase' (hm 0)).trans ?_
  rw [SparseCore.bigSep_erase' (i := scrBuf d 1) (by simp only [Finset.mem_erase]; exact ⟨hn (by decide), hm 1⟩),
    SparseCore.bigSep_erase' (i := scrBuf d 2) (by simp only [Finset.mem_erase]; exact ⟨hn (by decide), hn (by decide), hm 2⟩),
    SparseCore.bigSep_erase' (i := scrBuf d 3) (by simp only [Finset.mem_erase]; exact ⟨hn (by decide), hn (by decide), hn (by decide), hm 3⟩),
    SparseCore.bigSep_erase' (i := scrBuf d 4) (by simp only [Finset.mem_erase]; exact ⟨hn (by decide), hn (by decide), hn (by decide), hn (by decide), hm 4⟩)]

omit [FloatOps F] [Named F] in
/-- A whole array, as the subcore's memref addresses it and as @main does. -/
theorem pts_dV (f : Vec F S256 .f32) : ((dV).view.loc (thr₀ d) ↦{fullShare} f : sProp 𝕄) = dLoc d ↦{fullShare} f := rfl
omit [FloatOps F] [Named F] in
theorem pts_iV (f : Vec F S128x3x16 .i32) : ((iV).view.loc (thr₀ d) ↦{fullShare} f : sProp 𝕄) = iLoc d ↦{fullShare} f := rfl
omit [FloatOps F] [Named F] in
theorem pts_aV (f : Vec F S128x16 .f32) : ((aV).view.loc (thr₀ d) ↦{fullShare} f : sProp 𝕄) = aLoc d ↦{fullShare} f := rfl
omit [FloatOps F] [Named F] in
theorem pts_bV (f : Vec F S128x16 .f32) : ((bV).view.loc (thr₀ d) ↦{fullShare} f : sProp 𝕄) = bLoc d ↦{fullShare} f := rfl
omit [FloatOps F] [Named F] in
theorem pts_gV (f : Vec F S128x16 .f32) : ((gV).view.loc (thr₀ d) ↦{fullShare} f : sProp 𝕄) = gLoc d ↦{fullShare} f := rfl

omit [FloatOps F] [Named F] in
/-- A copy into a whole scratch buffer leaves what it copied. -/
theorem landed (b : Ref sig .scVector) (f w : b.ty.Contents (Elt F)) :
    ((View.whole b).loc (thr₀ d) ↦{fullShare} (View.whole b).write (Elt F) f w Finset.univ : sProp 𝕄) = ((View.whole b).loc (thr₀ d) ↦{fullShare} w) := by
  rw [View.write_whole_univ]

/-- The working subcore: the four tables copied in, the chunks, the gates copied out. -/
theorem body_works (O : CellTallies nD τ sig (HIx 1)) (W : Waits sig (HIx 1)) (hO : ∀ g, O g none = 0) :
    iprop(levAts (K (F := F)).L (K (F := F)).lev ∗ emp ∗ takes X d ∗ scopedBufs (thr₀ d) ∗ scopedSems0 (thr₀ d) ∗ owes (thr₀ d) O W)
      ⊢ wp frame (wpE (defs₀ (F := F)) 𝒱₀ (thr₀ d) none) Set.univ
          (cc0__gate_body (F := F) L₀ dV (Memref.isWhole_whole _) iV (Memref.isWhole_whole _) aV (Memref.isWhole_whole _) bV (Memref.isWhole_whole _) gV (Memref.isWhole_whole _)
            sD (Memref.isWhole_whole _) sI (Memref.isWhole_whole _) sA (Memref.isWhole_whole _) sB (Memref.isWhole_whole _) sG (Memref.isWhole_whole _)
            cc0_scoped0 cc0_scoped1 cc0_scoped2 cc0_scoped3 cc0_scoped4)
          fun _ => iprop(brings X d ∗ scopedBufs (thr₀ d) ∗ scopedSems0 (thr₀ d) ∗ ∃ W', ⌜∀ p ∈ W', p ∈ W ∨ p.2 = none⌝ ∗ owes (thr₀ d) O W') := by
  have k0_h1 : k0_cond1 L₀ = 1#1 := h₀
  simp only [cc0__gate_body_eq_skeleton]; unfold cc0__gate_body_skel
  rw [(K (F := F)).scopedBufs_V facts d _ _, SparseCore.Cfg.scopedSems0_V (Val := Elt F) d _ _, ownSems0_tile, ownBufs_tile]
  unfold takes
  iintro ⟨#Hlv, -, ⟨⟨Hd, Hi, Ha, Hb⟩, %fg, Hg⟩, ⟨⟨%f0, Hs0⟩, ⟨%f1, Hs1⟩, ⟨%f2, Hs2⟩, ⟨%f3, Hs3⟩, ⟨%f4, Hs4⟩, Hbufs⟩, ⟨Hc0, Hc1, Hc2, Hc3, Hc4, Hcells⟩, HO⟩
  ihave Hmw := ((K (F := F)).mayWaits_none (thr := thr₀ d) hO) $$ Hlv
  ihave Hd := (Entails.of_eq (pts_dV (F := F) d _).symm) $$ Hd
  ihave Hi := (Entails.of_eq (pts_iV (F := F) d _).symm) $$ Hi
  ihave Ha := (Entails.of_eq (pts_aV (F := F) d _).symm) $$ Ha
  ihave Hb := (Entails.of_eq (pts_bV (F := F) d _).symm) $$ Hb
  ihave Hg := (Entails.of_eq (pts_gV (F := F) d _).symm) $$ Hg
  sl_exec
  -- what the four copies landed
  ihave Hs0 := (Entails.of_eq (landed (F := F) d cc0_scratch0 _ _)) $$ Hs0
  ihave Hs1 := (Entails.of_eq (landed (F := F) d cc0_scratch1 _ _)) $$ Hs1
  ihave Hs2 := (Entails.of_eq (landed (F := F) d cc0_scratch2 _ _)) $$ Hs2
  ihave Hs3 := (Entails.of_eq (landed (F := F) d cc0_scratch3 _ _)) $$ Hs3
  sl_for (inv X d) $$ [Hs0 Hs1 Hs2 Hs3 Hs4]
  case region => intro k _; exact trip X d k
  · unfold inv
    isplitl [Hs0]; · iexact Hs0
    isplitl [Hs1]; · iexact Hs1
    isplitl [Hs2]; · iexact Hs2
    isplitl [Hs3]; · iexact Hs3
    iexists f4; isplitr
    · ipureintro; exact fun x hx => absurd hx (Nat.not_lt_zero _)
    · iexact Hs4
  iintro %_ HI
  unfold inv
  icases HI with ⟨Hs0, Hs1, Hs2, Hs3, %f, %hf, Hs4⟩
  sl_exec
  sl_step
  ihave Hg := (Entails.of_eq (landed (F := F) d main_v22_scv _ _)) $$ Hg
  have hfg : gOut (X.ok d) (X.w1 d) (X.w2 d) (X.d0 d) = f := funext fun x => (hf x (lt_of_lt_of_eq (x 0).isLt trips_eq.symm)).symm
  isplitl [Hd Hi Ha Hb Hg]
  · unfold brings
    rw [hfg]
    isplitl [Hd Hi Ha Hb]
    · isplitl [Hd]; · iexact Hd
      isplitl [Hi]; · iexact Hi
      isplitl [Ha]; · iexact Ha
      iexact Hb
    · iexact Hg
  isplitl [Hs0 Hs1 Hs2 Hs3 Hs4 Hbufs]
  · isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    iexact Hbufs
  isplitl [Hc0 Hc1 Hc2 Hc3 Hc4 Hcells]
  · isplitl [Hc0]; · iexact Hc0
    isplitl [Hc1]; · iexact Hc1
    isplitl [Hc2]; · iexact Hc2
    isplitl [Hc3]; · iexact Hc3
    isplitl [Hc4]; · iexact Hc4
    iexact Hcells
  iexists _; isplitr; rotate_left
  · iexact HO
  · ipureintro
    intro p hp
    simp only [Finset.mem_insert] at hp
    rcases hp with rfl | rfl | rfl | rfl | rfl | hp
    · exact .inr rfl
    · exact .inr rfl
    · exact .inr rfl
    · exact .inr rfl
    · exact .inr rfl
    · exact .inl hp

end Tile

/-! ## The idle subcores, and every subcore's task -/

/-- The coordinates of SparseCore `c`'s subcore `i`. -/
def at' (c : Fin (grid0.bound 0)) (i : Fin (grid0.bound 1)) : grid0.Coords :=
  fun | 0 => c | 1 => i | ⟨_ + 2, h⟩ => absurd h (Nat.not_lt.2 (Nat.le_add_left _ _))

/-- A subcore whose condition fails does nothing. -/
theorem body_idle (d : Dev nD) (L : grid0.Coords) (hL : ¬ k0_cond1 L = 1#1) (O : CellTallies nD τ sig (HIx 1)) (W : Waits sig (HIx 1)) (R : sProp 𝕄) :
    iprop(levAts (K (F := F)).L (K (F := F)).lev ∗ emp ∗ emp ∗ R ∗ owes (V d ((L 0).castLE hcore0) ((L 1).castLE hsub0)) O W)
      ⊢ wp frame (wpE (defs₀ (F := F)) 𝒱₀ (V d ((L 0).castLE hcore0) ((L 1).castLE hsub0)) none) Set.univ
          (cc0__gate_body (F := F) L dV (Memref.isWhole_whole _) iV (Memref.isWhole_whole _) aV (Memref.isWhole_whole _) bV (Memref.isWhole_whole _) gV (Memref.isWhole_whole _)
            sD (Memref.isWhole_whole _) sI (Memref.isWhole_whole _) sA (Memref.isWhole_whole _) sB (Memref.isWhole_whole _) sG (Memref.isWhole_whole _)
            cc0_scoped0 cc0_scoped1 cc0_scoped2 cc0_scoped3 cc0_scoped4)
          fun _ => iprop(emp ∗ R ∗ ∃ W', ⌜∀ p ∈ W', p ∈ W ∨ p.2 = none⌝ ∗ owes (V d ((L 0).castLE hcore0) ((L 1).castLE hsub0)) O W') := by
  simp only [cc0__gate_body_eq_skeleton]; unfold cc0__gate_body_skel
  rw [dif_neg hL]
  simp only [Prog.pure_eq_ret, Prog.bind_ret]
  iintro ⟨-, -, -, HR, HO⟩
  rw [wp_ret]; imodintro
  isplitr; · iempintro
  isplitl [HR]; · iexact HR
  iexists W; isplitr
  · ipureintro; exact fun p hp => .inl hp
  · iexact HO

/-- What the call hands SparseCore `c`, and its subcore `i`: everything for the first of each, nothing for the others. -/
def only (A : sProp 𝕄) (n : ℕ) : sProp 𝕄 := if n = 0 then A else iprop(emp)

omit [FloatOps F] [Named F] in
instance only_storable (A : sProp 𝕄) [BI.Storable (upEmb : UEmb _ 𝕄) A] (n : ℕ) : BI.Storable (upEmb : UEmb _ 𝕄) (only A n) := by
  unfold only; split <;> infer_instance

instance takes_storable (d : Dev nD) : BI.Storable (upEmb : UEmb _ 𝕄) (takes X d) := by unfold takes tabs; infer_instance
instance brings_storable (d : Dev nD) : BI.Storable (upEmb : UEmb _ 𝕄) (brings X d) := by unfold brings tabs; infer_instance

def P : (K (F := F)).Pay (nD := nD) (Val := Elt F) (Name := ℕ) (U := UU) where
  st := fun _ d c => only (takes X d) c.val
  dn := fun _ d c => only (brings X d) c.val
  go := fun _ d c i => only (only (takes X d) c.val) i.val
  td := fun _ d c i => only (only (brings X d) c.val) i.val
  x := fun _ _ => iprop(emp)

instance P_storable : (P X).IsStorable where
  st _ d c := by unfold P; infer_instance
  dn _ d c := by unfold P; infer_instance
  go _ _ _ _ := by unfold P; infer_instance
  td _ _ _ _ := by unfold P; infer_instance

theorem defs₀_vector (c : Fin τ.nSC) (s : Fin τ.nSub) :
    defs₀ (F := F) (.scVector c s) 0 ()
      = SparseCore.onTile hcore0 hsub0 (fun c s => cc0__gate_body (at' c s) dV (Memref.isWhole_whole _) iV (Memref.isWhole_whole _) aV (Memref.isWhole_whole _) bV (Memref.isWhole_whole _) gV (Memref.isWhole_whole _)
            sD (Memref.isWhole_whole _) sI (Memref.isWhole_whole _) sA (Memref.isWhole_whole _) sB (Memref.isWhole_whole _) sG (Memref.isWhole_whole _)
            cc0_scoped0 cc0_scoped1 cc0_scoped2 cc0_scoped3 cc0_scoped4) ⟨⟩ c s := rfl

omit [FloatOps F] [Named F] in
/-- The waits a task records are its own: none is a handshake's. -/
theorem waits_weaken {thr : Thread nD τ} {A B C : sProp 𝕄} {O : CellTallies nD τ sig (HIx 1)} {W : Waits sig (HIx 1)} {q : Fin 1} :
    iprop(A ∗ (B ∗ C) ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, ⟨HB, HC⟩, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] [Named F] in
theorem regroup (L B C O : sProp 𝕄) : iprop(L ∗ emp ∗ emp ∗ B ∗ C ∗ O) ⊢ iprop(L ∗ emp ∗ emp ∗ (B ∗ C) ∗ O) := by
  iintro ⟨HL, -, -, HB, HC, HO⟩
  isplitl [HL]; · iexact HL
  isplitr; · iempintro
  isplitr; · iempintro
  isplitl [HB HC]; · isplitl [HB] <;> iassumption
  iexact HO

/-- Subcore `(c, i)`'s task: the first subcore of the first SparseCore works, the others are idle. -/
theorem tile_body (d : Dev nD) (c : Fin (grid0.bound 0)) (i : Fin (grid0.bound 1)) (O : CellTallies nD τ sig (HIx 1)) (W : Waits sig (HIx 1)) (hO : ∀ g, O g none = 0) :
    iprop(levAts (K (F := F)).L (K (F := F)).lev ∗ emp ∗ only (only (takes X d) c.val) i.val
        ∗ scopedBufs (V d (c.castLE hcore0) (i.castLE hsub0)) ∗ scopedSems0 (V d (c.castLE hcore0) (i.castLE hsub0)) ∗ owes (V d (c.castLE hcore0) (i.castLE hsub0)) O W)
      ⊢ wp frame (wpE (defs₀ (F := F)) 𝒱₀ (V d (c.castLE hcore0) (i.castLE hsub0)) none) Set.univ
          (cc0__gate_body (F := F) (at' c i) dV (Memref.isWhole_whole _) iV (Memref.isWhole_whole _) aV (Memref.isWhole_whole _) bV (Memref.isWhole_whole _) gV (Memref.isWhole_whole _)
            sD (Memref.isWhole_whole _) sI (Memref.isWhole_whole _) sA (Memref.isWhole_whole _) sB (Memref.isWhole_whole _) sG (Memref.isWhole_whole _)
            cc0_scoped0 cc0_scoped1 cc0_scoped2 cc0_scoped3 cc0_scoped4)
          fun _ => iprop(only (only (brings X d) c.val) i.val ∗ (scopedBufs (V d (c.castLE hcore0) (i.castLE hsub0)) ∗ scopedSems0 (V d (c.castLE hcore0) (i.castLE hsub0)))
            ∗ ∃ W', ⌜∀ p ∈ W', p ∈ W ∨ p.2 = none⌝ ∗ owes (V d (c.castLE hcore0) (i.castLE hsub0)) O W') := by
  by_cases h : c.val = 0 ∧ i.val = 0
  · obtain rfl : c = ⟨0, by decide⟩ := Fin.ext h.1
    obtain rfl : i = ⟨0, by decide⟩ := Fin.ext h.2
    have ho (A : sProp 𝕄) : only (only A 0) 0 = A := by unfold only; rw [if_pos rfl, if_pos rfl]
    rw [show only (only (takes X d) (⟨0, by decide⟩ : Fin (grid0.bound 0)).val) (⟨0, by decide⟩ : Fin (grid0.bound 1)).val = takes X d from ho _,
      show only (only (brings X d) (⟨0, by decide⟩ : Fin (grid0.bound 0)).val) (⟨0, by decide⟩ : Fin (grid0.bound 1)).val = brings X d from ho _]
    refine (body_works X d O W hO).trans (wp_mono frame _ _ fun _ => ?_)
    iintro ⟨HA, HB, HC, HD⟩
    isplitl [HA]; · iexact HA
    isplitl [HB HC]
    · isplitl [HB]; · iexact HB
      iexact HC
    iexact HD
  · have ho (A : sProp 𝕄) : only (only A c.val) i.val = iprop(emp) := by
      unfold only
      by_cases hi : i.val = 0
      · rw [if_pos hi, if_neg fun hc => h ⟨hc, hi⟩]
      · rw [if_neg hi]
    have hL : ¬ k0_cond1 (at' c i) = 1#1 := by
      revert h
      exact (show ∀ (c : Fin 2) (i : Fin 16), ¬ (c.val = 0 ∧ i.val = 0) → ¬ k0_cond1 (at' c i) = 1#1 by decide +kernel) c i
    rw [ho, ho]
    exact (regroup _ _ _ _).trans (body_idle d (at' c i) hL O W iprop(scopedBufs (V d (c.castLE hcore0) (i.castLE hsub0)) ∗ scopedSems0 (V d (c.castLE hcore0) (i.castLE hsub0))))

theorem tileObl : (K (F := F)).TileObl (D (F := F)) 𝒱 (P X) v₀ 0 := by
  intro d c i O W hO _ _
  simp only [show (P X).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body X d ⟨_, hc.1⟩ ⟨_, hc.2⟩ O W hO).trans (wp_mono frame _ _ fun _ => waits_weaken)

omit [FloatOps F] [Named F] in
/-- Of a row of handovers all but the first of which are nothing, the first remains. -/
theorem bigSep_only {n : ℕ} (A : sProp 𝕄) : (bigSep Finset.univ fun i : Fin (n + 1) => only A i.val) = A := by
  rw [show (Finset.univ : Finset (Fin (n + 1))) = insert 0 (Finset.univ.erase 0) from (Finset.insert_erase (Finset.mem_univ 0)).symm,
    SparseCore.bigSep_insert' (Finset.notMem_erase _ _),
    bigSep_congr (show ∀ i ∈ Finset.univ.erase (0 : Fin (n + 1)), only A i.val = iprop(emp) from
      fun i hi => if_neg fun h => (Finset.ne_of_mem_erase hi) (Fin.ext h)),
    show (bigSep (Finset.univ.erase (0 : Fin (n + 1))) fun _ => iprop(emp)) = (iprop(emp) : sProp 𝕄) from bigSep_emp_const _]
  exact equiv_iff.mp BI.sep_emp

theorem vecSplit : (K (F := F)).VecSplit' (P X) 0 := by
  intro d c
  show only (takes X d) c.val ⊢ |={Set.univ}=> iprop((bigSep Finset.univ fun i : Fin 16 => only (only (takes X d) c.val) i.val)
    ∗ ((bigSep Finset.univ fun i : Fin 16 => only (only (brings X d) c.val) i.val) -∗ only (brings X d) c.val))
  rw [bigSep_only (n := 15), bigSep_only (n := 15)]
  iintro H; imodintro
  isplitl [H]; · iexact H
  iintro H; iexact H

end Cert.GateIdealRun
end
-- ==== Proof.GateIdealMain.lean ====
/-
  The gate program from its arguments to its result: the host operations before the call (the flat index table, the two
  scalar tables, the copies of the initial importances), the call by `Cert.GateIdealRun`'s tasks, the slice after it. The
  result is `result`, a function of the three arguments.
-/
module

public import proofs.«01_k».proof.Proof.GateIdealRun
public import Idealize.ShloMosaic.Lib.Pipeline.Frame
public import Idealize.ShloMosaic.Lib.KernelVsHost
public import Idealize.ShloMosaic.Lib.ReduceAll
public import Idealize.ShloMosaic.Lib.WordCmp

@[expose] public section

noncomputable section

namespace Cert.GateIdealRun

open Cert.GateIdeal Cert.GateIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after seq wp_hlo_within wp_seq)
open Idealize.ShloMosaic.Tactic Idealize.ShloMosaic.WordCmp

variable {F : FTy → Type} [FloatOps F] [Named F]

local notation "𝕄" => MT nD τ sig (SparseCore.Cfg.HIx 1) (Elt F) ℕ UU ℕ

/-! ## The host operations -/

/-- The operations before the call. -/
abbrev ops : List (HloOp τ sig (Elt F)) :=
  [ StableHlo.reshape main_arg0 main_v0 (rfl : (.i32 : EltTy) = .i32) shapeCasts_S512x3_S4x128x3,
    StableHlo.unary main_v0 main_v1 ((transpose S128x3x4 [1, 2, 0] · transposes_S4x128x3_S128x3x4_1_2_0) : (⟨S4x128x3, .i32⟩ : BufTy).Contents (Elt F) → (⟨S128x3x4, .i32⟩ : BufTy).Contents (Elt F)),
    StableHlo.nullary main_v2 (iotaInDim S4 32 0),
    StableHlo.nullary main_c (constantI S_ 32 64#32),
    StableHlo.unary main_c main_v3 (broadcastInDim S4 ![] bcast_S_S4 : (⟨S_, .i32⟩ : BufTy).Contents (Elt F) → (⟨S4, .i32⟩ : BufTy).Contents (Elt F)),
    StableHlo.binary main_v2 main_v3 main_v4 (muli : (⟨S4, .i32⟩ : BufTy).Contents (Elt F) → (⟨S4, .i32⟩ : BufTy).Contents (Elt F) → (⟨S4, .i32⟩ : BufTy).Contents (Elt F)),
    StableHlo.unary main_v4 main_v5 (broadcastInDim S1x1x4 ![2] bcast_S4_S1x1x4_2 : (⟨S4, .i32⟩ : BufTy).Contents (Elt F) → (⟨S1x1x4, .i32⟩ : BufTy).Contents (Elt F)),
    StableHlo.unary main_v5 main_v6 (broadcastInDim S128x3x4 ![0, 1, 2] bcast_S1x1x4_S128x3x4_0_1_2 : (⟨S1x1x4, .i32⟩ : BufTy).Contents (Elt F) → (⟨S128x3x4, .i32⟩ : BufTy).Contents (Elt F)),
    StableHlo.binary main_v1 main_v6 main_v7 (addi : (⟨S128x3x4, .i32⟩ : BufTy).Contents (Elt F) → (⟨S128x3x4, .i32⟩ : BufTy).Contents (Elt F) → (⟨S128x3x4, .i32⟩ : BufTy).Contents (Elt F)),
    StableHlo.nullary main_c_0 (constantI S_ 32 0#32),
    StableHlo.TRef.unary (.of main_c_0 : StableHlo.TRef sig ⟨S_, .i32⟩) main_call0.v0 id,
    StableHlo.TRef.binary (.of main_v7 : StableHlo.TRef sig ⟨S128x3x4, .i32⟩) main_call0.v0 main_call0.v1 (fun x v => pad S128x3x16 ![0, 0, 0] ![0, 0, 12] ![0, 0, 0] x v pads_S128x3x4_S128x3x16_000_000_0120 h_S_),
    StableHlo.reshape main_arg1 main_v9 (rfl : (.f32 : EltTy) = .f32) shapeCasts_S512x2_S4x128x2,
    StableHlo.unary main_v9 main_v10 ((extractStridedSlice S4x128x1 ![0, 0, 0] · slices_S4x128x2_S4x128x1_0_0_0) : (⟨S4x128x2, .f32⟩ : BufTy).Contents (Elt F) → (⟨S4x128x1, .f32⟩ : BufTy).Contents (Elt F)),
    StableHlo.reshape main_v10 main_v11 (rfl : (.f32 : EltTy) = .f32) shapeCasts_S4x128x1_S4x128,
    StableHlo.unary main_v11 main_v12 ((transpose S128x4 [1, 0] · transposes_S4x128_S128x4_1_0) : (⟨S4x128, .f32⟩ : BufTy).Contents (Elt F) → (⟨S128x4, .f32⟩ : BufTy).Contents (Elt F)),
    StableHlo.nullary main_c_1 (constantI S_ 32 0#32),
    StableHlo.TRef.unary (.of main_c_1 : StableHlo.TRef sig ⟨S_, .i32⟩) main_call1.v0 (sitofp .f32),
    StableHlo.TRef.binary (.of main_v12 : StableHlo.TRef sig ⟨S128x4, .f32⟩) main_call1.v0 main_call1.v1 (fun x v => pad S128x16 ![0, 0] ![0, 12] ![0, 0] x v pads_S128x4_S128x16_000_0120 h_S_),
    StableHlo.unary main_v9 main_v14 ((extractStridedSlice S4x128x1 ![0, 0, 1] · slices_S4x128x2_S4x128x1_0_0_1) : (⟨S4x128x2, .f32⟩ : BufTy).Contents (Elt F) → (⟨S4x128x1, .f32⟩ : BufTy).Contents (Elt F)),
    StableHlo.reshape main_v14 main_v15 (rfl : (.f32 : EltTy) = .f32) shapeCasts_S4x128x1_S4x128,
    StableHlo.unary main_v15 main_v16 ((transpose S128x4 [1, 0] · transposes_S4x128_S128x4_1_0) : (⟨S4x128, .f32⟩ : BufTy).Contents (Elt F) → (⟨S128x4, .f32⟩ : BufTy).Contents (Elt F)),
    StableHlo.nullary main_c_2 (constantI S_ 32 0#32),
    StableHlo.TRef.unary (.of main_c_2 : StableHlo.TRef sig ⟨S_, .i32⟩) main_call2.v0 (sitofp .f32),
    StableHlo.TRef.binary (.of main_v16 : StableHlo.TRef sig ⟨S128x4, .f32⟩) main_call2.v0 main_call2.v1 (fun x v => pad S128x16 ![0, 0] ![0, 12] ![0, 0] x v pads_S128x4_S128x16_000_0120 h_S_),
    StableHlo.reshape main_arg2 main_v18 (rfl : (.f32 : EltTy) = .f32) shapeCasts_S64x1_S64,
    StableHlo.reshape main_v18 main_v19 (rfl : (.f32 : EltTy) = .f32) shapeCasts_S64_S1x64,
    StableHlo.unary main_v19 main_v20 (broadcastInDim S4x64 ![0, 1] bcast_S1x64_S4x64_0_1 : (⟨S1x64, .f32⟩ : BufTy).Contents (Elt F) → (⟨S4x64, .f32⟩ : BufTy).Contents (Elt F)),
    StableHlo.reshape main_v20 main_v21 (rfl : (.f32 : EltTy) = .f32) shapeCasts_S4x64_S256 ]

/-- The slice after it. -/
abbrev opOut : HloOp τ sig (Elt F) := StableHlo.unary main_v22 main_v23 ((extractStridedSlice S128x4 ![0, 0] · slices_S128x16_S128x4_0_0) : (⟨S128x16, .f32⟩ : BufTy).Contents (Elt F) → (⟨S128x4, .f32⟩ : BufTy).Contents (Elt F))

theorem main_eq (d : Dev nD) : main (F := F) d
    = (seq ops >>= fun _ => (K (F := F)).run d 0 >>= fun _ => hlo rfl (opOut (F := F)) (fun _ => .ret (⟨⟩ : PUnit)) >>= fun _ => pure ⟨⟩) := by
  simp only [main, fn_pad.body, fn_pad_0.body, ops, seq, bind_assoc, pure_bind]

/-! ## The tables -/

/-- The flat index table: each lane's three slots shifted by 64 per lane, the lanes past the fourth zero. -/
def fiOf (a : Vec F S512x3 .i32) : Vec F S128x3x16 .i32 :=
  pad S128x3x16 ![0, 0, 0] ![0, 0, 12] ![0, 0, 0]
    (addi (transpose S128x3x4 [1, 2, 0] (shapeCast S4x128x3 a shapeCasts_S512x3_S4x128x3) transposes_S4x128x3_S128x3x4_1_2_0)
      (broadcastInDim S128x3x4 ![0, 1, 2] bcast_S1x1x4_S128x3x4_0_1_2 (broadcastInDim S1x1x4 ![2] bcast_S4_S1x1x4_2
        (muli (iotaInDim S4 32 0) (broadcastInDim S4 ![] bcast_S_S4 (constantI S_ 32 64#32))))))
    (constantI S_ 32 0#32) pads_S128x3x4_S128x3x16_000_000_0120 h_S_

/-- A table of the chunks' `j`-th scalar, lane `b` the batch row `b`'s, the lanes past the fourth zero. -/
def wOf (off : Fin 3 → ℕ) (hs : S4x128x2.Slices off S4x128x1) (a : Vec F S512x2 .f32) : Vec F S128x16 .f32 :=
  pad S128x16 ![0, 0] ![0, 12] ![0, 0]
    (transpose S128x4 [1, 0] (shapeCast S4x128 (extractStridedSlice S4x128x1 off (shapeCast S4x128x2 a shapeCasts_S512x2_S4x128x2) hs)
      shapeCasts_S4x128x1_S4x128) transposes_S4x128_S128x4_1_0)
    (sitofp .f32 (constantI S_ 32 0#32)) pads_S128x4_S128x16_000_0120 h_S_
def w1Of (a : Vec F S512x2 .f32) : Vec F S128x16 .f32 := wOf ![0, 0, 0] slices_S4x128x2_S4x128x1_0_0_0 a
def w2Of (a : Vec F S512x2 .f32) : Vec F S128x16 .f32 := wOf ![0, 0, 1] slices_S4x128x2_S4x128x1_0_0_1 a

/-- Four copies of the initial importances, one after the other. -/
def d0Of (a : Vec F S64x1 .f32) : Vec F S256 .f32 :=
  shapeCast S256 (broadcastInDim S4x64 ![0, 1] bcast_S1x64_S4x64_0_1 (shapeCast S1x64 (shapeCast S64 a shapeCasts_S64x1_S64) shapeCasts_S64_S1x64)) shapeCasts_S4x64_S256

variable (V : Valuation τ sig (Elt F))

abbrev ref (b : Ref sig .tc) : DevRef τ sig := Proc.devRef .tc b

theorem after_v8 : after (ops (F := F)) V (ref main_v8) = fiOf (V (ref main_arg0)) := by after_results_simp; rfl
theorem after_v13 : after (ops (F := F)) V (ref main_v13) = w1Of (V (ref main_arg1)) := by after_results_simp; rfl
theorem after_v17 : after (ops (F := F)) V (ref main_v17) = w2Of (V (ref main_arg1)) := by after_results_simp; rfl
theorem after_v21 : after (ops (F := F)) V (ref main_v21) = d0Of (V (ref main_arg2)) := by after_results_simp; rfl

/-! ### The index table at an index -/

/-- The entry of the slot table that lane `b` of chunk `c` has for its `j`-th slot. -/
def slotAt (c : Fin 128) (j : Fin 3) (b : Fin 4) : S512x3.Idx :=
  fun a => match a with | 0 => ⟨128 * b.val + c.val, by show _ < 512; omega⟩ | 1 => j

theorem fiOf_lane (a : Vec F S512x3 .i32) (j : S128x3x16.Idx) (b : Fin 4) (hb : (j 2).val = b.val) :
    fiOf a j = IntOp.addi (a (slotAt (j 0) (j 1) b)) (IntOp.muli (BitVec.ofNat 32 b.val) 64#32) := by
  unfold fiOf
  rw [pad_apply_of_inside _ _ _ _ _ _ _ j (show S128x3x4.Idx from fun a => match a with | 0 => j 0 | 1 => j 1 | 2 => b) (by
    intro a; fin_cases a
    · simp
    · simp
    · simpa using hb)]
  show IntOp.addi _ _ = _
  congr 1
  · rw [transpose_apply _ _ _ _ (show S4x128x3.Idx from fun a => match a with | 0 => b | 1 => j 0 | 2 => j 1) (by
      intro a; fin_cases a <;> rfl)]
    exact shapeCast_apply _ _ _ _ (by
      rw [Shape.rowMajor_val_two, Shape.rowMajor_val_three]
      simp [slotAt]; omega)

theorem fiOf_pad (a : Vec F S512x3 .i32) (j : S128x3x16.Idx) (hj : ¬ (j 2).val < 4) : fiOf a j = 0#32 := by
  unfold fiOf
  rw [pad_apply_of_not_inside _ _ _ _ _ _ _ j 2 (by
    show ¬ (0 ≤ (j 2).val ∧ ((j 2).val - 0) % 1 = 0 ∧ ((j 2).val - 0) / 1 < 4)
    omega)]
  rfl

theorem fiOf_toNat (a : Vec F S512x3 .i32) (ha : ∀ i, (a i).toNat < 64) (j : S128x3x16.Idx) (b : Fin 4) (hb : (j 2).val = b.val) :
    (fiOf a j).toNat = (a (slotAt (j 0) (j 1) b)).toNat + 64 * b.val := by
  rw [fiOf_lane a j b hb]
  have := ha (slotAt (j 0) (j 1) b)
  have hb4 := b.isLt
  simp only [IntOp.addi, IntOp.muli, BitVec.toNat_add, BitVec.toNat_mul, BitVec.toNat_ofNat]
  omega

theorem fiOf_inRange (a : Vec F S512x3 .i32) (ha : ∀ i, (a i).toNat < 64) : InRange (fiOf a) := by
  intro j
  by_cases hj : (j 2).val < 4
  · rw [fiOf_toNat a ha j ⟨(j 2).val, hj⟩ rfl]
    have := ha (slotAt (j 0) (j 1) ⟨(j 2).val, hj⟩)
    show _ + 64 * (j 2).val < 256
    omega
  · rw [fiOf_pad a j hj]; decide

/-! ## The run -/

variable (m : (ℓ : Loc nD τ sig) → Buf (Elt F) ℓ) (ρ : Dev nD → PrngReg)

/-- Every slot index of the argument names a slot. -/
def SlotsOK : Prop := ∀ d : Dev nD, ∀ i : S512x3.Idx, ((m ((SparseCore.T d).loc main_arg0) : Vec F S512x3 .i32) i).toNat < 64

variable (hm : SlotsOK m)

/-- The four tables of the call. -/
def tablesOf : Tables F where
  d0 := fun d => d0Of (m ((SparseCore.T d).loc main_arg2))
  fi := fun d => fiOf (m ((SparseCore.T d).loc main_arg0))
  w1 := fun d => w1Of (m ((SparseCore.T d).loc main_arg1))
  w2 := fun d => w2Of (m ((SparseCore.T d).loc main_arg1))
  ok := fun d => fiOf_inRange _ (hm d)

/-- The gates the call leaves on device `d`. -/
def gates (d : Dev nD) : Vec F S128x16 .f32 :=
  gOut ((tablesOf m hm).ok d) ((tablesOf m hm).w1 d) ((tablesOf m hm).w2 d) ((tablesOf m hm).d0 d)

/-- The program's result: the gates of the four batch rows. -/
def result (d : Dev nD) : Vec F S128x4 .f32 := extractStridedSlice S128x4 ![0, 0] (gates m hm d) slices_S128x16_S128x4_0_0

def V0 (d : Dev nD) : Valuation τ sig (Elt F) := fun b => m (d, b)
abbrev V1 (d : Dev nD) : Valuation τ sig (Elt F) := after ops (V0 m d)
def V2 (d : Dev nD) : Valuation τ sig (Elt F) := Function.update (V1 m d) (ref main_v22) (gates m hm d)
def V3 (d : Dev nD) : Valuation τ sig (Elt F) := (opOut (F := F)).result (V2 m hm d)

abbrev UC : Finset (DevRef τ sig) := Pipeline.ucRefs τ sig

/-- The call's arrays: its four tables, and the gates. -/
abbrev S5 : Finset (DevRef τ sig) := {ref main_v21, ref main_v8, ref main_v13, ref main_v17, ref main_v22}

theorem S5_sub : S5 ⊆ UC := by decide +kernel

theorem held_S5 (d : Dev nD) (W : Valuation τ sig (Elt F)) :
    (held (T d) S5 W : sProp 𝕄) = iprop((dLoc d ↦{fullShare} W (ref main_v21)) ∗ (iLoc d ↦{fullShare} W (ref main_v8)) ∗ (aLoc d ↦{fullShare} W (ref main_v13))
      ∗ (bLoc d ↦{fullShare} W (ref main_v17)) ∗ gLoc d ↦{fullShare} W (ref main_v22)) := by
  unfold held S5
  rw [SparseCore.bigSep_insert' (by decide), SparseCore.bigSep_insert' (by decide), SparseCore.bigSep_insert' (by decide),
    SparseCore.bigSep_insert' (by decide), bigSep_singleton]

/-- The call's arrays before it are what it takes, and after it what it brings. -/
theorem held_takes (d : Dev nD) : (held (T d) S5 (V1 m d) : sProp 𝕄) ⊢ takes (tablesOf m hm) d := by
  rw [held_S5]
  unfold takes V1
  rw [after_v21, after_v8, after_v13, after_v17]
  iintro ⟨Hd, Hi, Ha, Hb, Hg⟩
  isplitl [Hd Hi Ha Hb]
  · isplitl [Hd]; · iexact Hd
    isplitl [Hi]; · iexact Hi
    isplitl [Ha]; · iexact Ha
    iexact Hb
  · iexists _; iexact Hg

theorem V2_ne (d : Dev nD) (b : DevRef τ sig) (h : b ≠ ref main_v22) : V2 m hm d b = V1 m d b := Function.update_of_ne h _ _

theorem brings_held (d : Dev nD) : brings (tablesOf m hm) d ⊢ (held (T d) S5 (V2 m hm d) : sProp 𝕄) := by
  rw [held_S5, V2_ne _ _ _ _ (by decide), V2_ne _ _ _ _ (by decide), V2_ne _ _ _ _ (by decide), V2_ne _ _ _ _ (by decide)]
  unfold brings V1
  rw [after_v21, after_v8, after_v13, after_v17, show V2 m hm d (ref main_v22) = gates m hm d from Function.update_self _ _ _]
  iintro ⟨⟨Hd, Hi, Ha, Hb⟩, Hg⟩
  isplitl [Hd]; · iexact Hd
  isplitl [Hi]; · iexact Hi
  isplitl [Ha]; · iexact Ha
  isplitl [Hb]; · iexact Hb
  iexact Hg

theorem st_eq (d : Dev nD) : (bigSep Finset.univ fun c : Fin ((K (F := F)).nCore 0) => (P (tablesOf m hm)).st 0 d c) = takes (tablesOf m hm) d :=
  bigSep_only (n := 1) _
theorem dn_eq (d : Dev nD) : (bigSep Finset.univ fun c : Fin ((K (F := F)).nCore 0) => (P (tablesOf m hm)).dn 0 d c) = brings (tablesOf m hm) d :=
  bigSep_only (n := 1) _

/-- The call writes only its result. -/
theorem held_rest (d : Dev nD) : (held (T d) (UC \ S5) (V1 m d) : sProp 𝕄) ⊢ held (T d) (UC \ S5) (V2 m hm d) :=
  Entails.of_eq (StableHlo.held_congr _ fun b hb =>
    (V2_ne m hm d b fun h => (Finset.mem_sdiff.mp hb).2 (by rw [h]; decide)).symm)

theorem ops_sub : ∀ op ∈ ops (F := F), op.bufs ⊆ UC := fun op hop => Pipeline.sub_ucRefs op (List.forall_iff_forall_mem.mp
  (show (ops (F := F)).Forall fun op => op.bufs ⊆ StableHlo.tcRefs τ sig from
  ⟨StableHlo.reshape_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.reshape_bufs_sub .., StableHlo.unary_bufs_sub .., StableHlo.reshape_bufs_sub .., StableHlo.unary_bufs_sub .., StableHlo.nullary_bufs_sub .., StableHlo.unary_bufs_sub .., StableHlo.binary_bufs_sub .., StableHlo.unary_bufs_sub .., StableHlo.reshape_bufs_sub .., StableHlo.unary_bufs_sub .., StableHlo.nullary_bufs_sub .., StableHlo.unary_bufs_sub .., StableHlo.binary_bufs_sub .., StableHlo.reshape_bufs_sub .., StableHlo.reshape_bufs_sub .., StableHlo.unary_bufs_sub .., StableHlo.reshape_bufs_sub ..⟩) op hop)

theorem ops_fresh : ∀ op ∈ ops (F := F), op.fresh = ∅ := List.forall_iff_forall_mem.mp (StableHlo.forall_fresh_of_map rfl)

abbrev FIN (d : Dev nD) : sProp 𝕄 := held (T d) UC (V3 m hm d)

theorem hmain (κ : GSem nD τ sig → ℕ) (d : Dev nD) :
    iprop((K (F := F)).ctx EH (P (tablesOf m hm)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m hm d ∗ (K (F := F)).tcEnd d) := by
  unfold SparseCore.Cfg.tcRes SparseCore.Cfg.tcEnd
  rw [main_eq, show (unscopedBufs d (fun b => m ((SparseCore.T d).loc b)) : sProp 𝕄) = held (T d) UC (V0 m d) from Pipeline.unscopedBufs_held d (V0 m d)]
  iintro ⟨#Hctx, Hst, ⟨Hb, Hheld, Hts, -⟩, -⟩
  iapply (wp_seq 𝒱 none Set.univ d UC _ ops ops_sub ops_fresh (V0 m d)) $$ [Hb Hheld]
  · isplitl [Hb] <;> iassumption
  iintro ⟨Hb, Hheld⟩
  ihave Hheld := (Entails.of_eq (StableHlo.held_sub_split (c := T d) S5_sub (after ops (V0 m d)))) $$ Hheld
  icases Hheld with ⟨H5, Hrest⟩
  rw [wp_bind]
  iapply ((K (F := F)).wp_run (D (F := F)) 𝒱 (EH := EH) (P := P (tablesOf m hm)) κ d 0) $$ [Hst H5 Hb Hrest Hts]
  isplitr; · iexact Hctx
  isplitl [Hst]; · iexact Hst
  isplitl [H5]
  · iapply ((held_takes m hm d).trans (Entails.of_eq (st_eq m hm d).symm)); iexact H5
  iintro ⟨Hst, Hdn⟩
  ihave H5 := ((Entails.of_eq (dn_eq m hm d)).trans (brings_held m hm d)) $$ Hdn
  ihave Hrest := (held_rest m hm d) $$ Hrest
  ihave Hheld := (Entails.of_eq (StableHlo.held_sub_split (c := T d) S5_sub (V2 m hm d)).symm) $$ [H5 Hrest]
  · isplitl [H5] <;> iassumption
  rw [wp_bind]
  iapply (wp_hlo_within 𝒱 (SparseCore.T d) none Set.univ (op := opOut) (S := UC) (Pipeline.sub_ucRefs _ (StableHlo.unary_bufs_sub ..)) (V := V2 m hm d)) $$ [Hb Hheld]
  · isplitl [Hb] <;> iassumption
  iintro ⟨Hb, Hheld⟩
  rw [wp_ret]; imodintro
  rw [wp_pure]; imodintro
  isplitl [Hst]; · iexact Hst
  isplitl [Hheld]; · iexact Hheld
  isplitl [Hb] <;> iassumption

/-! ## What the memory holds at the end -/

theorem V3_ne (d : Dev nD) (b : DevRef τ sig) (h : b ≠ ref main_v23) : V3 m hm d b = V2 m hm d b :=
  (opOut (F := F)).result_of_not_mem (V2 m hm d) (by rw [StableHlo.unary_writes, Finset.mem_singleton]; exact h)

theorem V3_arg0 (d : Dev nD) : V3 m hm d (ref main_arg0) = m ((SparseCore.T d).loc main_arg0) := by
  refine (V3_ne m hm d _ (by decide)).trans ((V2_ne m hm d _ (by decide)).trans ?_)
  unfold V1; after_results_simp; rfl
theorem V3_arg1 (d : Dev nD) : V3 m hm d (ref main_arg1) = m ((SparseCore.T d).loc main_arg1) := by
  refine (V3_ne m hm d _ (by decide)).trans ((V2_ne m hm d _ (by decide)).trans ?_)
  unfold V1; after_results_simp; rfl
theorem V3_arg2 (d : Dev nD) : V3 m hm d (ref main_arg2) = m ((SparseCore.T d).loc main_arg2) := by
  refine (V3_ne m hm d _ (by decide)).trans ((V2_ne m hm d _ (by decide)).trans ?_)
  unfold V1; after_results_simp; rfl
theorem V3_out (d : Dev nD) : V3 m hm d (ref main_v23) = result m hm d := by
  refine (StableHlo.unary_result main_v22 main_v23 _ _ _ (V2 m hm d)).trans ?_
  rw [show V2 m hm d (ref main_v22) = gates m hm d from Function.update_self _ _ _]
  rfl

def fq (d : Dev nD) (s' : Phys nD τ sig (Elt F)) : Prop := ∀ b ∈ UC, s'.mem.mem (d, b) = V3 m hm d b

theorem hfin (d : Dev nD) (s' : Phys nD τ sig (Elt F)) : iprop(FIN m hm d ∗ SI s') ⊢ (⌜fq m hm d s'⌝ : sProp 𝕄) :=
  sep_comm.trans (SI_pointsTo_bufs_agree (st := s') (c := d) (qs := fun _ => fullShare) (F := V3 m hm d) UC)

/-- The gates are in the result, the arguments are as they were, and no semaphore is raised. -/
def QC : PUnit × MemSt nD τ sig (Elt F) → Prop := fun r =>
  (∀ c : Dev nD, r.2.mem ((SparseCore.T c).loc main_v23) = result m hm c ∧ r.2.mem ((SparseCore.T c).loc main_arg0) = m ((SparseCore.T c).loc main_arg0)
    ∧ r.2.mem ((SparseCore.T c).loc main_arg1) = m ((SparseCore.T c).loc main_arg1) ∧ r.2.mem ((SparseCore.T c).loc main_arg2) = m ((SparseCore.T c).loc main_arg2))
  ∧ r.2.sem = fun _ => 0

def u₀ : UU := (initOf (K (F := F)).hsCells (K (F := F)).hsToks, 1)

theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P (tablesOf m hm)).x q thr) := by
  unfold u₀
  iintro Hu
  ihave H := (ownU_pair _ _) $$ Hu
  icases H with ⟨HH, -⟩
  imodintro
  isplitl [HH]; · iexact HH
  isplitr; · rw [show (bigSep Finset.univ fun _ : Dev nD => (iprop(emp) : sProp 𝕄)) = iprop(emp) from bigSep_none _]; iempintro
  rw [show (bigSep Finset.univ fun thr : Thread nD τ => bigSep Finset.univ fun q : Fin 1 => (P (tablesOf m hm)).x q thr) = (iprop(emp) : sProp 𝕄) from by
    show (bigSep Finset.univ fun _ : Thread nD τ => bigSep Finset.univ fun _ : Fin 1 => (iprop(emp) : sProp 𝕄)) = iprop(emp)
    rw [bigSep_congr fun _ _ => bigSep_none _, bigSep_none]]
  iempintro

theorem run_main [∀ e, Nonempty (Elt F e)] : θ_run (Cert.GateIdeal.defs (F := F)) (Cert.GateIdeal.threads (F := F)) ⟨m, fun _ => 0, ρ⟩ (QC m hm) :=
  SparseCore.Cfg.θ_run_sc_quiescent (K := K (F := F)) (D := D (F := F)) (𝒱 := 𝒱) (EH := EH) (P := P (tablesOf m hm)) (A := ∅) facts v₀
    (fun q hq => match q with | 0 => nomatch hq)
    (fun q _ => match q with | 0 => tileObl (tablesOf m hm))
    (fun q _ => match q with | 0 => SparseCore.Cfg.VecSplit.of_plain (vecSplit (tablesOf m hm)))
    m ρ main (fun _ => iprop(emp)) (FIN m hm) (u₀ (F := F)) (sep_elim_left.trans (hu₀ m hm)) (hmain m ρ hm) (fq m hm) (hfin m hm) (QC m hm)
    (fun s h hz => ⟨fun c => ⟨(h c (ref main_v23) (by decide +kernel)).trans (V3_out m hm c), (h c (ref main_arg0) (by decide +kernel)).trans (V3_arg0 m hm c),
      (h c (ref main_arg1) (by decide +kernel)).trans (V3_arg1 m hm c), (h c (ref main_arg2) (by decide +kernel)).trans (V3_arg2 m hm c)⟩, hz⟩)

/-! ## The precondition -/

theorem lt_of_pre [Cert.Pre_in_range.Facts] (a0 : IVec S512x3 32) (a1 : FVec F S512x2 .f32) (a2 : FVec F S64x1 .f32)
    (h : Cert.Pre_in_range.fn a0 a1 a2 = fun _ => 1#1) (i : S512x3.Idx) : (a0 i).toNat < 64 := by
  haveI : Subsingleton Cert.Pre_in_range.S_.Idx := ⟨fun _ _ => funext fun a => a.elim0⟩
  have e := Host.reduce_andi_all _ _ _ _ (fun a => a.elim0) (congrFun h fun a => a.elim0) i
  obtain ⟨h0, h1⟩ := IntOp.andi_eq_one.1 (show IntOp.andi (IntOp.cmpi .sge (a0 i) 0#32) (IntOp.cmpi .slt (a0 i) 64#32) = 1#1 from e)
  rw [cmpi_sge_zero] at h0
  rw [cmpi_slt_eq] at h1
  have p0 : (a0 i).toNat < 2 ^ 31 := by
    by_contra hc
    rw [decide_eq_false hc] at h0
    exact absurd h0 (by decide)
  have p1 : (a0 i).toInt < 64 := by
    by_contra hc
    rw [show decide ((a0 i).toInt < (64#32).toInt) = false from decide_eq_false hc] at h1
    exact absurd h1 (by decide)
  rw [BitVec.toInt_eq_toNat_of_lt (by omega)] at p1
  omega

end Cert.GateIdealRun
end
-- ==== Proof.GateSpec.lean ====
/-
  The recurrence both gate programs compute, over the extended reals: each batch row keeps 64 importances; a chunk reads
  the three its slots name, forms the gate as the logistic of their mean plus a scalar, and moves the named importances
  toward the chunk's other scalar by the gate. And the facts of indexed stores that carry it.
-/
module

public import Idealize.ShloMosaic.PureOps
public import Idealize.ShloMosaic.PureOps.Ideal
public import Idealize.ShloMosaic.PureOps.Ideal.Laws

@[expose] public section

noncomputable section

namespace Cert.GateSpec

open Idealize.ShloMosaic

/-- The constant 1 as the programs spell it. -/
abbrev one : EReal := Ideal.ofBits .f32 0x3F800000#32

/-- The gate of the sum `s` of three importances and the chunk's scalar `v`. -/
def gate (s v : EReal) : EReal := Ideal.div one (one + Ideal.exp (-(s * ((3⁻¹ : ℝ) : EReal) + v)))

/-- The slots, the two scalars and the initial importances. -/
structure Data where
  ix : Fin 128 → Fin 4 → Fin 3 → Fin 64
  u : Fin 128 → Fin 4 → EReal
  v : Fin 128 → Fin 4 → EReal
  e : Fin 64 → EReal

variable (X : Data)

/-- Chunk `c`'s gate in batch row `b` whose importances are `f`. -/
def gateAt (c : Fin 128) (b : Fin 4) (f : Fin 64 → EReal) : EReal :=
  gate (f (X.ix c b 0) + f (X.ix c b 1) + f (X.ix c b 2)) (X.v c b)

/-- An importance `x` moved by the chunk. -/
def moved (c : Fin 128) (b : Fin 4) (f : Fin 64 → EReal) (x : EReal) : EReal :=
  (one - gateAt X c b f) * x + gateAt X c b f * X.u c b

/-- Batch row `b`'s importances after chunk `c`. -/
def next (c : Fin 128) (b : Fin 4) (f : Fin 64 → EReal) (k : Fin 64) : EReal :=
  if ∃ j, X.ix c b j = k then moved X c b f (f k) else f k

/-- Batch row `b`'s importances before chunk `n`. -/
def imp : ℕ → Fin 4 → Fin 64 → EReal
  | 0, _ => X.e
  | n + 1, b => if h : n < 128 then next X ⟨n, h⟩ b (imp n b) else imp n b

theorem imp_succ (c : Fin 128) (b : Fin 4) : imp X (c.val + 1) b = next X c b (imp X c.val b) := by
  show (if h : c.val < 128 then _ else _) = _
  rw [dif_pos c.isLt]

/-- The gate of chunk `c` in batch row `b`. -/
def out (c : Fin 128) (b : Fin 4) : EReal := gateAt X c b (imp X c.val b)

/-! ## Indexed stores -/

/-- An element after a masked indexed store whose writers of it all write `val`. -/
theorem storeIdx_at {F : FTy → Type} [FloatOps F] {s : Shape} {e : EltTy} {d : Fin 1 → ℕ} (f : Vec F s e) (idxs : Fin s.rank → IVec ⟨1, d⟩ 32)
    (v : Vec F ⟨1, d⟩ e) (mask : IVec ⟨1, d⟩ 1) (h : ∀ a x, (idxs a x).toNat < s.size a) (j : s.Idx) (val : Elt F e)
    (hv : ∀ x, mask x = 1 → (∀ a, (j a).val = (idxs a x).toNat) → v x = val) :
    storeIdx f idxs v mask false h j
      = if ∃ x, mask x = 1 ∧ ∀ a, (j a).val = (idxs a x).toNat then val else f j := by
  have key : ∀ (l : List (Fin (d 0))) (g : Vec F s e),
      (l.foldl (fun g k =>
        let x := Shape.ofLane k
        if mask x = 1 then
          let i := idxAt idxs h x
          let y := if false then Elt.idxAdd e (g i) (v x) else v x
          fun j => if (∀ a, (j a).val = (i a).val) then y else g j
        else g) g) j
      = if ∃ k ∈ l, mask (Shape.ofLane k) = 1 ∧ ∀ a, (j a).val = (idxs a (Shape.ofLane k)).toNat then val else g j := by
    intro l
    induction l with
    | nil => intro g; simp
    | cons k l ih =>
      intro g
      rw [List.foldl_cons, ih]
      by_cases hl : ∃ k ∈ l, mask (Shape.ofLane k) = 1 ∧ ∀ a, (j a).val = (idxs a (Shape.ofLane k)).toNat
      · obtain ⟨k', hk', hh⟩ := hl
        rw [if_pos ⟨k', hk', hh⟩, if_pos ⟨k', List.mem_cons_of_mem _ hk', hh⟩]
      · rw [if_neg hl]
        by_cases hm : mask (Shape.ofLane k) = 1
        · simp only [if_pos hm]
          by_cases hj : ∀ a, (j a).val = (idxs a (Shape.ofLane k)).toNat
          · rw [if_pos (show ∀ a, (j a).val = (idxAt idxs h (Shape.ofLane k) a).val from hj)]
            exact (hv _ hm hj).trans (if_pos ⟨k, List.mem_cons_self, hm, hj⟩).symm
          · rw [if_neg (show ¬ ∀ a, (j a).val = (idxAt idxs h (Shape.ofLane k) a).val from hj)]
            refine (if_neg ?_).symm
            rintro ⟨k', hk', hm', hj'⟩
            rcases List.mem_cons.mp hk' with rfl | hk'
            · exact hj hj'
            · exact hl ⟨k', hk', hm', hj'⟩
        · simp only [if_neg hm]
          refine (if_neg ?_).symm
          rintro ⟨k', hk', hm', hj'⟩
          rcases List.mem_cons.mp hk' with rfl | hk'
          · exact hm hm'
          · exact hl ⟨k', hk', hm', hj'⟩
  unfold storeIdx
  rw [key]
  refine if_congr ⟨fun ⟨k, _, hk⟩ => ⟨_, hk⟩, fun ⟨x, hx⟩ => ⟨x 0, List.mem_finRange _, ?_⟩⟩ rfl rfl
  rwa [show (Shape.ofLane (x 0) : (⟨1, d⟩ : Shape).Idx) = x from funext fun a => by
    obtain rfl : a = 0 := Subsingleton.elim _ _
    rfl]

end Cert.GateSpec
end
-- ==== Proof.GateIdealValue.lean ====
/-
  The gate program's result over the extended reals: the gates of the plain recurrence (`Cert.GateSpec.out`).
-/
module

public import proofs.«01_k».proof.Proof.GateIdealMain
public import proofs.«01_k».proof.Proof.GateSpec
public import Idealize.ShloMosaic.Lib.Pointwise.Index

@[expose] public section

noncomputable section

namespace Cert.GateIdealRun

open Cert.GateIdeal Cert.GateIdeal.Gen
open Idealize.ShloMosaic

/-! ## The tables at an index -/

section Tables

/-- The place of chunk `c` of batch row `b` among the rows of the scalars. -/
abbrev rowAt (c : Fin 128) (b : Fin 4) : Fin 512 := ⟨128 * b.val + c.val, by omega⟩

/-- Lane `b` of 16. -/
abbrev lane16 (b : Fin 4) : Fin 16 := ⟨b.val, by omega⟩

theorem wOf_lane (off : Fin 3 → ℕ) (hs : S4x128x2.Slices off S4x128x1) (i : Fin 2) (hoff : off = ![0, 0, i.val]) (a : Vec Ideal S512x2 .f32)
    (c : Fin 128) (b : Fin 4) : wOf off hs a (ix2 c (lane16 b)) = a (ix2 (rowAt c b) i) := by
  subst hoff
  unfold wOf
  refine (pad_apply_of_inside _ _ _ _ _ _ _ _ (ix2 c b) (by
    intro a; fin_cases a <;> simp)).trans ?_
  rw [transpose_apply _ _ _ _ (ix2 b c) (by intro a; fin_cases a <;> rfl)]
  rw [shapeCast_apply _ _ _ (ix3 b c (⟨0, by decide⟩ : Fin 1)) (by
    rw [Shape.rowMajor_val_three, Shape.rowMajor_val_two]; simp)]
  rw [extractStridedSlice_apply _ _ _ _ (ix3 b c i) (by intro a; fin_cases a <;> simp)]
  exact shapeCast_apply _ _ _ _ (by
    rw [Shape.rowMajor_val_two, Shape.rowMajor_val_three]; simp; omega)

theorem d0Of_at (a : Vec Ideal S64x1 .f32) (j : S256.Idx) (b : Fin 4) (k : Fin 64) (hj : (j 0).val = 64 * b.val + k.val) :
    d0Of a j = a (ix2 k (⟨0, by decide⟩ : Fin 1)) := by
  unfold d0Of
  rw [shapeCast_apply _ _ j (ix2 b k) (by rw [Shape.rowMajor_val_two, Shape.rowMajor_val_one]; simp; omega)]
  rw [broadcastInDim_apply _ _ _ _ (ix2 (⟨0, by decide⟩ : Fin 1) k) (by intro a; fin_cases a <;> rfl)]
  rw [shapeCast_apply _ _ _ (ix1 k) (by rw [Shape.rowMajor_val_two, Shape.rowMajor_val_one]; simp)]
  exact shapeCast_apply _ _ _ _ (by rw [Shape.rowMajor_val_two, Shape.rowMajor_val_one]; simp)

end Tables

/-! ## The recurrence's data -/

variable (a0 : Vec Ideal S512x3 .i32) (a1 : Vec Ideal S512x2 .f32) (a2 : Vec Ideal S64x1 .f32) (ha : ∀ i, (a0 i).toNat < 64)

/-- The recurrence's data from the three arguments. -/
def dataOf : GateSpec.Data where
  ix := fun c b j => ⟨(a0 (slotAt c j b)).toNat, ha _⟩
  u := fun c b => a1 (ix2 (rowAt c b) 0)
  v := fun c b => a1 (ix2 (rowAt c b) 1)
  e := fun k => a2 (ix2 k (⟨0, by decide⟩ : Fin 1))

abbrev hfi : InRange (fiOf a0) := fiOf_inRange a0 ha

/-- Lane `b`. -/
abbrev lane (b : Fin 4) : S16.Idx := ix1 (lane16 b)

theorem mask_iff (x : S16.Idx) : k0_pay1 x = 1#1 ↔ (x 0).val < 4 := by
  obtain ⟨n, rfl⟩ : ∃ n : Fin 16, x = ix1 n := ⟨x 0, by funext a; fin_cases a; rfl⟩
  revert n; decide +kernel

include ha in
theorem idxRow_at (c : Fin 128) (s : Fin 3) (x : S16.Idx) (b : Fin 4) (hb : (x 0).val = b.val) :
    (idxRow (fiOf a0) c s x).toNat = (a0 (slotAt c s b)).toNat + 64 * b.val :=
  fiOf_toNat a0 ha (fun a => match a with | 0 => c | 1 => s | 2 => x 0) b hb

/-- What the importances of batch row `b` are among the flat ones. -/
def Rows (d : Vec Ideal S256 .f32) (f : Fin 4 → Fin 64 → EReal) : Prop :=
  ∀ (b : Fin 4) (k : Fin 64) (j : S256.Idx), (j 0).val = 64 * b.val + k.val → d j = f b k

theorem got_lane {d : Vec Ideal S256 .f32} {f : Fin 4 → Fin 64 → EReal} (hd : Rows d f) (c : Fin 128) (j : Fin 3) (b : Fin 4) :
    got (hfi a0 ha) c d j (lane b) = f b ((dataOf a0 a1 a2 ha).ix c b j) := by
  unfold got loadIdx
  refine hd b _ _ ?_
  refine (idxRow_at a0 ha c j (lane b) b rfl).trans ?_
  exact Nat.add_comm _ _

theorem scal_lane (off : Fin 3 → ℕ) (hs : S4x128x2.Slices off S4x128x1) (i : Fin 2) (hoff : off = ![0, 0, i.val]) (c : Fin 128) (b : Fin 4) :
    shapeCast S16 (scalRow (wOf off hs a1) c) shapeCasts_S1x16_S16 (lane b) = a1 (ix2 (rowAt c b) i) := by
  rw [shapeCast_apply _ _ _ (ix2 (⟨0, by decide⟩ : Fin 1) (lane16 b)) (by rw [Shape.rowMajor_val_two, Shape.rowMajor_val_one]; simp)]
  refine (congrArg (wOf off hs a1) ?_).trans (wOf_lane off hs i hoff a1 c b)
  funext a; fin_cases a <;> rfl

theorem gate_lane {d : Vec Ideal S256 .f32} {f : Fin 4 → Fin 64 → EReal} (hd : Rows d f) (c : Fin 128) (b : Fin 4) :
    gateOf (hfi a0 ha) (w2Of a1) c d (lane b) = GateSpec.gateAt (dataOf a0 a1 a2 ha) c b (f b) := by
  show Ideal.div GateSpec.one (GateSpec.one + Ideal.exp (Ideal.ofBits .f32 0x00000000#32 - ((got (hfi a0 ha) c d 0 (lane b) + got (hfi a0 ha) c d 1 (lane b)
    + got (hfi a0 ha) c d 2 (lane b)) * ((3⁻¹ : ℝ) : EReal) + shapeCast S16 (scalRow (w2Of a1) c) shapeCasts_S1x16_S16 (lane b)))) = _
  rw [got_lane a0 a1 a2 ha hd, got_lane a0 a1 a2 ha hd, got_lane a0 a1 a2 ha hd, show shapeCast S16 (scalRow (w2Of a1) c) shapeCasts_S1x16_S16 (lane b) = _ from scal_lane a1 _ _ 1 rfl c b,
    Ideal.ofBits_zero_f32, zero_sub]
  rfl

/-- An indexed store of a chunk at its `s`-th slots, one importance of batch row `b`: the lane of that row decides. -/
theorem store_row (c : Fin 128) (s : Fin 3) (f : Vec Ideal S256 .f32) (v : Vec Ideal S16 .f32) (h) (b : Fin 4) (k : Fin 64) (j : S256.Idx)
    (hj : (j 0).val = 64 * b.val + k.val) :
    storeIdx f ![idxRow (fiOf a0) c s] v k0_pay1 false h j = if (dataOf a0 a1 a2 ha).ix c b s = k then v (lane b) else f j := by
  have hit : ∀ x : S16.Idx, k0_pay1 x = 1 → (∀ a, (j a).val = ((![idxRow (fiOf a0) c s] : Fin 1 → IVec S16 32) a x).toNat) →
      x = lane b ∧ (dataOf a0 a1 a2 ha).ix c b s = k := by
    intro x hm hx
    have hx4 := (mask_iff x).1 hm
    have h1 := hx 0
    rw [show ((![idxRow (fiOf a0) c s] : Fin 1 → IVec S16 32) 0 x).toNat = (a0 (slotAt c s ⟨(x 0).val, hx4⟩)).toNat + 64 * (x 0).val from
      idxRow_at a0 ha c s x ⟨(x 0).val, hx4⟩ rfl, hj] at h1
    have h2 := ha (slotAt c s ⟨(x 0).val, hx4⟩)
    have h3 := k.isLt
    have hb : (⟨(x 0).val, hx4⟩ : Fin 4) = b := Fin.ext (by show (x 0).val = b.val; omega)
    refine ⟨?_, Fin.ext ?_⟩
    · subst hb; funext a; fin_cases a; rfl
    · show (a0 (slotAt c s b)).toNat = k.val
      subst hb
      show (a0 (slotAt c s ⟨(x 0).val, hx4⟩)).toNat = k.val
      have : 64 * (x 0).val + k.val = (a0 (slotAt c s ⟨(x 0).val, hx4⟩)).toNat + 64 * (x 0).val := h1
      omega
  rw [GateSpec.storeIdx_at f _ v _ h j (v (lane b)) fun x hm hx => by rw [(hit x hm hx).1]]
  by_cases hk : (dataOf a0 a1 a2 ha).ix c b s = k
  · rw [if_pos hk]
    refine if_pos ⟨lane b, (mask_iff _).2 b.isLt, fun a => ?_⟩
    obtain rfl : a = 0 := Subsingleton.elim _ _
    refine Eq.trans ?_ (idxRow_at a0 ha c s (lane b) b rfl).symm
    rw [hj, ← hk]
    exact Nat.add_comm _ _
  · rw [if_neg hk]
    exact if_neg fun ⟨x, hm, hx⟩ => hk (hit x hm hx).2

theorem step_rows {d : Vec Ideal S256 .f32} {f : Fin 4 → Fin 64 → EReal} (hd : Rows d f) (c : Fin 128) :
    Rows (dStep (hfi a0 ha) (w1Of a1) (w2Of a1) c d) (fun b => GateSpec.next (dataOf a0 a1 a2 ha) c b (f b)) := by
  intro b k j hj
  have hw : ∀ s, (dataOf a0 a1 a2 ha).ix c b s = k →
      (GateSpec.one - gateOf (hfi a0 ha) (w2Of a1) c d (lane b)) * got (hfi a0 ha) c d s (lane b)
        + gateOf (hfi a0 ha) (w2Of a1) c d (lane b) * shapeCast S16 (scalRow (w1Of a1) c) shapeCasts_S1x16_S16 (lane b)
      = GateSpec.moved (dataOf a0 a1 a2 ha) c b (f b) (f b k) := by
    intro s hs
    rw [gate_lane a0 a1 a2 ha hd, got_lane a0 a1 a2 ha hd, hs,
      show shapeCast S16 (scalRow (w1Of a1) c) shapeCasts_S1x16_S16 (lane b) = _ from scal_lane a1 _ _ 0 rfl c b]
    rfl
  unfold dStep GateSpec.next
  rw [store_row a0 a1 a2 ha c 2 _ _ _ b k j hj, store_row a0 a1 a2 ha c 1 _ _ _ b k j hj, store_row a0 a1 a2 ha c 0 _ _ _ b k j hj, hd b k j hj]
  by_cases h2 : (dataOf a0 a1 a2 ha).ix c b 2 = k
  · rw [if_pos h2]; exact (hw 2 h2).trans (if_pos ⟨2, h2⟩).symm
  rw [if_neg h2]
  by_cases h1 : (dataOf a0 a1 a2 ha).ix c b 1 = k
  · rw [if_pos h1]; exact (hw 1 h1).trans (if_pos ⟨1, h1⟩).symm
  rw [if_neg h1]
  by_cases h0 : (dataOf a0 a1 a2 ha).ix c b 0 = k
  · rw [if_pos h0]; exact (hw 0 h0).trans (if_pos ⟨0, h0⟩).symm
  rw [if_neg h0]
  refine (if_neg ?_).symm
  rintro ⟨s, hs⟩
  fin_cases s
  exacts [h0 hs, h1 hs, h2 hs]

theorem dAt_rows (n : ℕ) (hn : n ≤ 128) :
    Rows (dAt (hfi a0 ha) (w1Of a1) (w2Of a1) (d0Of a2) n) (GateSpec.imp (dataOf a0 a1 a2 ha) n) := by
  induction n with
  | zero => exact fun b k j hj => d0Of_at a2 j b k hj
  | succ n ih =>
    rw [dAt_succ (c := ⟨n, hn⟩)]
    intro b k j hj
    rw [GateSpec.imp_succ (c := ⟨n, hn⟩)]
    exact step_rows a0 a1 a2 ha (ih (by omega)) ⟨n, hn⟩ b k j hj

theorem gOut_lane (c : Fin 128) (b : Fin 4) :
    gOut (hfi a0 ha) (w1Of a1) (w2Of a1) (d0Of a2) (ix2 c (lane16 b)) = GateSpec.out (dataOf a0 a1 a2 ha) c b := by
  have h := gate_lane a0 a1 a2 ha (dAt_rows a0 a1 a2 ha c.val (by omega)) c b
  refine Eq.trans ?_ h
  show gateOf _ _ c _ _ = gateOf _ _ c _ _
  congr 1
  funext a; fin_cases a; rfl

theorem result_eq (m : (ℓ : Loc nD τ sig) → Buf (Elt Ideal) ℓ) (hm : SlotsOK m) (d : Dev nD) (c : Fin 128) (b : Fin 4) :
    result m hm d (ix2 c b) = GateSpec.out (dataOf (m ((SparseCore.T d).loc main_arg0)) (m ((SparseCore.T d).loc main_arg1)) (m ((SparseCore.T d).loc main_arg2)) (hm d)) c b := by
  unfold result
  refine (extractStridedSlice_apply _ _ _ _ (ix2 c (lane16 b)) (by intro a; fin_cases a <;> simp)).trans ?_
  exact gOut_lane _ _ _ (hm d) c b

end Cert.GateIdealRun
end
-- ==== Proof.GateRefValue.lean ====
/-
  The gate reference's result over the extended reals: the loop's body is one chunk of the plain recurrence, so that
  its 128 trips leave the gates of `Cert.GateSpec.out`.
-/
module

public import proofs.«01_k».proof.Proof.Gen.GateRefIdeal.Run
public import proofs.«01_k».proof.Proof.GateIdealValue
public import Idealize.ShloMosaic.Lib.Pointwise.Index
public import Idealize.ShloMosaic.Lib.Pointwise.ShapeOpsCore
public import Idealize.ShloMosaic.Lib.Pipeline.Value
public import Idealize.ShloMosaic.Lib.DynamicIndex
public import Idealize.ShloMosaic.Lib.ReduceAll
public import Idealize.ShloMosaic.Lib.WordCmp
public import Idealize.ShloMosaic.Lib.Affine
public import Idealize.ShloMosaic.Lib.IdealHost

@[expose] public section

noncomputable section

namespace Cert.GateRefRun

open Cert.GateRefIdeal Cert.GateRefIdeal.Gen Cert.GateRefIdeal.Value
open Idealize.ShloMosaic Idealize.ShloMosaic.TcCoe Idealize.ShloMosaic.StableHlo Idealize.ShloMosaic.WordCmp

/-! ## Reductions -/

/-- A fold by `or` over one-bit words started at 0 is 1 exactly when it met a 1. -/
theorem foldl_ori_iff {ι : Type} (f : ι → BitVec 1) (l : List ι) (r : BitVec 1) :
    l.foldl (fun r n => IntOp.ori r (f n)) r = 1#1 ↔ r = 1#1 ∨ ∃ n ∈ l, f n = 1#1 := by
  induction l generalizing r with
  | nil => simp
  | cons a l ih =>
    rw [List.foldl_cons, ih, IntOp.ori_eq_one]
    constructor
    · rintro ((h | h) | ⟨n, hn, h⟩)
      exacts [.inl h, .inr ⟨a, List.mem_cons_self, h⟩, .inr ⟨n, List.mem_cons_of_mem _ hn, h⟩]
    · rintro (h | ⟨n, hn, h⟩)
      · exact .inl (.inl h)
      · rcases List.mem_cons.1 hn with rfl | hn
        exacts [.inl (.inr h), .inr ⟨n, hn, h⟩]

/-- "Some operand that reduces into `j` is 1". -/
theorem reduce_ori_iff {s t u : Shape} {axes : List (Fin s.rank)} (x : s.Idx → BitVec 1) (init : u.Idx → BitVec 1)
    (h : s.ReducesTo axes t) (hu : 0 < u.numel) (j : t.Idx) (hi : init (Shape.Idx.first hu) = 0#1) :
    Host.reduce IntOp.ori x init h hu j = 1#1 ↔ ∃ i, h.drop i = j ∧ x i = 1#1 := by
  rw [Host.reduce_eq_foldl, foldl_ori_iff, hi]
  constructor
  · rintro (e | ⟨i, hm, e⟩)
    · exact absurd e (by decide)
    · exact ⟨i, by simpa using (List.mem_filter.1 hm).2, e⟩
  · rintro ⟨i, hd, e⟩
    exact .inr ⟨i, List.mem_filter.2 ⟨List.mem_map.2 ⟨s.rowMajor i, List.mem_finRange _, Equiv.symm_apply_apply _ _⟩, by simp [hd]⟩, e⟩

/-! ## One chunk -/

/-- The carried buffers before chunk `n`: the tables as they came in, the recurrence's importances, the gates so far. -/
structure At (X : GateSpec.Data) (V : Valuation τ sig (Elt Ideal)) (n : ℕ) : Prop where
  slots : ∀ (b : Fin 4) (c : Fin 128) (j : Fin 3),
    ((V (Proc.devRef .tc main_v10_0) : Vec Ideal S4x128x3 .i32) (ix3 b c j)).toNat = (X.ix c b j).val
  us : ∀ (b : Fin 4) (c : Fin 128), (V (Proc.devRef .tc main_v10_1) : Vec Ideal S4x128 .f32) (ix2 b c) = X.u c b
  vs : ∀ (b : Fin 4) (c : Fin 128), (V (Proc.devRef .tc main_v10_2) : Vec Ideal S4x128 .f32) (ix2 b c) = X.v c b
  ctr : (V (Proc.devRef .tc main_v10_4) : Vec Ideal S_ .i32) = fun _ => BitVec.ofNat 32 n
  imps : ∀ (b : Fin 4) (k : Fin 64), (V (Proc.devRef .tc main_v10_5) : Vec Ideal S4x64 .f32) (ix2 b k) = GateSpec.imp X n b k
  outs : ∀ (c : Fin 128) (b : Fin 4), c.val < n → (V (Proc.devRef .tc main_v10_6) : Vec Ideal S128x4 .f32) (ix2 c b) = GateSpec.out X c b

variable {X : GateSpec.Data} {V : Valuation τ sig (Elt Ideal)} {c : Fin 128}

/-- The loop's counter as an index. -/
theorem index_at (x : Vec Ideal S_ .i32) (h : x = fun _ => BitVec.ofNat 32 c.val) (i : S_.Idx) :
    (select (cmpi .slt x (constantI S_ 32 0#32)) (addi (id x) (constantI S_ 32 128#32)) x i).toInt = (c.val : Int) := by
  have hc : (BitVec.ofNat 32 c.val).toInt = (c.val : Int) := WordCmp.toInt_ofNat_of_lt (by omega)
  subst h
  rw [select_slt_zero_of_nonneg _ _ _ _ (by rw [hc]; omega)]
  exact hc

theorem column_at (r : Vec Ideal S4x128 .f32) (w : Fin 4 → EReal) (hr : ∀ b, r (ix2 b c) = w b) (b : Fin 4)
    (start : Fin S4x128.rank → Int) (hs : ∀ a, start a = ((![0, c.val] : Fin S4x128.rank → ℕ) a : Int)) (h) :
    shapeCast S4 (Host.dynamicSlice S4x1 r start h) shapeCasts_S4x1_S4 (ix1 b) = w b := by
  have hoff : S4x128.Slices ![0, c.val] S4x1 := ⟨rfl, fun a => by fin_cases a <;> simp <;> omega⟩
  rw [Host.dynamicSlice_eq_extractStridedSlice S4x1 r start ![0, c.val] h hoff hs]
  rw [shapeCast_apply _ _ _ (ix2 b (⟨0, by decide⟩ : Fin 1)) (by rw [Shape.rowMajor_val_two, Shape.rowMajor_val_one]; simp)]
  rw [extractStridedSlice_apply _ _ _ _ (ix2 b c) (by intro a; fin_cases a <;> simp)]
  exact hr b

theorem start2_at (hV : At X V c.val) (a : Fin 2) :
    (((![constantI S_ 32 0#32, select (cmpi .slt (V (Proc.devRef .tc main_v10_4)) (constantI S_ 32 0#32)) (addi (id (V (Proc.devRef .tc main_v10_4))) (constantI S_ 32 128#32)) (V (Proc.devRef .tc main_v10_4))] : Fin 2 → (⟨S_, .i32⟩ : BufTy).Contents (Elt Ideal))) a (Shape.Idx.first h_S_)).toInt
      = ((![0, c.val] : Fin 2 → ℕ) a : Int) := by
  match a with
  | ⟨0, _⟩ => rfl
  | ⟨1, _⟩ => exact index_at _ hV.ctr _

theorem slot_at (hV : At X V c.val) (b : Fin 4) (j : Fin 3) :
    ((res_main_while0b_v12 V : Vec Ideal S4x3 .i32) (ix2 b j)).toNat = (X.ix c b j).val := by
  unfold res_main_while0b_v12
  have hoff : S4x128x3.Slices ![0, c.val, 0] S4x1x3 := ⟨rfl, fun a => by fin_cases a <;> simp <;> omega⟩
  refine (congrArg (fun z : Vec Ideal S4x1x3 .i32 => (shapeCast S4x3 z shapeCasts_S4x1x3_S4x3 (ix2 b j)).toNat)
    (Host.dynamicSlice_eq_extractStridedSlice S4x1x3 _ _ ![0, c.val, 0] _ hoff fun a => ?_)).trans ?_
  · match a with
    | ⟨0, _⟩ => rfl
    | ⟨1, _⟩ => exact index_at _ hV.ctr _
    | ⟨2, _⟩ => rfl
  · rw [shapeCast_apply _ _ _ (ix3 b (⟨0, by decide⟩ : Fin 1) j) (by rw [Shape.rowMajor_val_two, Shape.rowMajor_val_three]; simp)]
    rw [extractStridedSlice_apply _ _ _ _ (ix3 b c j) (by intro a; fin_cases a <;> simp)]
    exact hV.slots b c j

theorem slot_toInt (hV : At X V c.val) (b : Fin 4) (j : Fin 3) :
    ((res_main_while0b_v12 V : Vec Ideal S4x3 .i32) (ix2 b j)).toInt = ((X.ix c b j).val : Int) := by
  have h := slot_at hV b j
  have := (X.ix c b j).isLt
  rw [BitVec.toInt_eq_toNat_of_lt (by omega), h]

theorem index3_at (hV : At X V c.val) (b : Fin 4) (j : Fin 3) (z : Fin 1) :
    (res_main_while0b_call1_v5 V : Vec Ideal S4x3x1 .i32) (ix3 b j z) = (res_main_while0b_v12 V : Vec Ideal S4x3 .i32) (ix2 b j) := by
  unfold res_main_while0b_call1_v5
  rw [shapeCast_apply _ _ _ (ix2 b j) (by rw [Shape.rowMajor_val_two, Shape.rowMajor_val_three]; simp)]
  exact select_slt_zero_of_nonneg _ _ _ _ (by rw [slot_toInt hV]; omega)

/-- The gather record of the batched pick. -/
abbrev pick : GatherDims S4x64 S4x3x1 S4x3 := gather_S4x64_S4x3x1_S4x3_n_1_0_0_1_2_11

theorem pick_row (i : IVec S4x3x1 32) (b : Fin 4) (j : Fin 3) :
    pick.start (ix2 b j) i (0 : Fin 2) + pick.batchCoord (ix2 b j) (0 : Fin 2) + pick.offCoord (ix2 b j) (0 : Fin 2) = b.val := by
  rw [pick.offCoord_eq_zero _ _ (by decide), pick.start_batching _ _ _ (by decide), Nat.zero_add, Nat.add_zero]
  rfl

theorem pick_column (i : IVec S4x3x1 32) (b : Fin 4) (j : Fin 3) (k : Fin 64) (hi : (i (ix3 b j (0 : Fin 1))).toInt = (k.val : Int)) :
    pick.start (ix2 b j) i (1 : Fin 2) + pick.batchCoord (ix2 b j) (1 : Fin 2) + pick.offCoord (ix2 b j) (1 : Fin 2) = k.val := by
  rw [pick.offCoord_eq_zero _ _ (by decide), pick.batchCoord_eq_zero _ _ (by decide), Nat.add_zero]
  unfold GatherDims.start
  rw [dif_pos (by decide)]
  refine Eq.trans (congrArg (fun w : BitVec 32 => min w.toInt.toNat 63) (?_ : _ = i (ix3 b j (0 : Fin 1)))) ?_
  · refine congrArg i (funext fun a => ?_)
    match a with
    | ⟨0, _⟩ => rfl
    | ⟨1, _⟩ => rfl
    | ⟨2, _⟩ => rfl
  · have := k.isLt
    show min (i (ix3 b j (0 : Fin 1))).toInt.toNat 63 = _
    rw [hi]; omega

theorem picked_at (hV : At X V c.val) (b : Fin 4) (j : Fin 3) :
    Host.gather pick (V (Proc.devRef .tc main_v10_5) : Vec Ideal S4x64 .f32) (res_main_while0b_call1_v5 V) (ix2 b j)
      = GateSpec.imp X c.val b (X.ix c b j) := by
  refine Eq.trans (congrArg (V (Proc.devRef .tc main_v10_5) : Vec Ideal S4x64 .f32) (funext fun a => Fin.ext ?_)) (hV.imps b (X.ix c b j))
  match a with
  | ⟨0, _⟩ => exact pick_row _ b j
  | ⟨1, _⟩ => exact pick_column _ b j _ ((congrArg BitVec.toInt (index3_at hV b j 0)).trans (slot_toInt hV b j))

theorem three_ofBits : Ideal.ofBits .f32 0x40400000#32 = ((3 : ℝ) : EReal) := by
  simp [Ideal.ofBits, Ideal.ieee, -EReal.coe_mul]; norm_num

theorem mean_at (hV : At X V c.val) (b : Fin 4) (x : FVec Ideal S4x3 .f32) (hx : ∀ j, x (ix2 b j) = GateSpec.imp X c.val b (X.ix c b j)) :
    (Host.reduceAdd x (constant S_ .f32 0x00000000#32) reducesTo_S4x3_S4_d1 h_S_ : FVec Ideal S4 .f32) (ix1 b)
      = GateSpec.imp X c.val b (X.ix c b 0) + GateSpec.imp X c.val b (X.ix c b 1) + GateSpec.imp X c.val b (X.ix c b 2) := by
  have hr : S4x3.Reduces [1] S4 := by decide
  refine (Ideal.hostReduceAdd_single reducesTo_S4x3_S4_d1 hr x _ (ix1 b)).trans ?_
  have e : ∀ k : Fin 3, x (hr.lift (ix1 b) k) = GateSpec.imp X c.val b (X.ix c b k) := by
    intro k
    rw [← hx k]
    refine congrArg x (funext fun a => Fin.ext ?_)
    match a with
    | ⟨0, _⟩ => rfl
    | ⟨1, _⟩ => rfl
  refine (congrArg₂ (· + ·) Ideal.ofBits_zero_f32 ((Fin.sum_univ_three (fun k => x (hr.lift (ix1 b) k))).trans ?_)).trans (zero_add _)
  rw [e, e, e]

theorem inside_at (hV : At X V c.val) (i : S4x3x1.Idx) :
    andi (cmpi .sge (res_main_while0b_call1_v5 V) (broadcastInDim S4x3x1 ![] bcast_S_S4x3x1 (constantI S_ 32 0#32))) (cmpi .sle (res_main_while0b_call1_v5 V) (broadcastInDim S4x3x1 ![0, 1, 2] bcast_S1x1x1_S4x3x1_0_1_2 (broadcastInDim S1x1x1 ![2] bcast_S1_S1x1x1_2 (constantI S1 32 63#32)))) i = 1#1 := by
  obtain ⟨b, j, z, rfl⟩ : ∃ (b : Fin 4) (j : Fin 3) (z : Fin 1), i = ix3 b j z := ⟨i 0, i 1, i 2, by funext a; fin_cases a <;> rfl⟩
  have h := (congrArg BitVec.toInt (index3_at hV b j z)).trans (slot_toInt hV b j)
  have hk := (X.ix c b j).isLt
  have hge : IntOp.cmpi .sge ((res_main_while0b_call1_v5 V : Vec Ideal S4x3x1 .i32) (ix3 b j z)) 0#32 = 1#1 := by
    simp [IntOp.cmpi, BitVec.sle, h]
  have hle : IntOp.cmpi .sle ((res_main_while0b_call1_v5 V : Vec Ideal S4x3x1 .i32) (ix3 b j z)) 63#32 = 1#1 := by
    simp only [IntOp.cmpi, BitVec.sle, h, show (63#32 : BitVec 32).toInt = 63 from rfl]
    rw [decide_eq_true (by omega)]
    rfl
  exact (congrArg₂ IntOp.andi hge hle).trans rfl

theorem gate_at (hV : At X V c.val) (b : Fin 4) :
    (res_main_while0b_v25 V : Vec Ideal S4 .f32) (ix1 b) = GateSpec.gateAt X c b (GateSpec.imp X c.val b) := by
  unfold res_main_while0b_v25
  have hm := mean_at hV b (select (Host.reduce IntOp.andi (andi (cmpi .sge (res_main_while0b_call1_v5 V) (broadcastInDim S4x3x1 ![] bcast_S_S4x3x1 (constantI S_ 32 0#32))) (cmpi .sle (res_main_while0b_call1_v5 V) (broadcastInDim S4x3x1 ![0, 1, 2] bcast_S1x1x1_S4x3x1_0_1_2 (broadcastInDim S1x1x1 ![2] bcast_S1_S1x1x1_2 (constantI S1 32 63#32))))) (constantI S_ 1 1#1) reducesTo_S4x3x1_S4x3_d2 h_S_) (Host.gather pick (V (Proc.devRef .tc main_v10_5)) (res_main_while0b_call1_v5 V)) (broadcastInDim S4x3 ![] bcast_S_S4x3 (constant (F := Ideal) S_ .f32 0x7FC00000#32)))
    fun j => (if_pos (Host.reduce_andi_one _ _ _ _ _ rfl fun i => inside_at hV i)).trans (picked_at hV b j)
  have hc := column_at (V (Proc.devRef .tc main_v10_2)) _ (fun b => hV.vs b c) b _ (start2_at hV) sliceFits_S4x128_S4x1
  have hd : ∀ x : EReal, Ideal.div x (Ideal.ofBits .f32 0x40400000#32) = x * ((3⁻¹ : ℝ) : EReal) := fun x => by
    rw [three_ofBits, Ideal.div_coe (by norm_num), one_div]
  exact congrArg (fun x => Ideal.div GateSpec.one (GateSpec.one + Ideal.exp (-x)))
    (congrArg₂ (· + ·) ((congrArg (fun x => Ideal.div x (Ideal.ofBits .f32 0x40400000#32)) hm).trans (hd _)) hc)

theorem named_iff (hV : At X V c.val) (b : Fin 4) (k : Fin 64) :
    Host.reduce IntOp.ori (cmpi .eq (broadcastInDim S4x3x64 ![0, 1, 2] bcast_S4x3x1_S4x3x64_0_1_2 (broadcastInDim S4x3x1 ![0, 1] bcast_S4x3_S4x3x1_0_1 (res_main_while0b_v12 V))) (broadcastInDim S4x3x64 ![0, 1, 2] bcast_S1x1x64_S4x3x64_0_1_2 (broadcastInDim S1x1x64 ![2] bcast_S64_S1x1x64_2 (iotaInDim S64 32 0)))) (constantI S_ 1 0#1) reducesTo_S4x3x64_S4x64_d1 h_S_ (ix2 b k) = 1#1
      ↔ ∃ j, X.ix c b j = k := by
  have hx : ∀ (b : Fin 4) (j : Fin 3) (k : Fin 64), (cmpi .eq (broadcastInDim S4x3x64 ![0, 1, 2] bcast_S4x3x1_S4x3x64_0_1_2 (broadcastInDim S4x3x1 ![0, 1] bcast_S4x3_S4x3x1_0_1 (res_main_while0b_v12 V))) (broadcastInDim S4x3x64 ![0, 1, 2] bcast_S1x1x64_S4x3x64_0_1_2 (broadcastInDim S1x1x64 ![2] bcast_S64_S1x1x64_2 (iotaInDim S64 32 0)))) (ix3 b j k) = 1#1 ↔ X.ix c b j = k := by
    intro b j k
    have h := slot_at hV b j
    have hk := k.isLt
    have e1 : (broadcastInDim S4x3x64 ![0, 1, 2] bcast_S4x3x1_S4x3x64_0_1_2 (broadcastInDim S4x3x1 ![0, 1] bcast_S4x3_S4x3x1_0_1 (res_main_while0b_v12 V))) (ix3 b j k) = (res_main_while0b_v12 V : Vec Ideal S4x3 .i32) (ix2 b j) := by
      rw [broadcastInDim_apply _ _ _ _ (ix3 b j (0 : Fin 1)) (by intro a; fin_cases a <;> rfl), broadcastInDim_apply _ _ _ _ (ix2 b j) (by intro a; fin_cases a <;> rfl)]
    have e2 : (broadcastInDim S4x3x64 ![0, 1, 2] bcast_S1x1x64_S4x3x64_0_1_2 (broadcastInDim S1x1x64 ![2] bcast_S64_S1x1x64_2 (iotaInDim S64 32 0))) (ix3 b j k) = BitVec.ofNat 32 k.val := by
      rw [broadcastInDim_apply _ _ _ _ (ix3 (0 : Fin 1) (0 : Fin 1) k) (by intro a; fin_cases a <;> rfl), broadcastInDim_apply _ _ _ _ (ix1 k) (by intro a; fin_cases a; rfl)]
      rfl
    show IntOp.cmpi .eq _ _ = 1#1 ↔ _
    rw [e1, e2, IntOp.cmpi_eq, Fin.ext_iff, ← h]
    constructor
    · intro e
      rw [e, BitVec.toNat_ofNat]; omega
    · intro e
      exact BitVec.eq_of_toNat_eq (by rw [e, BitVec.toNat_ofNat]; omega)
  rw [reduce_ori_iff _ _ _ _ _ rfl]
  constructor
  · rintro ⟨i, hd, hi⟩
    obtain ⟨b', j, k', rfl⟩ : ∃ (b' : Fin 4) (j : Fin 3) (k' : Fin 64), i = ix3 b' j k' := ⟨i 0, i 1, i 2, by funext a; fin_cases a <;> rfl⟩
    have h0 : b' = b := congrFun hd (0 : Fin 2)
    have h1 : k' = k := congrFun hd (1 : Fin 2)
    subst h0; subst h1
    exact ⟨j, (hx _ _ _).1 hi⟩
  · rintro ⟨j, hj⟩
    refine ⟨ix3 b j k, ?_, (hx _ _ _).2 hj⟩
    funext a
    match a with
    | ⟨0, _⟩ => rfl
    | ⟨1, _⟩ => rfl

theorem imp_at (hV : At X V c.val) (b : Fin 4) (k : Fin 64) :
    (step_main_v10_5 V : Vec Ideal S4x64 .f32) (ix2 b k) = GateSpec.imp X (c.val + 1) b k := by
  rw [GateSpec.imp_succ]
  unfold step_main_v10_5 GateSpec.next
  have hc := column_at (V (Proc.devRef .tc main_v10_1)) _ (fun b => hV.us b c) b _ (start2_at hV) sliceFits_S4x128_S4x1
  by_cases h : ∃ j, X.ix c b j = k
  · rw [if_pos h]
    refine (if_pos ((named_iff hV b k).2 h)).trans ?_
    refine congrArg₂ (· + ·) (congrArg₂ (· * ·) ?_ (hV.imps b k)) ?_
    · rw [broadcastInDim_apply _ _ _ _ (ix2 b (0 : Fin 1)) (by intro a; fin_cases a <;> rfl), broadcastInDim_apply _ _ _ _ (ix1 b) (by intro a; fin_cases a; rfl)]
      exact congrArg (GateSpec.one - ·) (gate_at hV b)
    · rw [broadcastInDim_apply _ _ _ _ (ix2 b (0 : Fin 1)) (by intro a; fin_cases a <;> rfl), broadcastInDim_apply _ _ _ _ (ix1 b) (by intro a; fin_cases a; rfl)]
      exact congrArg₂ (· * ·) (gate_at hV b) hc
  · rw [if_neg h]
    exact (if_neg (mt (named_iff hV b k).1 h)).trans (hV.imps b k)

theorem outs_at (hV : At X V c.val) (d : Fin 128) (b : Fin 4) (hd : d.val < c.val + 1) :
    (step_main_v10_6 V : Vec Ideal S128x4 .f32) (ix2 d b) = GateSpec.out X d b := by
  unfold step_main_v10_6
  have hk : S128x4.Slices ![c.val, 0] S1x4 := ⟨rfl, fun a => by fin_cases a <;> simp <;> omega⟩
  refine (congrFun (WordCmp.dynamicUpdateSlice_eq_update (V (Proc.devRef .tc main_v10_6) : Vec Ideal S128x4 .f32) _ _ updateFits_S128x4_S1x4 ![c.val, 0] hk fun a => ?_) (ix2 d b)).trans ?_
  · match a with
    | ⟨0, _⟩ => exact index_at _ hV.ctr _
    | ⟨1, _⟩ => rfl
  unfold updateSlice
  by_cases h : d = c
  · subst h
    rw [dif_pos (fun a => by fin_cases a <;> simp)]
    rw [broadcastInDim_apply _ _ _ _ (ix1 b) (by intro a; fin_cases a; rfl)]
    exact gate_at hV b
  · rw [dif_neg]
    · exact hV.outs d b (by have : d.val ≠ c.val := fun e => h (Fin.ext e); omega)
    · intro hin
      have h0 := hin (0 : Fin 2)
      exact h (Fin.ext (by simp at h0; omega))

/-- The body is one chunk. -/
theorem step_at (hV : At X V c.val) : At X (STEP V) (c.val + 1) where
  slots := fun b c' j => by rw [STEP_main_v10_0]; exact hV.slots b c' j
  us := fun b c' => by rw [STEP_main_v10_1]; exact hV.us b c'
  vs := fun b c' => by rw [STEP_main_v10_2]; exact hV.vs b c'
  ctr := by
    rw [STEP_main_v10_4]
    unfold step_main_v10_4
    rw [hV.ctr]
    funext i
    exact (BitVec.ofNat_add c.val 1).symm
  imps := fun b k => by rw [STEP_main_v10_5]; exact imp_at hV b k
  outs := fun d b hd => by rw [STEP_main_v10_6]; exact outs_at hV d b hd

theorem steps_at (hV : At X V 0) : ∀ n, n ≤ 128 → At X (STEP^[n] V) n
  | 0, _ => hV
  | n + 1, h => by
    rw [Function.iterate_succ_apply']
    exact step_at (c := ⟨n, h⟩) (steps_at hV n (by omega))

/-! ## The whole loop -/

variable (m : (ℓ : Loc nD τ sig) → Buf (Elt Ideal) ℓ)

/-- The loop's carried buffers as the host stretch before it leaves them. -/
theorem entry_at (d : Dev nD) (a0 : Vec Ideal S512x3 .i32) (a1 : Vec Ideal S512x2 .f32) (a2 : Vec Ideal S64x1 .f32) (ha : ∀ i, (a0 i).toNat < 64)
    (h0 : m ((d.tc : Thread nD τ).loc main_arg0) = a0) (h1 : m ((d.tc : Thread nD τ).loc main_arg1) = a1) (h2 : m ((d.tc : Thread nD τ).loc main_arg2) = a2) :
    At (GateIdealRun.dataOf a0 a1 a2 ha) (entryContents preI m d) 0 := by
  subst h0 h1 h2
  have e0 : (entryContents preI m d) (Proc.devRef .tc main_v10_0) = (shapeCast S4x128x3 (m ((d.tc : Thread nD τ).loc main_arg0)) shapeCasts_S512x3_S4x128x3 : Vec Ideal S4x128x3 .i32) := by
    simp only [entryContents, afterL_cons, afterL_nil]; after_results_simp; rfl
  have e1 : (entryContents preI m d) (Proc.devRef .tc main_v10_1) = (shapeCast S4x128 (shapeCast S512 (extractStridedSlice S512x1 ![0, 0] (m ((d.tc : Thread nD τ).loc main_arg1)) slices_S512x2_S512x1_0_0) shapeCasts_S512x1_S512) shapeCasts_S512_S4x128 : Vec Ideal S4x128 .f32) := by
    simp only [entryContents, afterL_cons, afterL_nil]; after_results_simp; rfl
  have e2 : (entryContents preI m d) (Proc.devRef .tc main_v10_2) = (shapeCast S4x128 (shapeCast S512 (extractStridedSlice S512x1 ![0, 1] (m ((d.tc : Thread nD τ).loc main_arg1)) slices_S512x2_S512x1_0_1) shapeCasts_S512x1_S512) shapeCasts_S512_S4x128 : Vec Ideal S4x128 .f32) := by
    simp only [entryContents, afterL_cons, afterL_nil]; after_results_simp; rfl
  have e4 : (entryContents preI m d) (Proc.devRef .tc main_v10_4) = (constantI S_ 32 0#32 : Vec Ideal S_ .i32) := by
    simp only [entryContents, afterL_cons, afterL_nil]; after_results_simp; rfl
  have e5 : (entryContents preI m d) (Proc.devRef .tc main_v10_5) = (broadcastInDim S4x64 ![1] bcast_S64_S4x64_1 (shapeCast S64 (m ((d.tc : Thread nD τ).loc main_arg2)) shapeCasts_S64x1_S64) : Vec Ideal S4x64 .f32) := by
    simp only [entryContents, afterL_cons, afterL_nil]; after_results_simp; rfl
  have col : ∀ (i : Fin 2) (off : Fin 2 → ℕ) (ho : off = ![0, i.val]) (h) (x : Vec Ideal S512x2 .f32) (b : Fin 4) (c : Fin 128),
      (shapeCast S4x128 (shapeCast S512 (extractStridedSlice S512x1 off x h) shapeCasts_S512x1_S512) shapeCasts_S512_S4x128) (ix2 b c)
        = x (ix2 (GateIdealRun.rowAt c b) i) := by
    intro i off ho h x b c
    subst ho
    rw [shapeCast_apply _ _ _ (ix1 (GateIdealRun.rowAt c b)) (by rw [Shape.rowMajor_val_two, Shape.rowMajor_val_one]; simp; omega)]
    rw [shapeCast_apply _ _ _ (ix2 (GateIdealRun.rowAt c b) (0 : Fin 1)) (by rw [Shape.rowMajor_val_two, Shape.rowMajor_val_one]; simp)]
    exact extractStridedSlice_apply _ _ _ _ (ix2 (GateIdealRun.rowAt c b) i) (by intro a; fin_cases a <;> simp)
  refine ⟨fun b c j => ?_, fun b c => ?_, fun b c => ?_, ?_, fun b k => ?_, fun _ _ h => absurd h (by omega)⟩
  · rw [e0]
    rw [shapeCast_apply (s := S512x3) _ _ (ix3 b c j) (GateIdealRun.slotAt c j b) ?_]
    · rfl
    rw [Shape.rowMajor_val_two, Shape.rowMajor_val_three]
    simp [GateIdealRun.slotAt]; omega
  · rw [e1]; exact col 0 _ rfl _ _ b c
  · rw [e2]; exact col 1 _ rfl _ _ b c
  · rw [e4]; rfl
  · rw [e5, broadcastInDim_apply _ _ _ _ (ix1 k) (by intro a; fin_cases a; rfl)]
    exact shapeCast_apply (s := S64x1) _ _ _ (ix2 k (⟨0, by decide⟩ : Fin 1)) (by rw [Shape.rowMajor_val_two, Shape.rowMajor_val_one]; simp)

/-- The reference's result: the recurrence's gates. -/
theorem result_eq (d : Dev nD) (a0 : Vec Ideal S512x3 .i32) (a1 : Vec Ideal S512x2 .f32) (a2 : Vec Ideal S64x1 .f32) (ha : ∀ i, (a0 i).toNat < 64)
    (h0 : m ((d.tc : Thread nD τ).loc main_arg0) = a0) (h1 : m ((d.tc : Thread nD τ).loc main_arg1) = a1) (h2 : m ((d.tc : Thread nD τ).loc main_arg2) = a2)
    (c : Fin 128) (b : Fin 4) :
    ((STEP^[128] (entryContents preI m d)) (Proc.devRef .tc main_v10_6) : Vec Ideal S128x4 .f32) (ix2 c b)
      = GateSpec.out (GateIdealRun.dataOf a0 a1 a2 ha) c b :=
  (steps_at (entry_at m d a0 a1 a2 ha h0 h1 h2) 128 le_rfl).outs c b c.isLt

end Cert.GateRefRun
end
-- ==== Proof.DenseSpec.lean ====
/-
  The dense call read one row at a time, over the extended reals: a token's row normalized and projected, each head's
  reading of the slots by a softmax, the four heads side by side, the reading projected back, and the mean of a chunk's
  sixteen readings. Beside it the scalar facts that let the two programs' spellings meet.
-/
module

public import Idealize.ShloMosaic.PureOps.Ideal
public import Idealize.ShloMosaic.Lib.IdealHost

@[expose] public section

noncomputable section

namespace Cert.DenseSpec

open Idealize.ShloMosaic

/-! ## One token -/

/-- The mean of a row of 2048 entries. -/
def mean (x : Fin 2048 → EReal) : EReal := Ideal.div (∑ k, x k) (Ideal.ofBits .f32 0x45000000#32)

/-- A row's variance, with the small constant added. -/
def spread (x : Fin 2048 → EReal) : EReal :=
  Ideal.div (∑ k, (x k - mean x) * (x k - mean x)) (Ideal.ofBits .f32 0x45000000#32) + Ideal.ofBits .f32 0x3727C5AC#32

/-- The row normalized, scaled and shifted, at one entry. -/
def normed (x g b : Fin 2048 → EReal) (k : Fin 2048) : EReal :=
  Ideal.div (x k - mean x) (Ideal.sqrt (spread x)) * g k + b k

/-- The normalized row projected to column `d`. -/
def proj (x g b : Fin 2048 → EReal) (w : Fin 2048 → Fin 128 → EReal) (d : Fin 128) : EReal := ∑ k, normed x g b k * w k d

/-- A head's score of slot `n`. -/
def score (q : Fin 32 → EReal) (s : Fin 64 → Fin 32 → EReal) (n : Fin 64) : EReal :=
  (∑ e, q e * s n e) * Ideal.ofBits .f32 0x3E3504F3#32

/-- The largest of 64 scores. -/
def top (f : Fin 64 → EReal) : EReal := (Finset.univ : Finset (Fin 64)).fold max (Ideal.ofBits .f32 0xFF800000#32) f

/-- The softmax of 64 scores. -/
def weight (f : Fin 64 → EReal) (n : Fin 64) : EReal :=
  Ideal.div (Ideal.exp (f n - top f)) (∑ k, Ideal.exp (f k - top f))

/-- What a head reads out of the slots, at its entry `e`. -/
def head (q : Fin 32 → EReal) (s : Fin 64 → Fin 32 → EReal) (e : Fin 32) : EReal := ∑ n, weight (score q s) n * s n e

/-- Entry `e` of head `h` among the 128 columns. -/
def col (h : Fin 4) (e : Fin 32) : Fin 128 := ⟨h.val * 32 + e.val, by omega⟩

/-- The four heads' readings side by side, from the projected row `p`. -/
def reading (p : Fin 128 → EReal) (s : Fin 64 → Fin 128 → EReal) (d : Fin 128) : EReal :=
  head (fun e => p (col ⟨d.val / 32, by omega⟩ e)) (fun n e => s n (col ⟨d.val / 32, by omega⟩ e)) ⟨d.val % 32, by omega⟩

theorem reading_eq (p : Fin 128 → EReal) (s : Fin 64 → Fin 128 → EReal) (d : Fin 128) :
    reading p s d = ∑ n, weight (score (fun e => p (col ⟨d.val / 32, by omega⟩ e)) (fun n e => s n (col ⟨d.val / 32, by omega⟩ e))) n * s n d := by
  have h : col ⟨d.val / 32, by omega⟩ ⟨d.val % 32, by omega⟩ = d := Fin.ext (by show d.val / 32 * 32 + d.val % 32 = d.val; omega)
  unfold reading head
  simp only [h]

/-- The reading projected back, at entry `e`. -/
def back (p : Fin 128 → EReal) (s : Fin 64 → Fin 128 → EReal) (w : Fin 128 → Fin 2048 → EReal) (e : Fin 2048) : EReal :=
  ∑ d, reading p s d * w d e

/-- The mean of sixteen entries. -/
def mean16 (f : Fin 16 → EReal) : EReal := Ideal.div (∑ i, f i) (Ideal.ofBits .f32 0x41800000#32)

/-! ## Scalar facts -/

theorem ofBits_2048 : Ideal.ofBits .f32 0x45000000#32 = ((2048 : ℝ) : EReal) := by
  simp [Ideal.ofBits, Ideal.ieee, -EReal.coe_mul]; norm_num

theorem ofBits_16 : Ideal.ofBits .f32 0x41800000#32 = ((16 : ℝ) : EReal) := by
  simp [Ideal.ofBits, Ideal.ieee, -EReal.coe_mul]; norm_num

theorem ofBits_sixteenth : Ideal.ofBits .f32 0x3D800000#32 = ((1 / 16 : ℝ) : EReal) := by
  simp [Ideal.ofBits, Ideal.ieee, -EReal.coe_mul]; norm_num

theorem ofBits_small_pos : 0 < Ideal.ofBits .f32 0x3727C5AC#32 := by
  simp [Ideal.ofBits, Ideal.ieee, -EReal.coe_mul]

theorem ofBits_low : Ideal.ofBits .f32 0xFF800000#32 = ⊥ := by
  simp [Ideal.ofBits, Ideal.ieee]

theorem mul_self_nonneg (x : EReal) : 0 ≤ x * x := by
  induction x using EReal.rec with
  | bot => simp
  | top => simp
  | coe r => exact_mod_cast _root_.mul_self_nonneg r

theorem spread_pos (x : Fin 2048 → EReal) : 0 < spread x := by
  have h : 0 ≤ Ideal.div (∑ k, (x k - mean x) * (x k - mean x)) (Ideal.ofBits .f32 0x45000000#32) := by
    rw [ofBits_2048, Ideal.div_coe (by norm_num)]
    exact mul_nonneg (Finset.sum_nonneg fun k _ => mul_self_nonneg _) (by exact_mod_cast (by norm_num : (0 : ℝ) ≤ 1 / 2048))
  exact lt_of_lt_of_le ofBits_small_pos (le_add_of_nonneg_left h)

/-- Multiplying by the reciprocal root of a positive value is dividing by its root. -/
theorem mul_rsqrt (x y : EReal) (h : 0 < y) : x * Ideal.rsqrt y = Ideal.div x (Ideal.sqrt y) := by
  induction y using EReal.rec with
  | bot => exact absurd h (by simp)
  | top => simp [Ideal.div]
  | coe r =>
    have hr : 0 < r := by exact_mod_cast h
    have hs : Real.sqrt r ≠ 0 := (Real.sqrt_pos.2 hr).ne'
    rw [Ideal.rsqrt_coe, Ideal.sqrt_coe, if_neg (not_lt.2 hr.le), if_neg hr.ne', if_neg (not_lt.2 hr.le), Ideal.div_coe hs, one_div]

theorem max_low (x : EReal) : max (Ideal.ofBits .f32 0xFF800000#32) x = x := by rw [ofBits_low]; exact max_eq_right bot_le

/-- A sum of 512 entries weighted by 1/16 on chunk `c` and by 0 off it is the mean of that chunk. -/
theorem pooled (f : Fin 512 → EReal) (c : Fin 32) (w : Fin 512 → EReal)
    (hw : ∀ k, w k = if k.val / 16 = c.val then Ideal.ofBits .f32 0x3D800000#32 else 0) :
    ∑ k, w k * f k = mean16 fun i => f ⟨16 * c.val + i.val, by omega⟩ := by
  have e : ∀ k : Fin 512, w k * f k = if k.val / 16 = c.val then ((1 / 16 : ℝ) : EReal) * f k else 0 := fun k => by
    rw [hw, ofBits_sixteenth]; split <;> simp
  simp only [e]
  rw [← Finset.sum_filter]
  have hm : ∑ k ∈ Finset.univ.filter (fun k : Fin 512 => k.val / 16 = c.val), ((1 / 16 : ℝ) : EReal) * f k
      = ∑ i : Fin 16, ((1 / 16 : ℝ) : EReal) * f ⟨16 * c.val + i.val, by omega⟩ := by
    refine (Finset.sum_bij (fun (i : Fin 16) _ => (⟨16 * c.val + i.val, by omega⟩ : Fin 512)) ?_ ?_ ?_ ?_).symm
    · intro i _; simp; omega
    · intro i _ j _ h; simp at h; exact Fin.ext h
    · intro k hk
      simp at hk
      exact ⟨⟨k.val % 16, by omega⟩, Finset.mem_univ _, Fin.ext (by simp; omega)⟩
    · intro i _; rfl
  rw [hm, mean16, ofBits_16, Ideal.div_coe (by norm_num), mul_comm _ ((1 / 16 : ℝ) : EReal)]
  induction (Finset.univ : Finset (Fin 16)) using Finset.induction_on with
  | empty => simp
  | insert a s ha ih =>
    rw [Finset.sum_insert ha, Finset.sum_insert ha, ih,
      EReal.left_distrib_of_nonneg_of_ne_top (by exact_mod_cast (by norm_num : (0 : ℝ) ≤ 1 / 16)) (EReal.coe_ne_top _)]

end Cert.DenseSpec

end
-- ==== Proof.DenseIdealValue.lean ====
/-
  The dense call's kernel over the extended reals: what a grid point's body computes, read at an index as the row
  functions of `Cert.DenseSpec`, and the two result arrays after the run.
-/
module

public import proofs.«01_k».proof.Proof.Gen.DenseIdeal.Value
public import proofs.«01_k».proof.Proof.DenseSpec
public import Idealize.ShloMosaic.Lib.Pointwise
public import Idealize.ShloMosaic.Lib.StableHlo.ReadAt

@[expose] public section

set_option maxRecDepth 16384

noncomputable section

namespace Cert.DenseIdealRun

open Cert.DenseIdeal Cert.DenseIdeal.Gen Cert.DenseIdeal.Value
open Idealize.ShloMosaic Idealize.ShloMosaic.TcCoe Idealize.SL.Sem

/-! ## The body's values at an index -/

theorem proj_at (x : Vec Ideal S1x512x2048 .f32) (g b : Vec Ideal S1x2048 .f32) (w : Vec Ideal S2048x128 .f32) (r : Fin 512) (d : Fin 128) :
    k0_pay4 x g b w (ix2 r d) = DenseSpec.proj (fun k => x (ix3 0 r k)) (fun k => g (ix2 0 k)) (fun k => b (ix2 0 k)) (fun k d => w (ix2 k d)) d := by
  unfold DenseSpec.proj DenseSpec.normed
  simp only [← DenseSpec.mul_rsqrt _ _ (DenseSpec.spread_pos _)]
  pointwise [k0_pay4, DenseSpec.spread, DenseSpec.mean]

theorem head0_at (x : Vec Ideal S1x512x2048 .f32) (g b : Vec Ideal S1x2048 .f32) (w : Vec Ideal S2048x128 .f32) (s : Vec Ideal S64x32 .f32)
    (r : Fin 512) (e : Fin 32) :
    k0_pay7 (k0_pay5 s) (k0_pay6 x g b w s) (ix2 r e)
      = DenseSpec.head (fun e => k0_pay4 x g b w (ix2 r (DenseSpec.col 0 e))) (fun n e => s (ix2 n e)) e := by
  unfold k0_pay6
  generalize k0_pay4 x g b w = p
  pointwise [k0_pay7, k0_pay5, DenseSpec.head, DenseSpec.weight, DenseSpec.top, DenseSpec.score, DenseSpec.col]

theorem head1_at (p : FVec Ideal S512x128 .f32) (s : Vec Ideal S64x32 .f32) (r : Fin 512) (e : Fin 32) :
    k0_pay8 p s (ix2 r e) = DenseSpec.head (fun e => p (ix2 r (DenseSpec.col 1 e))) (fun n e => s (ix2 n e)) e := by
  pointwise [k0_pay8, DenseSpec.head, DenseSpec.weight, DenseSpec.top, DenseSpec.score, DenseSpec.col]

theorem head2_at (p : FVec Ideal S512x128 .f32) (s : Vec Ideal S64x32 .f32) (r : Fin 512) (e : Fin 32) :
    k0_pay9 p s (ix2 r e) = DenseSpec.head (fun e => p (ix2 r (DenseSpec.col 2 e))) (fun n e => s (ix2 n e)) e := by
  pointwise [k0_pay9, DenseSpec.head, DenseSpec.weight, DenseSpec.top, DenseSpec.score, DenseSpec.col]

/-- One of four blocks of 32 columns side by side: block `q` at its column. -/
theorem block_at (xs : List ((s : Shape) × (s.Idx → EReal))) (h : Shape.Concatenates (xs.map (·.1)) S512x128 1) (q : ℕ) (hq : q < xs.length)
    (x : S512x32.Idx → EReal) (hx : xs[q] = ⟨S512x32, x⟩)
    (hpre : (((xs.take q).map (·.1)).map fun s => if h : s.rank = S512x128.rank then s.size ((1 : Fin 2).cast h.symm) else 0).sum = 32 * q)
    (r : Fin 512) (d : Fin 128) (hd : d.val / 32 = q) :
    concatenate S512x128 1 xs h (ix2 r d) = x (ix2 r (⟨d.val % 32, by omega⟩ : Fin 32)) :=
  concatenate_apply_piece 1 xs h (ix2 r d) q hq S512x32 x hx rfl (32 * q) hpre (ix2 r (⟨d.val % 32, by omega⟩ : Fin 32))
    (fun b hb => by fin_cases b <;> first | rfl | exact absurd rfl hb) (by show 32 * q + d.val % 32 = d.val; omega)

/-- Four blocks of 32 columns side by side. -/
theorem side_at (h0 h1 h2 h3 : FVec Ideal S512x32 .f32) (r : Fin 512) (d : Fin 128) :
    concatenate S512x128 1 [⟨S512x32, h0⟩, ⟨S512x32, h1⟩, ⟨S512x32, h2⟩, ⟨S512x32, h3⟩] concatenates_S512x32_S512x32_S512x32_S512x32_S512x128_d1 (ix2 r d)
      = (![h0, h1, h2, h3] (⟨d.val / 32, by omega⟩ : Fin 4)) (ix2 r (⟨d.val % 32, by omega⟩ : Fin 32)) := by
  have hd := d.isLt
  obtain h | h | h | h : d.val / 32 = 0 ∨ d.val / 32 = 1 ∨ d.val / 32 = 2 ∨ d.val / 32 = 3 := by omega
  · exact (block_at _ _ 0 (by simp) h0 rfl rfl r d h).trans (by simp only [h]; rfl)
  · exact (block_at _ _ 1 (by simp) h1 rfl rfl r d h).trans (by simp only [h]; rfl)
  · exact (block_at _ _ 2 (by simp) h2 rfl rfl r d h).trans (by simp only [h]; rfl)
  · exact (block_at _ _ 3 (by simp) h3 rfl rfl r d h).trans (by simp only [h]; rfl)

/-- The four heads laid side by side: the first three handed in, the fourth read here. -/
theorem heads_at (h0 h1 h2 : FVec Ideal S512x32 .f32) (p : FVec Ideal S512x128 .f32) (s : Vec Ideal S64x32 .f32) (r : Fin 512) (d : Fin 128) :
    k0_pay1 h0 h1 h2 (k0_pay10 s) (k0_pay11 p) (constant S512x64 .f32 0x00000000#32) (ix2 r d)
      = (![fun e => h0 (ix2 r e), fun e => h1 (ix2 r e), fun e => h2 (ix2 r e),
          DenseSpec.head (fun e => p (ix2 r (DenseSpec.col 3 e))) (fun n e => s (ix2 n e))] : Fin 4 → Fin 32 → EReal)
        ⟨d.val / 32, by omega⟩ ⟨d.val % 32, by omega⟩ := by
  refine (side_at h0 h1 h2 _ r d).trans ?_
  generalize (⟨d.val / 32, by omega⟩ : Fin 4) = q
  generalize (⟨d.val % 32, by omega⟩ : Fin 32) = e
  match q with
  | 0 => rfl
  | 1 => rfl
  | 2 => rfl
  | 3 =>
    show matmul (F := Ideal) _ _ _ _ _ (ix2 r e) = DenseSpec.head _ _ e
    pointwise [k0_pay10, k0_pay11, DenseSpec.head, DenseSpec.weight, DenseSpec.top, DenseSpec.score, DenseSpec.col]

theorem chunk_of (k : Fin 512) : IntOp.shrsi .vector (BitVec.ofNat 32 k.val) 4#32 = BitVec.ofNat 32 (k.val / 16) := by
  revert k; decide +kernel

/-- The mean over chunks, as the body's product with its table of weights. -/
theorem pool_at (h0 h1 h2 h3 : FVec Ideal S512x32 .f32) (s : Vec Ideal S64x32 .f32) (z : FVec Ideal S512x64 .f32) (c : Fin 32) (d : Fin 128) :
    k0_pay3 h0 h1 h2 s h3 z (ix3 0 c d) = DenseSpec.mean16 fun i => k0_pay1 h0 h1 h2 s h3 z (ix2 (⟨16 * c.val + i.val, by omega⟩ : Fin 512) d) := by
  unfold k0_pay3
  generalize k0_pay1 h0 h1 h2 s h3 z = p
  refine Eq.trans ?_ (DenseSpec.pooled (fun k => p (ix2 k d)) c (fun k => if k.val / 16 = c.val then Ideal.ofBits .f32 0x3D800000#32 else 0) fun _ => rfl)
  pointwise
  refine Finset.sum_congr rfl fun k _ => ?_
  have hk := k.isLt
  have hc := c.isLt
  rw [chunk_of]
  by_cases h : k.val / 16 = c.val
  · rw [if_pos h, (IntOp.cmpi_eq).2 (by rw [h])]
    rfl
  · rw [if_neg h, zero_mul]
    have hne : ¬ IntOp.cmpi .eq (BitVec.ofNat 32 (k.val / 16)) (BitVec.ofNat 32 c.val) = 1#1 := fun e => h (by
      have := congrArg BitVec.toNat (IntOp.cmpi_eq.1 e)
      simp only [BitVec.toNat_ofNat] at this
      omega)
    exact if_neg hne

theorem back_at (h0 h1 h2 h3 : FVec Ideal S512x32 .f32) (s : Vec Ideal S64x32 .f32) (z : FVec Ideal S512x64 .f32) (w : Vec Ideal S128x2048 .f32)
    (r : Fin 512) (e : Fin 2048) :
    k0_pay2 h0 h1 h2 s h3 z w (ix3 0 r e) = ∑ d : Fin 128, k0_pay1 h0 h1 h2 s h3 z (ix2 r d) * w (ix2 d e) := by
  unfold k0_pay2
  generalize k0_pay1 h0 h1 h2 s h3 z = p
  pointwise

/-! ## A grid point's two blocks -/

theorem hz2 : (![0, 0] : Fin 2 → Nat) = fun _ => 0 := funext fun a => by fin_cases a <;> rfl
theorem hz3 : (![0, 0, 0] : Fin 3 → Nat) = fun _ => 0 := funext fun a => by fin_cases a <;> rfl

section Block

variable (x : Vec Ideal S1x512x2048 .f32) (g b : Vec Ideal S1x2048 .f32) (w : Vec Ideal S2048x128 .f32) (s : Vec Ideal S64x128 .f32)
  (v : Vec Ideal S128x2048 .f32)

/-- Row `r` of a block projected. -/
def rowProj (r : Fin 512) : Fin 128 → EReal :=
  DenseSpec.proj (fun k => x (ix3 0 r k)) (fun k => g (ix2 0 k)) (fun k => b (ix2 0 k)) (fun k d => w (ix2 k d))

theorem proj_block (r : Fin 512) (d : Fin 128) : k0_pay12 x g b w s v (ix2 r d) = rowProj x g b w r d := by
  unfold k0_pay12
  rw [View.ld_unit_zero hz3, View.ld_unit_zero hz2, View.ld_unit_zero hz2, View.ld_unit_zero hz2]
  exact proj_at x g b w r d

/-- The reading of every row of the block. -/
theorem reading_block (r : Fin 512) (d : Fin 128) :
    k0_pay1 (k0_pay14 x g b w s v) (k0_pay15 x g b w s v) (k0_pay16 x g b w s v) (k0_pay17 x g b w s v) (k0_pay18 x g b w s v)
        (k0_pay13 x g b w s v) (ix2 r d)
      = DenseSpec.reading (rowProj x g b w r) (fun n d => s (ix2 n d)) d := by
  refine (heads_at _ _ _ _ _ r d).trans ?_
  unfold DenseSpec.reading
  generalize (⟨d.val / 32, by omega⟩ : Fin 4) = q
  generalize (⟨d.val % 32, by omega⟩ : Fin 32) = e
  match q with
  | 0 =>
    refine (head0_at _ _ _ _ _ r e).trans (congrFun (congrArg₂ DenseSpec.head (funext fun e => ?_) (funext fun n => funext fun e => ?_)) e)
    · exact proj_block x g b w s v r _
    · exact congrArg s (funext fun a => Fin.ext (by fin_cases a <;> simp [DenseSpec.col] <;> rfl))
  | 1 =>
    refine (head1_at _ _ r e).trans (congrFun (congrArg₂ DenseSpec.head (funext fun e => ?_) (funext fun n => funext fun e => ?_)) e)
    · exact proj_block x g b w s v r _
    · exact congrArg s (funext fun a => Fin.ext (by fin_cases a <;> simp [DenseSpec.col] <;> rfl))
  | 2 =>
    refine (head2_at _ _ r e).trans (congrFun (congrArg₂ DenseSpec.head (funext fun e => ?_) (funext fun n => funext fun e => ?_)) e)
    · exact proj_block x g b w s v r _
    · exact congrArg s (funext fun a => Fin.ext (by fin_cases a <;> simp [DenseSpec.col] <;> rfl))
  | 3 =>
    refine congrFun (congrArg₂ DenseSpec.head (funext fun e => ?_) (funext fun n => funext fun e => ?_)) e
    · exact proj_block x g b w s v r _
    · exact congrArg s (funext fun a => Fin.ext (by fin_cases a <;> simp [DenseSpec.col] <;> rfl))

theorem out6_at (r : Fin 512) (e : Fin 2048) :
    out0_6 x g b w s v (ix3 0 r e) = DenseSpec.back (rowProj x g b w r) (fun n d => s (ix2 n d)) (fun d e => v (ix2 d e)) e := by
  unfold out0_6
  rw [View.canon_unit_zero hz3, back_at]
  unfold DenseSpec.back
  refine Finset.sum_congr rfl fun d _ => ?_
  rw [reading_block, View.ld_unit_zero hz2]

theorem out7_at (q : Fin 32) (d : Fin 128) :
    out0_7 x g b w s v (ix3 0 q d)
      = DenseSpec.mean16 fun i => DenseSpec.reading (rowProj x g b w ⟨16 * q.val + i.val, by omega⟩) (fun n d => s (ix2 n d)) d := by
  unfold out0_7
  rw [View.canon_unit_zero hz3, pool_at]
  simp only [reading_block]

end Block

/-! ## The arrays -/

variable (m : (ℓ : Loc nD τ sig) → Buf (Elt Ideal) ℓ) (ρ : Dev nD → PrngReg)

theorem V_slots (c : Dev nD) (n : Fin 64) (d : Fin 128) :
    (V m c main_v0 : Vec Ideal S64x128 .f32) (ix2 n d) = (m ((c : Thread nD τ).loc main_arg1) : Vec Ideal S1x64x128 .f32) (ix3 0 n d) := by
  unfold V
  after_reads_at

theorem V_gain (c : Dev nD) (k : Fin 2048) :
    (V m c main_v1 : Vec Ideal S1x2048 .f32) (ix2 0 k) = (m ((c : Thread nD τ).loc main_arg3) : Vec Ideal S2048 .f32) (ix1 k) := by
  unfold V
  after_reads_at

theorem V_shift (c : Dev nD) (k : Fin 2048) :
    (V m c main_v2 : Vec Ideal S1x2048 .f32) (ix2 0 k) = (m ((c : Thread nD τ).loc main_arg4) : Vec Ideal S2048 .f32) (ix1 k) := by
  unfold V
  after_reads_at

/-- Where each window's block lies at grid point `t`. -/
theorem index0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)
theorem index1 : ∀ t : Fin cfg0.N, win0_1.index t (0 : Fin 2) = 0 ∧ win0_1.index t (1 : Fin 2) = 0 := (by decide +kernel : ∀ t : Fin grid0.N, _)
theorem index2 : ∀ t : Fin cfg0.N, win0_2.index t (0 : Fin 2) = 0 ∧ win0_2.index t (1 : Fin 2) = 0 := (by decide +kernel : ∀ t : Fin grid0.N, _)
theorem index3 : ∀ t : Fin cfg0.N, win0_3.index t (0 : Fin 2) = 0 ∧ win0_3.index t (1 : Fin 2) = 0 := (by decide +kernel : ∀ t : Fin grid0.N, _)
theorem index4 : ∀ t : Fin cfg0.N, win0_4.index t (0 : Fin 2) = 0 ∧ win0_4.index t (1 : Fin 2) = 0 := (by decide +kernel : ∀ t : Fin grid0.N, _)
theorem index5 : ∀ t : Fin cfg0.N, win0_5.index t (0 : Fin 2) = 0 ∧ win0_5.index t (1 : Fin 2) = 0 := (by decide +kernel : ∀ t : Fin grid0.N, _)
theorem index6 : ∀ t : Fin cfg0.N, win0_6.index t (0 : Fin 3) = t.val / 4 ∧ win0_6.index t (1 : Fin 3) = t.val % 4 ∧ win0_6.index t (2 : Fin 3) = 0 :=
  (by decide +kernel : ∀ t : Fin grid0.N, _)
theorem index7 : ∀ t : Fin cfg0.N, win0_7.index t (0 : Fin 3) = t.val / 4 ∧ win0_7.index t (1 : Fin 3) = t.val % 4 ∧ win0_7.index t (2 : Fin 3) = 0 :=
  (by decide +kernel : ∀ t : Fin grid0.N, _)

/-- The point of batch `b` and token block `q`. -/
def point (b q : Fin 4) : Fin cfg0.N := (⟨4 * b.val + q.val, by rw [N_0]; omega⟩ : Fin grid0.N)

theorem point_val (b q : Fin 4) : (point b q).val = 4 * b.val + q.val := rfl

theorem read0 (c : Dev nD) (b q : Fin 4) (r : Fin 512) (k : Fin 2048) :
    (iblk m c 0 (point b q) : Vec Ideal S1x512x2048 .f32) (ix3 0 r k)
      = (V m c main_arg0 : Vec Ideal S4x2048x2048 .f32) (ix3 b (⟨512 * q.val + r.val, by omega⟩ : Fin 2048) k) := by
  obtain ⟨e0, e1, e2⟩ := index0 (point b q)
  rw [point_val] at e0 e1
  show V m c main_arg0 (((cfg0.win 0).blk (point b q)).view.emb (ix3 0 r k)) = _
  refine congrArg (V m c main_arg0) (funext fun a => Fin.ext ?_)
  match a with
  | ⟨0, _⟩ => show win0_0.index (point b q) (0 : Fin 3) * 1 + 1 * 0 = b.val; omega
  | ⟨1, _⟩ => show win0_0.index (point b q) (1 : Fin 3) * 512 + 1 * r.val = 512 * q.val + r.val; omega
  | ⟨2, _⟩ => show win0_0.index (point b q) (2 : Fin 3) * 2048 + 1 * k.val = k.val; omega

theorem read1 (c : Dev nD) (t : Fin cfg0.N) (i : Fin 1) (j : Fin 2048) :
    (iblk m c 1 t : Vec Ideal S1x2048 .f32) (ix2 i j) = (V m c main_v1 : Vec Ideal S1x2048 .f32) (ix2 i j) := by
  obtain ⟨e0, e1⟩ := index1 t
  show V m c main_v1 (((cfg0.win 1).blk t).view.emb (ix2 i j)) = _
  refine congrArg (V m c main_v1) (funext fun a => Fin.ext ?_)
  match a with
  | ⟨0, _⟩ => show win0_1.index t (0 : Fin 2) * 1 + 1 * i.val = i.val; omega
  | ⟨1, _⟩ => show win0_1.index t (1 : Fin 2) * 2048 + 1 * j.val = j.val; omega

theorem read2 (c : Dev nD) (t : Fin cfg0.N) (i : Fin 1) (j : Fin 2048) :
    (iblk m c 2 t : Vec Ideal S1x2048 .f32) (ix2 i j) = (V m c main_v2 : Vec Ideal S1x2048 .f32) (ix2 i j) := by
  obtain ⟨e0, e1⟩ := index2 t
  show V m c main_v2 (((cfg0.win 2).blk t).view.emb (ix2 i j)) = _
  refine congrArg (V m c main_v2) (funext fun a => Fin.ext ?_)
  match a with
  | ⟨0, _⟩ => show win0_2.index t (0 : Fin 2) * 1 + 1 * i.val = i.val; omega
  | ⟨1, _⟩ => show win0_2.index t (1 : Fin 2) * 2048 + 1 * j.val = j.val; omega

theorem read3 (c : Dev nD) (t : Fin cfg0.N) (i : Fin 2048) (j : Fin 128) :
    (iblk m c 3 t : Vec Ideal S2048x128 .f32) (ix2 i j) = (V m c main_arg2 : Vec Ideal S2048x128 .f32) (ix2 i j) := by
  obtain ⟨e0, e1⟩ := index3 t
  show V m c main_arg2 (((cfg0.win 3).blk t).view.emb (ix2 i j)) = _
  refine congrArg (V m c main_arg2) (funext fun a => Fin.ext ?_)
  match a with
  | ⟨0, _⟩ => show win0_3.index t (0 : Fin 2) * 2048 + 1 * i.val = i.val; omega
  | ⟨1, _⟩ => show win0_3.index t (1 : Fin 2) * 128 + 1 * j.val = j.val; omega

theorem read4 (c : Dev nD) (t : Fin cfg0.N) (i : Fin 64) (j : Fin 128) :
    (iblk m c 4 t : Vec Ideal S64x128 .f32) (ix2 i j) = (V m c main_v0 : Vec Ideal S64x128 .f32) (ix2 i j) := by
  obtain ⟨e0, e1⟩ := index4 t
  show V m c main_v0 (((cfg0.win 4).blk t).view.emb (ix2 i j)) = _
  refine congrArg (V m c main_v0) (funext fun a => Fin.ext ?_)
  match a with
  | ⟨0, _⟩ => show win0_4.index t (0 : Fin 2) * 64 + 1 * i.val = i.val; omega
  | ⟨1, _⟩ => show win0_4.index t (1 : Fin 2) * 128 + 1 * j.val = j.val; omega

theorem read5 (c : Dev nD) (t : Fin cfg0.N) (i : Fin 128) (j : Fin 2048) :
    (iblk m c 5 t : Vec Ideal S128x2048 .f32) (ix2 i j) = (V m c main_arg5 : Vec Ideal S128x2048 .f32) (ix2 i j) := by
  obtain ⟨e0, e1⟩ := index5 t
  show V m c main_arg5 (((cfg0.win 5).blk t).view.emb (ix2 i j)) = _
  refine congrArg (V m c main_arg5) (funext fun a => Fin.ext ?_)
  match a with
  | ⟨0, _⟩ => show win0_5.index t (0 : Fin 2) * 128 + 1 * i.val = i.val; omega
  | ⟨1, _⟩ => show win0_5.index t (1 : Fin 2) * 2048 + 1 * j.val = j.val; omega

/-- Token `t` of batch `b` projected, from the arguments. -/
def token (c : Dev nD) (b : Fin 4) (t : Fin 2048) : Fin 128 → EReal :=
  DenseSpec.proj (fun k => (m ((c : Thread nD τ).loc main_arg0) : Vec Ideal S4x2048x2048 .f32) (ix3 b t k))
    (fun k => (m ((c : Thread nD τ).loc main_arg3) : Vec Ideal S2048 .f32) (ix1 k))
    (fun k => (m ((c : Thread nD τ).loc main_arg4) : Vec Ideal S2048 .f32) (ix1 k))
    (fun k d => (m ((c : Thread nD τ).loc main_arg2) : Vec Ideal S2048x128 .f32) (ix2 k d))

/-- The slots, from the arguments. -/
def slots (c : Dev nD) (n : Fin 64) (d : Fin 128) : EReal := (m ((c : Thread nD τ).loc main_arg1) : Vec Ideal S1x64x128 .f32) (ix3 0 n d)

theorem row_eq (c : Dev nD) (b q : Fin 4) (r : Fin 512) :
    rowProj (iblk m c 0 (point b q)) (iblk m c 1 (point b q)) (iblk m c 2 (point b q)) (iblk m c 3 (point b q)) r
      = token m c b ⟨512 * q.val + r.val, by omega⟩ := by
  unfold rowProj token
  simp only [read0, read1, read2, read3]
  rw [V_main_arg0, V_main_arg2]
  exact congrArg₂ (fun g b => DenseSpec.proj _ g b _) (funext (V_gain m c)) (funext (V_shift m c))

theorem slots_eq (c : Dev nD) (t : Fin cfg0.N) : (fun n d => (iblk m c 4 t : Vec Ideal S64x128 .f32) (ix2 n d)) = slots m c := by
  funext n d
  rw [read4, V_slots]; rfl

theorem final6 (c : Dev nD) (b : Fin 4) (t : Fin 2048) (e : Fin 2048) :
    ((dats m 0 c).arrAt 6 cfg0.N : Vec Ideal S4x2048x2048 .f32) (ix3 b t e)
      = DenseSpec.back (token m c b t) (slots m c) (fun d e => (m ((c : Thread nD τ).loc main_arg5) : Vec Ideal S128x2048 .f32) (ix2 d e)) e := by
  have ht := t.isLt
  let q : Fin 4 := ⟨t.val / 512, by omega⟩
  let r : Fin 512 := ⟨t.val % 512, by omega⟩
  have key := congrFun (blocks6 m c (point b q) (flush0_6 _)) (ix3 0 r e)
  rw [flushed6] at key
  have htr : (⟨512 * q.val + r.val, by omega⟩ : Fin 2048) = t := Fin.ext (by show 512 * (t.val / 512) + t.val % 512 = t.val; omega)
  refine Eq.trans ?_ (key.trans ((out6_at _ _ _ _ _ _ r e).trans ?_))
  · obtain ⟨e0, e1, e2⟩ := index6 (point b q)
    rw [point_val] at e0 e1
    refine congrArg ((dats m 0 c).arrAt 6 cfg0.N) (funext fun a => Fin.ext ?_)
    match a with
    | ⟨0, _⟩ => show b.val = win0_6.index (point b q) (0 : Fin 3) * 1 + 1 * 0; omega
    | ⟨1, _⟩ => show t.val = win0_6.index (point b q) (1 : Fin 3) * 512 + 1 * (t.val % 512); have : q.val = t.val / 512 := rfl; omega
    | ⟨2, _⟩ => show e.val = win0_6.index (point b q) (2 : Fin 3) * 2048 + 1 * e.val; omega
  · rw [row_eq, slots_eq, htr]
    simp only [read5]
    rw [V_main_arg5]

theorem final7 (c : Dev nD) (b : Fin 4) (n : Fin 128) (d : Fin 128) :
    ((dats m 0 c).arrAt 7 cfg0.N : Vec Ideal S4x128x128 .f32) (ix3 b n d)
      = DenseSpec.mean16 fun i => DenseSpec.reading (token m c b ⟨n.val * 16 + i.val, by omega⟩) (slots m c) d := by
  have hn := n.isLt
  let q : Fin 4 := ⟨n.val / 32, by omega⟩
  let r : Fin 32 := ⟨n.val % 32, by omega⟩
  have key := congrFun (blocks7 m c (point b q) (flush0_7 _)) (ix3 0 r d)
  rw [flushed7] at key
  refine Eq.trans ?_ (key.trans ((out7_at _ _ _ _ _ _ r d).trans ?_))
  · obtain ⟨e0, e1, e2⟩ := index7 (point b q)
    rw [point_val] at e0 e1
    refine congrArg ((dats m 0 c).arrAt 7 cfg0.N) (funext fun a => Fin.ext ?_)
    match a with
    | ⟨0, _⟩ => show b.val = win0_7.index (point b q) (0 : Fin 3) * 1 + 1 * 0; omega
    | ⟨1, _⟩ => show n.val = win0_7.index (point b q) (1 : Fin 3) * 32 + 1 * (n.val % 32); have : q.val = n.val / 32 := rfl; omega
    | ⟨2, _⟩ => show d.val = win0_7.index (point b q) (2 : Fin 3) * 128 + 1 * d.val; omega
  · rw [slots_eq]
    refine congrArg DenseSpec.mean16 (funext fun i => ?_)
    rw [row_eq]
    have hi : (⟨512 * q.val + (16 * r.val + i.val), by omega⟩ : Fin 2048) = ⟨n.val * 16 + i.val, by omega⟩ :=
      Fin.ext (by show 512 * (n.val / 32) + (16 * (n.val % 32) + i.val) = n.val * 16 + i.val; omega)
    exact congrArg (fun k => DenseSpec.reading (token m c b k) (slots m c) d) hi

end Cert.DenseIdealRun

end
-- ==== Proof.DenseRefValue.lean ====
/-
  The dense call's reference over the extended reals: its two results read at an index as the row functions of
  `Cert.DenseSpec`.
-/
module

public import proofs.«01_k».proof.Proof.Gen.DenseRefIdeal.Run
public import proofs.«01_k».proof.Proof.DenseSpec
public import Idealize.ShloMosaic.Lib.Pointwise

@[expose] public section

set_option maxRecDepth 16384

noncomputable section

namespace Cert.DenseRefRun

open Cert.DenseRefIdeal Cert.DenseRefIdeal.Gen Cert.DenseRefIdeal.Value
open Idealize.ShloMosaic Idealize.ShloMosaic.TcCoe Idealize.ShloMosaic.StableHlo

/-! ## The operations, stretch by stretch -/

/-- Every token's row less its mean. -/
def centredV (x : FVec Ideal S4x2048x2048 .f32) : FVec Ideal S4x2048x2048 .f32 :=
  subf x (broadcastInDim S4x2048x2048 ![0, 1, 2] bcast_S4x2048x1_S4x2048x2048_0_1_2
    (Host.divf (broadcastInDim S4x2048x1 ![0, 1] bcast_S4x2048_S4x2048x1_0_1
        (Host.reduceAdd x (constant S_ .f32 0x00000000#32) reducesTo_S4x2048x2048_S4x2048_d2 h_S_))
      (broadcastInDim S4x2048x1 ![] bcast_S_S4x2048x1 (constant S_ .f32 0x45000000#32))))

/-- Every token's row normalized and projected. -/
def projV (x : FVec Ideal S4x2048x2048 .f32) (g b : FVec Ideal S2048 .f32) (w : FVec Ideal S2048x128 .f32) : FVec Ideal S4x2048x128 .f32 :=
  Host.dotGeneral dot_S4x2048x2048_S2048x128_S4x2048x128_2_0_01_1_n_n none
    (addf (mulf (Host.divf (centredV x) (broadcastInDim S4x2048x2048 ![0, 1, 2] bcast_S4x2048x1_S4x2048x2048_0_1_2
        (Host.sqrt (addf (Host.divf (broadcastInDim S4x2048x1 ![0, 1] bcast_S4x2048_S4x2048x1_0_1
              (Host.reduceAdd (mulf (centredV x) (centredV x)) (constant S_ .f32 0x00000000#32) reducesTo_S4x2048x2048_S4x2048_d2 h_S_))
            (broadcastInDim S4x2048x1 ![] bcast_S_S4x2048x1 (constant S_ .f32 0x45000000#32)))
          (broadcastInDim S4x2048x1 ![] bcast_S_S4x2048x1 (constant S_ .f32 0x3727C5AC#32))))))
      (broadcastInDim S4x2048x2048 ![0, 1, 2] bcast_S1x1x2048_S4x2048x2048_0_1_2 (broadcastInDim S1x1x2048 ![2] bcast_S2048_S1x1x2048_2 g)))
      (broadcastInDim S4x2048x2048 ![0, 1, 2] bcast_S1x1x2048_S4x2048x2048_0_1_2 (broadcastInDim S1x1x2048 ![2] bcast_S2048_S1x1x2048_2 b)))
    w

/-- The slots by heads. -/
def slotsV (s : FVec Ideal S1x64x128 .f32) : FVec Ideal S4x4x64x32 .f32 :=
  transpose S4x4x64x32 [0, 2, 1, 3] (shapeCast _ (broadcastInDim S4x64x128 ![0, 1, 2] bcast_S1x64x128_S4x64x128_0_1_2 s)
    shapeCasts_S4x64x128_S4x64x4x32) transposes_S4x64x4x32_S4x4x64x32_0_2_1_3

/-- Every head's scores. -/
def scoresV (p : FVec Ideal S4x2048x128 .f32) (k : FVec Ideal S4x4x64x32 .f32) : FVec Ideal S4x4x2048x64 .f32 :=
  mulf (Host.dotGeneral (F := Ideal) (φ₁ := .f32) (φ₂ := .f32) dot_S4x4x2048x32_S4x4x32x64_S4x4x2048x64_3_2_2_3_01_01 none
      (transpose S4x4x2048x32 [0, 2, 1, 3] (shapeCast _ p shapeCasts_S4x2048x128_S4x2048x4x32) transposes_S4x2048x4x32_S4x4x2048x32_0_2_1_3)
      (transpose S4x4x32x64 [0, 1, 3, 2] k transposes_S4x4x64x32_S4x4x32x64_0_1_3_2))
    (broadcastInDim S4x4x2048x64 ![] bcast_S_S4x4x2048x64 (constant S_ .f32 0x3E3504F3#32))

/-- The exponentials of the scores less their maximum. -/
def expV (f : FVec Ideal S4x4x2048x64 .f32) : FVec Ideal S4x4x2048x64 .f32 :=
  Host.exp (subf f (broadcastInDim S4x4x2048x64 ![0, 1, 2, 3] bcast_S4x4x2048x1_S4x4x2048x64_0_1_2_3
    (broadcastInDim S4x4x2048x1 ![0, 1, 2] bcast_S4x4x2048_S4x4x2048x1_0_1_2
      (maximumf (broadcastInDim S4x4x2048 ![] bcast_S_S4x4x2048 (constant S_ .f32 0xFF800000#32))
        (Host.reduce FloatOps.maximumf f (constant S_ .f32 0xFF800000#32) reducesTo_S4x4x2048x64_S4x4x2048_d3 h_S_)))))

/-- The softmax of the scores. -/
def weightsV (f : FVec Ideal S4x4x2048x64 .f32) : FVec Ideal S4x4x2048x64 .f32 :=
  Host.divf (expV f) (broadcastInDim S4x4x2048x64 ![0, 1, 2, 3] bcast_S4x4x2048x1_S4x4x2048x64_0_1_2_3
    (broadcastInDim S4x4x2048x1 ![0, 1, 2] bcast_S4x4x2048_S4x4x2048x1_0_1_2
      (Host.reduceAdd (expV f) (constant S_ .f32 0x00000000#32) reducesTo_S4x4x2048x64_S4x4x2048_d3 h_S_)))

/-- The reading out of the slots, the heads side by side. -/
def readV (a : FVec Ideal S4x4x2048x64 .f32) (k : FVec Ideal S4x4x64x32 .f32) : FVec Ideal S4x2048x128 .f32 :=
  shapeCast _ (transpose S4x2048x4x32 [0, 2, 1, 3]
    (Host.dotGeneral (F := Ideal) (φ₁ := .f32) (φ₂ := .f32) dot_S4x4x2048x64_S4x4x64x32_S4x4x2048x32_3_2_2_3_01_01 none a k : FVec Ideal S4x4x2048x32 .f32) transposes_S4x4x2048x32_S4x2048x4x32_0_2_1_3)
    shapeCasts_S4x2048x4x32_S4x2048x128

/-! ## Each at an index -/

theorem centredV_at (x : FVec Ideal S4x2048x2048 .f32) (b : Fin 4) (t k : Fin 2048) :
    centredV x (ix3 b t k) = x (ix3 b t k) - DenseSpec.mean fun k => x (ix3 b t k) := by
  pointwise [centredV, DenseSpec.mean]

theorem projV_at (x : FVec Ideal S4x2048x2048 .f32) (g z : FVec Ideal S2048 .f32) (w : FVec Ideal S2048x128 .f32) (b : Fin 4) (t : Fin 2048) (d : Fin 128) :
    projV x g z w (ix3 b t d)
      = DenseSpec.proj (fun k => x (ix3 b t k)) (fun k => g (ix1 k)) (fun k => z (ix1 k)) (fun k d => w (ix2 k d)) d := by
  unfold projV DenseSpec.proj DenseSpec.normed DenseSpec.spread
  simp only [← centredV_at]
  generalize centredV x = y
  pointwise

theorem slotsV_at (s : FVec Ideal S1x64x128 .f32) (b h : Fin 4) (n : Fin 64) (e : Fin 32) :
    slotsV s (ix4 b h n e) = s (ix3 0 n (DenseSpec.col h e)) := by
  pointwise [slotsV, DenseSpec.col]

theorem scoresV_at (p : FVec Ideal S4x2048x128 .f32) (k : FVec Ideal S4x4x64x32 .f32) (b h : Fin 4) (t : Fin 2048) (n : Fin 64) :
    scoresV p k (ix4 b h t n) = DenseSpec.score (fun e => p (ix3 b t (DenseSpec.col h e))) (fun n e => k (ix4 b h n e)) n := by
  pointwise [scoresV, DenseSpec.score, DenseSpec.col]

theorem expV_at (f : FVec Ideal S4x4x2048x64 .f32) (b h : Fin 4) (t : Fin 2048) (n : Fin 64) :
    expV f (ix4 b h t n) = Ideal.exp (f (ix4 b h t n) - DenseSpec.top fun n => f (ix4 b h t n)) := by
  pointwise [expV, DenseSpec.top]
  simp only [DenseSpec.max_low]

theorem weightsV_at (f : FVec Ideal S4x4x2048x64 .f32) (b h : Fin 4) (t : Fin 2048) (n : Fin 64) :
    weightsV f (ix4 b h t n) = DenseSpec.weight (fun n => f (ix4 b h t n)) n := by
  unfold weightsV DenseSpec.weight
  simp only [← expV_at]
  generalize expV f = y
  pointwise

theorem readV_at (a : FVec Ideal S4x4x2048x64 .f32) (k : FVec Ideal S4x4x64x32 .f32) (b : Fin 4) (t : Fin 2048) (d : Fin 128) :
    readV a k (ix3 b t d)
      = ∑ n, a (ix4 b ⟨d.val / 32, by omega⟩ t n) * k (ix4 b ⟨d.val / 32, by omega⟩ n (⟨d.val % 32, by omega⟩ : Fin 32)) := by
  pointwise [readV]

/-- The reading at an index, from the projected rows and the slots. -/
theorem reading_at (p : FVec Ideal S4x2048x128 .f32) (s : FVec Ideal S1x64x128 .f32) (b : Fin 4) (t : Fin 2048) (d : Fin 128) :
    readV (weightsV (scoresV p (slotsV s))) (slotsV s) (ix3 b t d)
      = DenseSpec.reading (fun d => p (ix3 b t d)) (fun n d => s (ix3 0 n d)) d := by
  rw [readV_at]
  unfold DenseSpec.reading DenseSpec.head
  simp only [weightsV_at, scoresV_at, slotsV_at]

/-- The rows projected back. -/
theorem backV_at (y : FVec Ideal S4x2048x128 .f32) (w : FVec Ideal S128x2048 .f32) (b : Fin 4) (t e : Fin 2048) :
    Host.dotGeneral (F := Ideal) (φ₁ := .f32) (φ₂ := .f32) dot_S4x2048x128_S128x2048_S4x2048x2048_2_0_01_1_n_n none y w (ix3 b t e) = ∑ d, y (ix3 b t d) * w (ix2 d e) := by
  pointwise

/-- The chunks' means. -/
theorem meanV_at (y : FVec Ideal S4x2048x128 .f32) (b : Fin 4) (n d : Fin 128) :
    Host.divf (F := Ideal) (φ := .f32) (Host.reduceAdd (shapeCast S4x128x16x128 y shapeCasts_S4x2048x128_S4x128x16x128) (constant S_ .f32 0x00000000#32)
        reducesTo_S4x128x16x128_S4x128x128_d2 h_S_) (broadcastInDim S4x128x128 ![] bcast_S_S4x128x128 (constant S_ .f32 0x41800000#32)) (ix3 b n d)
      = DenseSpec.mean16 fun i => y (ix3 b (⟨n.val * 16 + i.val, by omega⟩ : Fin 2048) d) := by
  pointwise [DenseSpec.mean16]

/-! ## The two results -/

variable (m : (ℓ : Loc nD τ sig) → Buf (Elt Ideal) ℓ)

/-- Token `t` of batch `b` projected, from the arguments. -/
def token (c : Dev nD) (b : Fin 4) (t : Fin 2048) : Fin 128 → EReal :=
  DenseSpec.proj (fun k => (m ((c.tc : Thread nD τ).loc main_arg0) : Vec Ideal S4x2048x2048 .f32) (ix3 b t k))
    (fun k => (m ((c.tc : Thread nD τ).loc main_arg3) : Vec Ideal S2048 .f32) (ix1 k))
    (fun k => (m ((c.tc : Thread nD τ).loc main_arg4) : Vec Ideal S2048 .f32) (ix1 k))
    (fun k d => (m ((c.tc : Thread nD τ).loc main_arg2) : Vec Ideal S2048x128 .f32) (ix2 k d))

/-- The slots, from the arguments. -/
def slots (c : Dev nD) (n : Fin 64) (d : Fin 128) : EReal := (m ((c.tc : Thread nD τ).loc main_arg1) : Vec Ideal S1x64x128 .f32) (ix3 0 n d)

/-- The reading, from the arguments. -/
def readingV (c : Dev nD) : Vec Ideal S4x2048x128 .f32 :=
  readV (weightsV (scoresV (projV (m ((c.tc : Thread nD τ).loc main_arg0)) (m ((c.tc : Thread nD τ).loc main_arg3))
    (m ((c.tc : Thread nD τ).loc main_arg4)) (m ((c.tc : Thread nD τ).loc main_arg2))) (slotsV (m ((c.tc : Thread nD τ).loc main_arg1)))))
    (slotsV (m ((c.tc : Thread nD τ).loc main_arg1)))

theorem readingV_at (c : Dev nD) (b : Fin 4) (t : Fin 2048) (d : Fin 128) :
    readingV m c (ix3 b t d) = DenseSpec.reading (token m c b t) (slots m c) d := by
  refine (reading_at _ _ b t d).trans ?_
  exact congrArg (fun p => DenseSpec.reading p (slots m c) d) (funext fun d => projV_at _ _ _ _ b t d)

theorem out0_at (c : Dev nD) (b : Fin 4) (t : Fin 2048) (e : Fin 2048) :
    (res_main_v52 m c : Vec Ideal S4x2048x2048 .f32) (ix3 b t e)
      = DenseSpec.back (token m c b t) (slots m c) (fun d e => (m ((c.tc : Thread nD τ).loc main_arg5) : Vec Ideal S128x2048 .f32) (ix2 d e)) e := by
  refine (backV_at (readingV m c) (m ((c.tc : Thread nD τ).loc main_arg5)) b t e).trans ?_
  unfold DenseSpec.back
  simp only [readingV_at]

theorem out1_at (c : Dev nD) (b : Fin 4) (n : Fin 128) (d : Fin 128) :
    (res_main_v51 m c : Vec Ideal S4x128x128 .f32) (ix3 b n d)
      = DenseSpec.mean16 fun i => DenseSpec.reading (token m c b ⟨n.val * 16 + i.val, by omega⟩) (slots m c) d := by
  refine (meanV_at (readingV m c) b n d).trans ?_
  simp only [readingV_at]

end Cert.DenseRefRun

end
-- ==== Proof.TopSpec.lean ====
/-
  The three greatest of a row of extended reals, the lower position first where two are equal: what a stable descending
  sort puts first, and what repeated maxima with the taken positions masked give.
-/
module

public import Idealize.ShloMosaic.Lib.SortFacts
public import Idealize.ShloMosaic.PureOps.Ideal
public import Idealize.ShloMosaic.Lib.Pointwise
public import Mathlib.Data.Finset.Fold
public import Mathlib.Data.Finset.Lattice.Fold

@[expose] public section

namespace Cert.TopSpec

open Idealize.ShloMosaic

variable {n : ℕ}

/-- Position `a` comes before position `b`: its entry is greater, or equal and `a` lower. -/
def Before (f : Fin n → EReal) (a b : Fin n) : Prop := f b < f a ∨ f a = f b ∧ a < b

/-- Position `i` is the first of those outside `S`. -/
def IsNext (f : Fin n → EReal) (S : Finset (Fin n)) (i : Fin n) : Prop := i ∉ S ∧ ∀ k ∉ S, k ≠ i → Before f i k

theorem Before.trans {f : Fin n → EReal} {a b c : Fin n} (h : Before f a b) (h' : Before f b c) : Before f a c := by
  rcases h with h | ⟨h, l⟩ <;> rcases h' with h' | ⟨h', l'⟩
  · exact .inl (h'.trans h)
  · exact .inl (h' ▸ h)
  · exact .inl (h ▸ h')
  · exact .inr ⟨h.trans h', l.trans l'⟩

theorem Before.asymm {f : Fin n → EReal} {a b : Fin n} (h : Before f a b) : ¬ Before f b a := by
  rintro (h' | ⟨h', l'⟩) <;> rcases h with h | ⟨h, l⟩
  · exact lt_asymm h h'
  · exact absurd h (ne_of_lt h')
  · exact absurd h' (ne_of_lt h)
  · exact lt_asymm l l'

theorem IsNext.unique {f : Fin n → EReal} {S : Finset (Fin n)} {i j : Fin n} (hi : IsNext f S i) (hj : IsNext f S j) : i = j := by
  by_contra h
  exact (hi.2 j hj.1 (Ne.symm h)).asymm (hj.2 i hi.1 h)

/-! ## The stable sort -/

theorem pairwise_insert (f : Fin n → EReal) (r : Fin n → Fin n → Bool) (hr : ∀ a b, r a b = true ↔ f b < f a) (a : Fin n) :
    ∀ l : List (Fin n), l.Pairwise (Before f) → (∀ b ∈ l, a < b) → (insertBefore r a l).Pairwise (Before f)
  | [], _, _ => List.pairwise_singleton _ _
  | b :: l, hl, ha => by
    rw [List.pairwise_cons] at hl
    unfold insertBefore
    split
    · rename_i h
      refine List.pairwise_cons.2 ⟨fun c hc => ?_, pairwise_insert f r hr a l hl.2 fun c hc => ha c (List.mem_cons_of_mem _ hc)⟩
      rcases List.mem_cons.1 ((perm_insertBefore r a l).mem_iff.1 hc) with rfl | hc
      · exact .inl ((hr _ _).1 h)
      · exact hl.1 c hc
    · rename_i h
      have hab : Before f a b := by
        rcases lt_or_eq_of_le (not_lt.1 fun q => h ((hr _ _).2 q)) with q | q
        · exact .inl q
        · exact .inr ⟨q.symm, ha b List.mem_cons_self⟩
      refine List.pairwise_cons.2 ⟨fun c hc => ?_, List.pairwise_cons.2 hl⟩
      rcases List.mem_cons.1 hc with rfl | hc
      · exact hab
      · exact hab.trans (hl.1 c hc)

theorem pairwise_sort (f : Fin n → EReal) (r : Fin n → Fin n → Bool) (hr : ∀ a b, r a b = true ↔ f b < f a) :
    ∀ l : List (Fin n), l.Pairwise (· < ·) → (stableSort r l).Pairwise (Before f)
  | [], _ => List.Pairwise.nil
  | a :: l, hl => by
    rw [List.pairwise_cons] at hl
    unfold stableSort
    exact pairwise_insert f r hr a _ (pairwise_sort f r hr l hl.2) fun b hb => hl.1 b ((perm_stableSort r l).mem_iff.1 hb)

theorem before_sorted (f : Fin n → EReal) (r : Fin n → Fin n → Bool) (hr : ∀ a b, r a b = true ↔ f b < f a) (i j : Fin n) (h : i < j) :
    Before f (sortedFrom r i) (sortedFrom r j) := by
  have hp := List.pairwise_iff_get.1 (pairwise_sort f r hr (List.finRange n) (List.pairwise_lt_finRange n))
  unfold sortedFrom sortPositions
  exact hp _ _ h

/-- The sort puts at a place the first of the positions that it has not put at an earlier one. -/
theorem isNext_sorted (f : Fin n → EReal) (r : Fin n → Fin n → Bool) (hr : ∀ a b, r a b = true ↔ f b < f a) (j : Fin n) :
    IsNext f ((Finset.univ.filter (· < j)).image (sortedFrom r)) (sortedFrom r j) := by
  refine ⟨fun h => ?_, fun k hk hkj => ?_⟩
  · obtain ⟨i, hi, e⟩ := Finset.mem_image.1 h
    have hi := (Finset.mem_filter.1 hi).2
    exact absurd (sortedFrom_injective r e) (ne_of_lt hi)
  · obtain ⟨i, rfl⟩ := sortedFrom_surjective r k
    refine before_sorted f r hr j i ?_
    rcases lt_trichotomy i j with h | rfl | h
    · exact absurd (Finset.mem_image.2 ⟨i, Finset.mem_filter.2 ⟨Finset.mem_univ _, h⟩, rfl⟩) hk
    · exact absurd rfl hkj
    · exact h

/-! ## A masked maximum -/

theorem toInt_minsi (a b : BitVec 32) : (IntOp.minsi a b).toInt = min a.toInt b.toInt := by
  unfold IntOp.minsi
  split <;> rename_i h <;> simp only [BitVec.slt, BitVec.sle, decide_eq_true_eq] at h <;> omega

/-- The least of a family of words, at a position where it is attained. -/
theorem fold_minsi {ι : Type} (s : Finset ι) (b : BitVec 32) (F : ι → BitVec 32) (i : ι) (hi : i ∈ s) (hb : (F i).toInt ≤ b.toInt)
    (hF : ∀ k ∈ s, (F i).toInt ≤ (F k).toInt) : Finset.fold IntOp.minsi b F s = F i := by
  refine BitVec.eq_of_toInt_eq ?_
  rw [← Finset.fold_hom (op' := min) (m := BitVec.toInt) toInt_minsi]
  exact le_antisymm ((Finset.fold_min_le _).2 (.inr ⟨i, hi, le_rfl⟩)) (Finset.le_fold_min _ |>.2 ⟨hb, hF⟩)

theorem toInt_ofNat (k : Fin 64) : (BitVec.ofNat 32 k.val).toInt = k.val := by
  have := k.isLt
  rw [BitVec.toInt_eq_toNat_of_lt] <;> rw [BitVec.toNat_ofNat, Nat.mod_eq_of_lt (by omega)] <;> omega

/-- Where the positions of `S` are masked with -∞ and some position is left, the lowest position of the row's maximum is
    the first of those left. -/
theorem isNext_round (f g : Fin 64 → EReal) (S : Finset (Fin 64)) (hf : ∀ k, ⊥ < f k) (hg : ∀ k, g k = if k ∈ S then ⊥ else f k)
    (hS : ∃ k, k ∉ S) :
    ∃ i, IsNext f S i ∧ Finset.fold IntOp.minsi 2147483647#32 (fun k : Fin 64 =>
      if g k = Finset.fold max ⊥ g Finset.univ then BitVec.ofNat 32 k.val else 64#32) Finset.univ = BitVec.ofNat 32 i.val := by
  set M := Finset.fold max ⊥ g Finset.univ with hM
  have hle : ∀ k, g k ≤ M := fun k => (Finset.le_fold_max _).2 (.inr ⟨k, Finset.mem_univ _, le_rfl⟩)
  obtain ⟨k₀, hk₀⟩ := hS
  have hpos : ⊥ < M := lt_of_lt_of_le (by rw [hg, if_neg hk₀]; exact hf k₀) (hle k₀)
  have hex : (Finset.univ.filter fun k => g k = M).Nonempty := by
    rcases (Finset.le_fold_max M).1 (le_of_eq hM) with h | ⟨k, _, h⟩
    · exact absurd hpos (not_lt.2 h)
    · exact ⟨k, Finset.mem_filter.2 ⟨Finset.mem_univ _, le_antisymm (hle k) h⟩⟩
  set i := (Finset.univ.filter fun k => g k = M).min' hex with hi
  have hgi : g i = M := (Finset.mem_filter.1 (Finset.min'_mem _ hex)).2
  have hmin : ∀ k, g k = M → i ≤ k := fun k h => Finset.min'_le (Finset.univ.filter fun k => g k = M) k (Finset.mem_filter.2 ⟨Finset.mem_univ k, h⟩)
  have hiS : i ∉ S := fun h => by
    rw [hg, if_pos h] at hgi
    exact absurd hpos (not_lt.2 (le_of_eq hgi.symm))
  refine ⟨i, ⟨hiS, fun k hk hki => ?_⟩, ?_⟩
  · have e : f i = M := by rw [← hgi, hg, if_neg hiS]
    have hk' : f k ≤ M := by
      have := hle k
      rwa [hg, if_neg hk] at this
    rcases lt_or_eq_of_le hk' with h | h
    · exact .inl (e ▸ h)
    · exact .inr ⟨e.trans h.symm, lt_of_le_of_ne (hmin k (by rw [hg, if_neg hk, h])) (Ne.symm hki)⟩
  · have ei : (if g i = M then BitVec.ofNat 32 i.val else 64#32) = BitVec.ofNat 32 i.val := if_pos hgi
    refine (fold_minsi Finset.univ _ _ i (Finset.mem_univ _) ?_ fun k _ => ?_).trans ei
    · rw [ei, toInt_ofNat]
      have := i.isLt
      have e : (2147483647#32 : BitVec 32).toInt = 2147483647 := by decide
      omega
    · rw [ei, toInt_ofNat]
      split
      · rename_i h
        rw [toInt_ofNat]
        exact_mod_cast hmin k h
      · have := i.isLt
        have e : (64#32 : BitVec 32).toInt = 64 := by decide
        omega

/-! ## The first three -/

/-- `t` lists the first three positions, in order. -/
def IsTop (f : Fin n → EReal) (t : Fin 3 → Fin n) : Prop :=
  IsNext f ∅ (t 0) ∧ IsNext f {t 0} (t 1) ∧ IsNext f {t 0, t 1} (t 2)

theorem IsTop.unique {f : Fin n → EReal} {t u : Fin 3 → Fin n} (ht : IsTop f t) (hu : IsTop f u) : t = u := by
  have e0 := ht.1.unique hu.1
  have e1 : t 1 = u 1 := by
    have h := ht.2.1
    rw [e0] at h
    exact h.unique hu.2.1
  have e2 : t 2 = u 2 := by
    have h := ht.2.2
    rw [e0, e1] at h
    exact h.unique hu.2.2
  funext j
  match j with
  | 0 => exact e0
  | 1 => exact e1
  | 2 => exact e2

theorem IsTop.injective {f : Fin n → EReal} {t : Fin 3 → Fin n} (ht : IsTop f t) : t 0 ≠ t 1 ∧ t 0 ≠ t 2 ∧ t 1 ≠ t 2 := by
  have h1 := ht.2.1.1
  have h2 := ht.2.2.1
  simp only [Finset.mem_singleton, Finset.mem_insert, not_or] at h1 h2
  exact ⟨Ne.symm h1, Ne.symm h2.1, Ne.symm h2.2⟩

theorem isTop_sorted (f : Fin 64 → EReal) (r : Fin 64 → Fin 64 → Bool) (hr : ∀ a b, r a b = true ↔ f b < f a) :
    IsTop f fun j : Fin 3 => sortedFrom r (j.castLE (by decide)) := by
  have h := isNext_sorted f r hr
  refine ⟨?_, ?_, ?_⟩
  · have := h 0
    rwa [show (Finset.univ.filter (· < (0 : Fin 64))) = ∅ by decide] at this
  · have := h 1
    rwa [show (Finset.univ.filter (· < (1 : Fin 64))) = {0} by decide, Finset.image_singleton] at this
  · have := h 2
    rwa [show (Finset.univ.filter (· < (2 : Fin 64))) = {0, 1} by decide, Finset.image_insert, Finset.image_singleton] at this

end Cert.TopSpec

end
-- ==== Proof.PrepSpec.lean ====
/-
  The call preparing the writes, as plain mathematics over the extended reals: the rows of the chunk summaries and of the
  slot keys divided by their norms, their products, the three greatest products of a chunk, and the plain products that
  give the write values and the gate's terms.
-/
module

public import proofs.«01_k».proof.Proof.TopSpec
public import proofs.«01_k».proof.Proof.DenseSpec

@[expose] public section

noncomputable section

namespace Cert.PrepSpec

open Idealize.ShloMosaic

/-- A row divided by its norm, which is held above a small constant. -/
def unit (x : Fin 128 → EReal) (d : Fin 128) : EReal :=
  Ideal.div (x d) (max (Ideal.sqrt (∑ k, x k * x k)) (Ideal.ofBits .f32 0x2B8CBCCC#32))

/-- The call's arguments, as functions of their coordinates. -/
structure Args where
  cs : Fin 512 → Fin 128 → EReal
  s : Fin 64 → Fin 128 → EReal
  keys : Fin 64 → Fin 128 → EReal
  ww : Fin 128 → Fin 128 → EReal
  wg : Fin 256 → EReal
  bg : EReal

/-- A row of the upper half of the gate's weights. -/
def lo (d : Fin 128) : Fin 256 := ⟨d.val, by omega⟩

/-- A row of the lower half. -/
def hi (d : Fin 128) : Fin 256 := ⟨128 + d.val, by omega⟩

/-- How well chunk row `r` matches slot `n`. -/
def score (a : Args) (r : Fin 512) (n : Fin 64) : EReal := ∑ d, unit (a.cs r) d * unit (a.keys n) d

/-- The write values. -/
def written (a : Args) (r : Fin 512) (d : Fin 128) : EReal := ∑ e, a.cs r e * a.ww e d

/-- What the chunk's write value adds to the importance of a slot. -/
def scal1 (a : Args) (r : Fin 512) : EReal := ∑ d, written a r d * a.wg (lo d)

/-- The chunk's own term of its gate. -/
def scal2 (a : Args) (r : Fin 512) : EReal := (∑ d, written a r d * a.wg (hi d)) + a.bg

/-- The chunk's two terms by column. -/
def scal (a : Args) (r : Fin 512) : Fin 2 → EReal := ![scal1 a r, scal2 a r]

/-- The importance of a slot. -/
def weight (a : Args) (n : Fin 64) : EReal := ∑ d, a.s n d * a.wg (lo d)

/-! ## A match score is a real number -/

theorem ofBits_eps_pos : ∃ e : ℝ, 0 < e ∧ Ideal.ofBits .f32 0x2B8CBCCC#32 = (e : EReal) := by
  refine ⟨_, ?_, by simp [Ideal.ofBits, Ideal.ieee, -EReal.coe_mul]; rfl⟩
  positivity

theorem sum_real {ι : Type} [Fintype ι] (f : ι → EReal) (h : ∀ k, ∃ r : ℝ, f k = r) : ∃ r : ℝ, ∑ k, f k = r := by
  classical
  induction (Finset.univ : Finset ι) using Finset.induction_on with
  | empty => exact ⟨0, by simp⟩
  | insert k s hk ih =>
    obtain ⟨p, hp⟩ := ih
    obtain ⟨q, hq⟩ := h k
    exact ⟨q + p, by rw [Finset.sum_insert hk, hp, hq]; rfl⟩

theorem unit_real (x : Fin 128 → EReal) (d : Fin 128) : ∃ r : ℝ, unit x d = r := by
  obtain ⟨e, he, hbits⟩ := ofBits_eps_pos
  unfold unit
  rw [hbits]
  have hn : 0 ≤ ∑ k, x k * x k := Finset.sum_nonneg fun k _ => DenseSpec.mul_self_nonneg _
  have hd : x d * x d ≤ ∑ k, x k * x k := Finset.single_le_sum (f := fun k => x k * x k) (fun k _ => DenseSpec.mul_self_nonneg _) (Finset.mem_univ d)
  generalize (∑ k, x k * x k) = N at hn hd
  induction N with
  | bot => exact absurd hn (by simp)
  | top =>
    refine ⟨0, ?_⟩
    show Ideal.div (x d) (max ⊤ (e : EReal)) = _
    rw [max_eq_left le_top]
    simp [Ideal.div]
  | coe N =>
    have hN : 0 ≤ N := by exact_mod_cast hn
    obtain ⟨y, hy⟩ : ∃ y : ℝ, x d = y := by
      generalize x d = z at hd
      induction z with
      | bot => exact absurd hd (by simp)
      | top => exact absurd hd (by simp)
      | coe z => exact ⟨z, rfl⟩
    rw [hy, Ideal.sqrt_coe, if_neg (not_lt.2 hN), ← EReal.coe_strictMono.monotone.map_max, Ideal.div_coe (ne_of_gt (lt_max_of_lt_right he))]
    exact ⟨y * (1 / max (Real.sqrt N) e), by push_cast; rfl⟩

theorem bot_lt_score (a : Args) (r : Fin 512) (n : Fin 64) : ⊥ < score a r n := by
  obtain ⟨v, hv⟩ := sum_real (fun d => unit (a.cs r) d * unit (a.keys n) d) fun d => by
    obtain ⟨p, hp⟩ := unit_real (a.cs r) d
    obtain ⟨q, hq⟩ := unit_real (a.keys n) d
    exact ⟨p * q, by rw [hp, hq]; rfl⟩
  unfold score
  rw [hv]
  exact EReal.bot_lt_coe v

/-! ## The three slots of a chunk -/

/-- The three best slots of chunk row `r`, the best first. -/
def top (a : Args) (r : Fin 512) (j : Fin 3) : Fin 64 :=
  sortedFrom (fun m n => Ideal.cmp .ogt (score a r m) (score a r n) == 1#1) (j.castLE (by decide))

theorem isTop_top (a : Args) (r : Fin 512) : TopSpec.IsTop (score a r) (top a r) :=
  TopSpec.isTop_sorted _ _ fun m n => by by_cases h : score a r n < score a r m <;> simp [Ideal.cmp, h]

end Cert.PrepSpec

end
-- ==== Proof.PrepIdealValue.lean ====
/-
  The call preparing the writes, over the extended reals: what the body computes, read at an index, and the four result
  arrays after the run.
-/
module

public import proofs.«01_k».proof.Proof.Gen.PrepIdeal.Value
public import proofs.«01_k».proof.Proof.PrepSpec
public import Idealize.ShloMosaic.Lib.Pointwise
public import Idealize.ShloMosaic.Lib.StableHlo.ReadAt
public import Idealize.ShloMosaic.Lib.Affine
public import Idealize.ShloMosaic.Lib.Pipeline.ValueKit.Tiles

@[expose] public section

set_option maxRecDepth 16384

noncomputable section

namespace Cert.PrepIdealRun

open Cert.PrepIdeal Cert.PrepIdeal.Gen Cert.PrepIdeal.Value
open Idealize.ShloMosaic Idealize.ShloMosaic.TcCoe Idealize.SL.Sem

/-! ## One round of the selection -/

/-- The lowest position of each row's maximum. -/
def roundV (y : FVec Ideal S512x64 .f32) : IVec S512x1 32 :=
  shapeCast S512x1 (multiReductionI .minsi [1] S512 (select (cmpf .oeq y (broadcastTo S512x64 (shapeCast S512x1
    (multiReduction .maximumf [1] S512 y 0xFF800000#32 reduces_S512x64_S512 (.inl rfl) rfl) shapeCasts_S512_S512x1) broadcasts_S512x1_S512x64))
    (iota .tc S512x64 32 [1] iota_S512x64_d1_w32) (broadcast S512x64 64#32)) 2147483647#32 reduces_S512x64_S512 rfl) shapeCasts_S512_S512x1

/-- The rows with the position `i` of each masked. -/
def maskV (i : IVec S512x1 32) (y : FVec Ideal S512x64 .f32) : FVec Ideal S512x64 .f32 :=
  select (cmpi .eq (iota .tc S512x64 32 [1] iota_S512x64_d1_w32) (broadcastTo S512x64 i broadcasts_S512x1_S512x64))
    (broadcast S512x64 (Named.named κ "mask" 0xF149F2CA#32)) y

theorem roundV_at (y : FVec Ideal S512x64 .f32) (r : Fin 512) :
    roundV y (ix2 r 0) = Finset.fold IntOp.minsi 2147483647#32 (fun k : Fin 64 =>
      if y (ix2 r k) = Finset.fold max ⊥ (fun k => y (ix2 r k)) Finset.univ then BitVec.ofNat 32 k.val else 64#32) Finset.univ := by
  rw [← DenseSpec.ofBits_low]
  pointwise [roundV]

theorem word_eq_iff (i k : Fin 64) : BitVec.ofNat 32 k.val = BitVec.ofNat 32 i.val ↔ k = i := by
  constructor
  · intro h
    have := congrArg BitVec.toNat h
    simp only [BitVec.toNat_ofNat] at this
    have := i.isLt
    have := k.isLt
    exact Fin.ext (by omega)
  · rintro rfl; rfl

theorem maskV_at (w : IVec S512x1 32) (y : FVec Ideal S512x64 .f32) (r : Fin 512) (i k : Fin 64) (hw : w (ix2 r 0) = BitVec.ofNat 32 i.val) :
    maskV w y (ix2 r k) = if k = i then ⊥ else y (ix2 r k) := by
  have e : maskV w y (ix2 r k) = if BitVec.ofNat 32 k.val = w (ix2 r 0) then ⊥ else y (ix2 r k) := by
    pointwise [maskV]
    exact if_congr IntOp.cmpi_eq rfl rfl
  rw [e, hw]
  exact if_congr (word_eq_iff i k) rfl rfl

/-! ## The three rounds -/

section Rounds

variable (y : FVec Ideal S512x64 .f32)

/-- The masked scores before the second round, and before the third. -/
def second : FVec Ideal S512x64 .f32 := maskV (roundV y) y
def third : FVec Ideal S512x64 .f32 := maskV (roundV (second y)) (second y)

theorem rounds (r : Fin 512) (f : Fin 64 → EReal) (hy : ∀ k, y (ix2 r k) = f k) (hf : ∀ k, ⊥ < f k) :
    ∃ t : Fin 3 → Fin 64, TopSpec.IsTop f t ∧ roundV y (ix2 r 0) = BitVec.ofNat 32 (t 0).val
      ∧ roundV (second y) (ix2 r 0) = BitVec.ofNat 32 (t 1).val ∧ roundV (third y) (ix2 r 0) = BitVec.ofNat 32 (t 2).val := by
  obtain ⟨i, hi, ei⟩ := TopSpec.isNext_round f (fun k => y (ix2 r k)) ∅ hf (fun k => by simp [hy]) ⟨0, by simp⟩
  have ei := (roundV_at y r).trans ei
  obtain ⟨j, hj, ej⟩ := TopSpec.isNext_round f (fun k => second y (ix2 r k)) {i} hf
    (fun k => by rw [second, maskV_at _ _ _ _ _ ei, hy]; simp) (by
      by_contra h; push Not at h
      have h0 := Finset.mem_singleton.1 (h 0); have h1 := Finset.mem_singleton.1 (h 1)
      exact absurd (h0.trans h1.symm) (by decide))
  have ej := (roundV_at (second y) r).trans ej
  obtain ⟨k, hk, ek⟩ := TopSpec.isNext_round f (fun k => third y (ix2 r k)) {i, j} hf
    (fun k => by
      rw [third, maskV_at _ _ _ _ _ ej, second, maskV_at _ _ _ _ _ ei, hy]
      by_cases a : k = i <;> by_cases b : k = j <;> simp [a, b]) (by
      by_contra h; push Not at h
      have h0 := h 0; have h1 := h 1; have h2 := h 2
      simp only [Finset.mem_insert, Finset.mem_singleton] at h0 h1 h2
      omega)
  have ek := (roundV_at (third y) r).trans ek
  exact ⟨![i, j, k], ⟨hi, hj, hk⟩, ei, ej, ek⟩

end Rounds

/-! ## The body's values -/

section Values

variable (x0 : Vec Ideal S512x128 .f32) (x1 : Vec Ideal S64x128 .f32) (x2 : Vec Ideal S128x128 .f32) (x3 : Vec Ideal S256x1 .f32)
  (x4 : Vec Ideal S1x1 .f32) (x5 : Vec Ideal S64x128 .f32)

/-- The arguments as the body's blocks hold them. -/
def blockArgs : PrepSpec.Args where
  cs := fun r d => x0 (ix2 r d)
  s := fun n d => x5 (ix2 n d)
  keys := fun n d => x1 (ix2 n d)
  ww := fun d e => x2 (ix2 d e)
  wg := fun k => x3 (ix2 k 0)
  bg := x4 (ix2 0 0)

theorem score_at (r : Fin 512) (n : Fin 64) : k0_pay3 x0 x1 (ix2 r n) = PrepSpec.score (blockArgs x0 x1 x2 x3 x4 x5) r n := by
  unfold PrepSpec.score PrepSpec.unit blockArgs
  pointwise [k0_pay3, k0_pay2]

theorem written_at (w : Vec Ideal S128x128 .f32) (r : Fin 512) (d : Fin 128) :
    k0_pay9 (k0_pay2 x0) w (ix2 r d) = ∑ e, x0 (ix2 r e) * w (ix2 e d) := by
  pointwise [k0_pay9, k0_pay2]

theorem first_at (w : Vec Ideal S128x128 .f32) (g : Vec Ideal S128x1 .f32) (r : Fin 512) :
    k0_pay10 (k0_pay2 x0) w g (ix2 r 0) = ∑ d, k0_pay9 (k0_pay2 x0) w (ix2 r d) * g (ix2 d 0) := by
  unfold k0_pay10
  generalize k0_pay9 (k0_pay2 x0) w = q
  pointwise

theorem second_at (w : Vec Ideal S128x128 .f32) (g : Vec Ideal S128x1 .f32) (b : Vec Ideal S1x1 .f32) (r : Fin 512) :
    k0_pay11 (k0_pay2 x0) w g b (ix2 r 0) = (∑ d, k0_pay9 (k0_pay2 x0) w (ix2 r d) * g (ix2 d 0)) + b (ix2 0 0) := by
  unfold k0_pay11
  generalize k0_pay9 (k0_pay2 x0) w = q
  pointwise

theorem weight_at (s : Vec Ideal S64x128 .f32) (g : Vec Ideal S128x1 .f32) (n : Fin 64) :
    k0_pay1 s g (ix2 n 0) = ∑ d, s (ix2 n d) * g (ix2 d 0) := by
  pointwise [k0_pay1]

theorem words (r : Fin 512) :
    k0_pay4 x0 x1 (ix2 r 0) = BitVec.ofNat 32 (PrepSpec.top (blockArgs x0 x1 x2 x3 x4 x5) r 0).val
      ∧ k0_pay7 (k0_pay6 x0 x1) (ix2 r 0) = BitVec.ofNat 32 (PrepSpec.top (blockArgs x0 x1 x2 x3 x4 x5) r 1).val
      ∧ k0_pay8 (iota .tc S512x64 32 [1] iota_S512x64_d1_w32) (k0_pay5 x0 x1) (k0_pay6 x0 x1) (ix2 r 0)
        = BitVec.ofNat 32 (PrepSpec.top (blockArgs x0 x1 x2 x3 x4 x5) r 2).val := by
  obtain ⟨t, ht, h0, h1, h2⟩ := rounds (k0_pay3 x0 x1) r _ (fun k => score_at x0 x1 x2 x3 x4 x5 r k) fun k => PrepSpec.bot_lt_score _ r k
  rw [(PrepSpec.isTop_top _ r).unique ht]
  exact ⟨h0, h1, h2⟩

/-! ## The four blocks the body leaves -/

theorem hz : (![0, 0] : Fin 2 → ℕ) = fun _ => 0 := by decide

/-- A column of the stored words, as a position of the whole array. -/
theorem col3 (j : Fin 3) (h : ∀ a, (![0, j.val] : Fin 2 → ℕ) a + S512x1.size a ≤ S512x3.size a) (r : Fin 512) :
    (Rect.unit (s := S512x3) ![0, j.val] S512x1.size h).emb (ix2 r 0) = ix2 r j := by
  funext a
  refine Fin.ext ?_
  match a with
  | ⟨0, _⟩ => show 0 + 1 * r.val = r.val; omega
  | ⟨1, _⟩ => show j.val + 1 * 0 = j.val; omega

/-- A column of the stored chunk terms, as a position of the whole array. -/
theorem col2 (j : Fin 2) (h : ∀ a, (![0, j.val] : Fin 2 → ℕ) a + S512x1.size a ≤ S512x2.size a) (r : Fin 512) :
    (Rect.unit (s := S512x2) ![0, j.val] S512x1.size h).emb (ix2 r 0) = ix2 r j := by
  funext a
  refine Fin.ext ?_
  match a with
  | ⟨0, _⟩ => show 0 + 1 * r.val = r.val; omega
  | ⟨1, _⟩ => show j.val + 1 * 0 = j.val; omega

theorem upper (h : ∀ a, (![0, 0] : Fin 2 → ℕ) a + S128x1.size a ≤ S256x1.size a) (d : Fin 128) :
    View.ld x3 (Rect.unit (s := S256x1) ![0, 0] S128x1.size h) (ix2 d 0) = x3 (ix2 (PrepSpec.lo d) 0) :=
  View.ld_unit_apply_of _ _ _ _ _ _ fun a => by fin_cases a <;> simp [PrepSpec.lo]

theorem lower (h : ∀ a, (![128, 0] : Fin 2 → ℕ) a + S128x1.size a ≤ S256x1.size a) (d : Fin 128) :
    View.ld x3 (Rect.unit (s := S256x1) ![128, 0] S128x1.size h) (ix2 d 0) = x3 (ix2 (PrepSpec.hi d) 0) :=
  View.ld_unit_apply_of _ _ _ _ _ _ fun a => by fin_cases a <;> simp [PrepSpec.hi]

/-- Three columns stored one by one are the array they are the columns of. -/
theorem columns3 (G : Fin 512 → Fin 3 → BitVec 32) (p q u : IVec S512x1 32) (hp : ∀ r, p (ix2 r 0) = G r 0) (hq : ∀ r, q (ix2 r 0) = G r 1)
    (hu : ∀ r, u (ix2 r 0) = G r 2) (y : S512x3.Idx) :
    View.canon (Val := Elt Ideal) (e := .i32) [⟨r0_4, u⟩, ⟨r0_3, q⟩, ⟨r0_2, p⟩] y = G (y 0) (y 1) := by
  refine View.canon_apply_of_pieces (Val := Elt Ideal) (e := .i32) (fun y : S512x3.Idx => G (y 0) (y 1)) _ ?_ y (cover0_6 (F := Ideal) _ _ _ y)
  intro w hw
  simp only [List.mem_cons, List.not_mem_nil, or_false] at hw
  rcases hw with rfl | rfl | rfl <;> intro x <;> obtain ⟨r, rfl⟩ : ∃ r : Fin 512, x = ix2 r 0 :=
    ⟨x 0, by funext a; match a with | ⟨0, _⟩ => rfl | ⟨1, _⟩ => exact Subsingleton.elim (α := Fin 1) _ _⟩
  · exact (hu r).trans (congrArg (fun y : S512x3.Idx => G (y 0) (y 1)) (col3 2 inb_S512x3_S512x1_0_2 r)).symm
  · exact (hq r).trans (congrArg (fun y : S512x3.Idx => G (y 0) (y 1)) (col3 1 inb_S512x3_S512x1_0_1 r)).symm
  · exact (hp r).trans (congrArg (fun y : S512x3.Idx => G (y 0) (y 1)) (col3 0 inb_S512x3_S512x1_0_0 r)).symm

theorem out6_at (y : S512x3.Idx) :
    out0_6 x0 x1 x2 x3 x4 x5 y = BitVec.ofNat 32 (PrepSpec.top (blockArgs x0 x1 x2 x3 x4 x5) (y 0) (y 1)).val := by
  unfold out0_6 k0_pay13
  rw [View.ld_unit_zero hz, View.ld_unit_zero hz]
  exact columns3 (fun r j => BitVec.ofNat 32 (PrepSpec.top (blockArgs x0 x1 x2 x3 x4 x5) r j).val) _ _ _
    (fun r => (words x0 x1 x2 x3 x4 x5 r).1) (fun r => (words x0 x1 x2 x3 x4 x5 r).2.1) (fun r => (words x0 x1 x2 x3 x4 x5 r).2.2) y

theorem out7_at (r : Fin 512) (d : Fin 128) : out0_7 x0 x1 x2 x3 x4 x5 (ix2 r d) = PrepSpec.written (blockArgs x0 x1 x2 x3 x4 x5) r d := by
  unfold out0_7 k0_pay12
  rw [View.ld_unit_zero hz, View.ld_unit_zero hz, View.canon_unit_zero hz]
  exact written_at x0 x2 r d

theorem out8_at (y : S512x2.Idx) : out0_8 x0 x1 x2 x3 x4 x5 y = PrepSpec.scal (blockArgs x0 x1 x2 x3 x4 x5) (y 0) (y 1) := by
  unfold out0_8
  refine View.canon_apply_of_pieces (Val := Elt Ideal) (fun y : S512x2.Idx => (PrepSpec.scal (blockArgs x0 x1 x2 x3 x4 x5) (y 0) (y 1) : Elt Ideal .f32)) _ ?_ y (cover0_8 _ _ y)
  intro p hp
  simp only [List.mem_cons, List.not_mem_nil, or_false] at hp
  unfold k0_pay12 at hp
  rw [View.ld_unit_zero hz, View.ld_unit_zero hz, View.ld_unit_zero hz] at hp
  rcases hp with rfl | rfl <;> intro x <;> obtain ⟨r, rfl⟩ : ∃ r : Fin 512, x = ix2 r 0 :=
    ⟨x 0, by funext a; match a with | ⟨0, _⟩ => rfl | ⟨1, _⟩ => exact Subsingleton.elim (α := Fin 1) _ _⟩
  · rw [show r0_10.emb (ix2 r 0) = _ from col2 1 _ r]
    show _ = PrepSpec.scal2 _ r
    refine (second_at x0 x2 _ x4 r).trans (congrArg (· + x4 (ix2 0 0)) (Finset.sum_congr rfl fun d _ => ?_))
    exact congr (congrArg HMul.hMul (written_at x0 x2 r d)) (lower x3 _ d)
  · rw [show r0_7.emb (ix2 r 0) = _ from col2 0 _ r]
    show _ = PrepSpec.scal1 _ r
    refine (first_at x0 x2 _ r).trans (Finset.sum_congr rfl fun d _ => ?_)
    exact congr (congrArg HMul.hMul (written_at x0 x2 r d)) (upper x3 _ d)

theorem out9_at (n : Fin 64) : out0_9 x0 x1 x2 x3 x4 x5 (ix2 n 0) = PrepSpec.weight (blockArgs x0 x1 x2 x3 x4 x5) n := by
  unfold out0_9
  rw [View.ld_unit_zero hz, View.canon_unit_zero hz]
  refine (weight_at x5 _ n).trans (Finset.sum_congr rfl fun d _ => ?_)
  exact congrArg (x5 (ix2 n d) * ·) (upper x3 _ d)

end Values

/-! ## The result arrays -/

variable (m : (ℓ : Loc nD τ sig) → Buf (Elt Ideal) ℓ)

theorem V_slots (c : Dev nD) (n : Fin 64) (d : Fin 128) :
    (V m c main_v0 : Vec Ideal S64x128 .f32) (ix2 n d) = (m ((c : Thread nD τ).loc main_arg1) : Vec Ideal S1x64x128 .f32) (ix3 0 n d) := by
  unfold V
  after_reads_at

theorem V_chunks (c : Dev nD) (r : Fin 512) (d : Fin 128) :
    (V m c main_v1 : Vec Ideal S512x128 .f32) (ix2 r d) = (m ((c : Thread nD τ).loc main_arg0) : Vec Ideal S4x128x128 .f32) (ix3 ⟨r.val / 128, by omega⟩ ⟨r.val % 128, by omega⟩ d) := by
  unfold V
  after_reads_at

theorem V_bias (c : Dev nD) :
    (V m c main_v2 : Vec Ideal S1x1 .f32) (ix2 0 0) = (m ((c : Thread nD τ).loc main_arg5) : Vec Ideal S1 .f32) (ix1 0) := by
  unfold V
  after_reads_at

/-- The arguments as the launch has them. -/
def args (c : Dev nD) : PrepSpec.Args where
  cs := fun r d => (m ((c : Thread nD τ).loc main_arg0) : Vec Ideal S4x128x128 .f32) (ix3 ⟨r.val / 128, by omega⟩ ⟨r.val % 128, by omega⟩ d)
  s := fun n d => (m ((c : Thread nD τ).loc main_arg1) : Vec Ideal S1x64x128 .f32) (ix3 0 n d)
  keys := fun n d => (m ((c : Thread nD τ).loc main_arg2) : Vec Ideal S64x128 .f32) (ix2 n d)
  ww := fun d e => (m ((c : Thread nD τ).loc main_arg3) : Vec Ideal S128x128 .f32) (ix2 d e)
  wg := fun k => (m ((c : Thread nD τ).loc main_arg4) : Vec Ideal S256x1 .f32) (ix2 k 0)
  bg := (m ((c : Thread nD τ).loc main_arg5) : Vec Ideal S1 .f32) (ix1 0)

/-- The grid's one point. -/
def point : Fin cfg0.N := (⟨0, by decide +kernel⟩ : Fin grid0.N)

theorem read0 (c : Dev nD) : (iblk m c 0 point : Vec Ideal S512x128 .f32) = V m c main_v1 := by
  funext i
  show V m c main_v1 (((cfg0.win 0).blk point).view.emb i) = _
  refine congrArg (V m c main_v1) (funext fun a => Fin.ext ?_)
  match a with
  | ⟨0, _⟩ => show 0 * 512 + 1 * _ = _; omega
  | ⟨1, _⟩ => show 0 * 128 + 1 * _ = _; omega

theorem read1 (c : Dev nD) : (iblk m c 1 point : Vec Ideal S64x128 .f32) = V m c main_arg2 := by
  funext i
  show V m c main_arg2 (((cfg0.win 1).blk point).view.emb i) = _
  refine congrArg (V m c main_arg2) (funext fun a => Fin.ext ?_)
  match a with
  | ⟨0, _⟩ => show 0 * 64 + 1 * _ = _; omega
  | ⟨1, _⟩ => show 0 * 128 + 1 * _ = _; omega

theorem read2 (c : Dev nD) : (iblk m c 2 point : Vec Ideal S128x128 .f32) = V m c main_arg3 := by
  funext i
  show V m c main_arg3 (((cfg0.win 2).blk point).view.emb i) = _
  refine congrArg (V m c main_arg3) (funext fun a => Fin.ext ?_)
  match a with
  | ⟨0, _⟩ => show 0 * 128 + 1 * _ = _; omega
  | ⟨1, _⟩ => show 0 * 128 + 1 * _ = _; omega

theorem read3 (c : Dev nD) : (iblk m c 3 point : Vec Ideal S256x1 .f32) = V m c main_arg4 := by
  funext i
  show V m c main_arg4 (((cfg0.win 3).blk point).view.emb i) = _
  refine congrArg (V m c main_arg4) (funext fun a => Fin.ext ?_)
  match a with
  | ⟨0, _⟩ => show 0 * 256 + 1 * _ = _; omega
  | ⟨1, _⟩ => show 0 * 1 + 1 * _ = _; omega

theorem read4 (c : Dev nD) : (iblk m c 4 point : Vec Ideal S1x1 .f32) = V m c main_v2 := by
  funext i
  show V m c main_v2 (((cfg0.win 4).blk point).view.emb i) = _
  refine congrArg (V m c main_v2) (funext fun a => Fin.ext ?_)
  match a with
  | ⟨0, _⟩ => show 0 * 1 + 1 * _ = _; omega
  | ⟨1, _⟩ => show 0 * 1 + 1 * _ = _; omega

theorem read5 (c : Dev nD) : (iblk m c 5 point : Vec Ideal S64x128 .f32) = V m c main_v0 := by
  funext i
  show V m c main_v0 (((cfg0.win 5).blk point).view.emb i) = _
  refine congrArg (V m c main_v0) (funext fun a => Fin.ext ?_)
  match a with
  | ⟨0, _⟩ => show 0 * 64 + 1 * _ = _; omega
  | ⟨1, _⟩ => show 0 * 128 + 1 * _ = _; omega

theorem blockArgs_eq (c : Dev nD) :
    blockArgs (iblk m c 0 point) (iblk m c 1 point) (iblk m c 2 point) (iblk m c 3 point) (iblk m c 4 point) (iblk m c 5 point) = args m c := by
  have e : blockArgs (V m c main_v1) (V m c main_arg2) (V m c main_arg3) (V m c main_arg4) (V m c main_v2) (V m c main_v0) = args m c := by
    unfold blockArgs args
    rw [V_main_arg2, V_main_arg3, V_main_arg4, show _ = _ from V_bias m c]
    simp only [show ∀ n d, _ from V_slots m c, show ∀ r d, _ from V_chunks m c]
  rw [← e]
  exact congr (congr (congr (congr (congr (congrArg blockArgs (read0 m c)) (read1 m c)) (read2 m c)) (read3 m c)) (read4 m c)) (read5 m c)

theorem final6 (c : Dev nD) (r : Fin 512) (j : Fin 3) :
    ((dats m 0 c).arrAt 6 cfg0.N : Vec Ideal S512x3 .i32) (ix2 r j) = BitVec.ofNat 32 (PrepSpec.top (args m c) r j).val := by
  have key := congrFun (blocks6 m c point (flush0_6 _)) (ix2 r j)
  rw [flushed6] at key
  refine Eq.trans ?_ (key.trans ((out6_at _ _ _ _ _ _ (ix2 r j)).trans ?_))
  · refine congrArg ((dats m 0 c).arrAt 6 cfg0.N) (funext fun a => Fin.ext ?_)
    match a with
    | ⟨0, _⟩ => show r.val = 0 * 512 + 1 * r.val; omega
    | ⟨1, _⟩ => show j.val = 0 * 3 + 1 * j.val; omega
  · rw [blockArgs_eq]
    rfl

theorem final7 (c : Dev nD) (r : Fin 512) (d : Fin 128) :
    ((dats m 0 c).arrAt 7 cfg0.N : Vec Ideal S512x128 .f32) (ix2 r d) = PrepSpec.written (args m c) r d := by
  have key := congrFun (blocks7 m c point (flush0_7 _)) (ix2 r d)
  rw [flushed7] at key
  refine Eq.trans ?_ (key.trans ((out7_at _ _ _ _ _ _ r d).trans ?_))
  · refine congrArg ((dats m 0 c).arrAt 7 cfg0.N) (funext fun a => Fin.ext ?_)
    match a with
    | ⟨0, _⟩ => show r.val = 0 * 512 + 1 * r.val; omega
    | ⟨1, _⟩ => show d.val = 0 * 128 + 1 * d.val; omega
  · rw [blockArgs_eq]

theorem final8 (c : Dev nD) (r : Fin 512) (j : Fin 2) :
    ((dats m 0 c).arrAt 8 cfg0.N : Vec Ideal S512x2 .f32) (ix2 r j) = PrepSpec.scal (args m c) r j := by
  have key := congrFun (blocks8 m c point (flush0_8 _)) (ix2 r j)
  rw [flushed8] at key
  refine Eq.trans ?_ (key.trans ((out8_at _ _ _ _ _ _ (ix2 r j)).trans ?_))
  · refine congrArg ((dats m 0 c).arrAt 8 cfg0.N) (funext fun a => Fin.ext ?_)
    match a with
    | ⟨0, _⟩ => show r.val = 0 * 512 + 1 * r.val; omega
    | ⟨1, _⟩ => show j.val = 0 * 2 + 1 * j.val; omega
  · rw [blockArgs_eq]
    rfl

theorem final9 (c : Dev nD) (n : Fin 64) :
    ((dats m 0 c).arrAt 9 cfg0.N : Vec Ideal S64x1 .f32) (ix2 n 0) = PrepSpec.weight (args m c) n := by
  have key := congrFun (blocks9 m c point (flush0_9 _)) (ix2 n 0)
  rw [flushed9] at key
  refine Eq.trans ?_ (key.trans ((out9_at _ _ _ _ _ _ n).trans ?_))
  · refine congrArg ((dats m 0 c).arrAt 9 cfg0.N) (funext fun a => Fin.ext ?_)
    match a with
    | ⟨0, _⟩ => show n.val = 0 * 64 + 1 * n.val; omega
    | ⟨1, _⟩ => show 0 = 0 * 1 + 1 * 0; omega
  · rw [blockArgs_eq]

end Cert.PrepIdealRun

end
-- ==== Proof.PrepRefValue.lean ====
/-
  The reference of the call preparing the writes, over the extended reals: its four results, read at an index.
-/
module

public import proofs.«01_k».proof.Proof.Gen.PrepRefIdeal.Run
public import proofs.«01_k».proof.Proof.PrepSpec
public import Idealize.ShloMosaic.Lib.Pointwise

@[expose] public section

set_option maxRecDepth 16384

noncomputable section

namespace Cert.PrepRefRun

open Cert.PrepRefIdeal Cert.PrepRefIdeal.Gen Cert.PrepRefIdeal.Value
open Idealize.ShloMosaic Idealize.ShloMosaic.TcCoe Idealize.ShloMosaic.StableHlo

/-! ## The stretches of the reference -/

/-- The chunk summaries as rows. -/
def rowsV (x : FVec Ideal S4x128x128 .f32) : FVec Ideal S512x128 .f32 := shapeCast _ x shapeCasts_S4x128x128_S512x128

/-- The rows divided by their norms. -/
def unitV (y : FVec Ideal S512x128 .f32) : FVec Ideal S512x128 .f32 :=
  Host.divf y (broadcastInDim S512x128 ![0, 1] bcast_S512x1_S512x128_0_1 (maximumf (Host.sqrt (broadcastInDim S512x1 ![0] bcast_S512_S512x1_0
    (Host.reduceAdd (mulf y y) (constant S_ .f32 0x00000000#32) reducesTo_S512x128_S512_d1 h_S_)))
    (broadcastInDim S512x1 ![] bcast_S_S512x1 (constant S_ .f32 0x2B8CBCCC#32))))

/-- The keys divided by their norms. -/
def keyV (y : FVec Ideal S64x128 .f32) : FVec Ideal S64x128 .f32 :=
  Host.divf y (broadcastInDim S64x128 ![0, 1] bcast_S64x1_S64x128_0_1 (maximumf (Host.sqrt (broadcastInDim S64x1 ![0] bcast_S64_S64x1_0
    (Host.reduceAdd (mulf y y) (constant S_ .f32 0x00000000#32) reducesTo_S64x128_S64_d1 h_S_)))
    (broadcastInDim S64x1 ![] bcast_S_S64x1 (constant S_ .f32 0x2B8CBCCC#32))))

/-- The match scores of unit rows and unit keys. -/
def scoreV (y : FVec Ideal S512x128 .f32) (k : FVec Ideal S64x128 .f32) : FVec Ideal S512x64 .f32 :=
  Host.dotGeneral (F := Ideal) (φ₁ := .f32) (φ₂ := .f32) dot_S512x128_S128x64_S512x64_1_0_0_1_n_n none y
    (transpose S128x64 [1, 0] k transposes_S64x128_S128x64_1_0)

/-- The positions of the three greatest scores of each row. -/
def topV (z : FVec Ideal S512x64 .f32) : IVec S512x3 32 :=
  (Host.topK S512x3 1 (FloatOps.cmpfTotal (F := Ideal) .gt) z sliceFits_S512x64_S512x3).2

/-- The write values. -/
def writtenV (y : FVec Ideal S512x128 .f32) (w : FVec Ideal S128x128 .f32) : FVec Ideal S512x128 .f32 :=
  Host.dotGeneral (F := Ideal) (φ₁ := .f32) (φ₂ := .f32) dot_S512x128_S128x128_S512x128_1_0_0_1_n_n none y w

/-- The first of a chunk's terms. -/
def firstV (q : FVec Ideal S512x128 .f32) (g : FVec Ideal S256x1 .f32) : FVec Ideal S512x1 .f32 :=
  Host.dotGeneral (F := Ideal) (φ₁ := .f32) (φ₂ := .f32) dot_S512x128_S128x1_S512x1_1_0_0_1_n_n none q
    (extractStridedSlice S128x1 ![0, 0] g slices_S256x1_S128x1_0_0)

/-- The second of a chunk's terms. -/
def secondV (q : FVec Ideal S512x128 .f32) (g : FVec Ideal S256x1 .f32) (b : FVec Ideal S1 .f32) : FVec Ideal S512x1 .f32 :=
  addf (Host.dotGeneral (F := Ideal) (φ₁ := .f32) (φ₂ := .f32) dot_S512x128_S128x1_S512x1_1_0_0_1_n_n none q
    (extractStridedSlice S128x1 ![128, 0] g slices_S256x1_S128x1_128_0))
    (broadcastInDim S512x1 ![0, 1] bcast_S1x1_S512x1_0_1 (broadcastInDim S1x1 ![1] bcast_S1_S1x1_1 b))

/-- The importance of the slots. -/
def weightV (s : FVec Ideal S1x64x128 .f32) (g : FVec Ideal S256x1 .f32) : FVec Ideal S64x1 .f32 :=
  Host.dotGeneral (F := Ideal) (φ₁ := .f32) (φ₂ := .f32) dot_S64x128_S128x1_S64x1_1_0_0_1_n_n none
    (shapeCast _ s shapeCasts_S1x64x128_S64x128) (extractStridedSlice S128x1 ![0, 0] g slices_S256x1_S128x1_0_0)

/-! ## Each at an index -/

theorem rowsV_at (x : FVec Ideal S4x128x128 .f32) (r : Fin 512) (d : Fin 128) :
    rowsV x (ix2 r d) = x (ix3 ⟨r.val / 128, by omega⟩ ⟨r.val % 128, by omega⟩ d) := by
  pointwise [rowsV]

theorem unitV_at (y : FVec Ideal S512x128 .f32) (r : Fin 512) (d : Fin 128) : unitV y (ix2 r d) = PrepSpec.unit (fun d => y (ix2 r d)) d := by
  unfold PrepSpec.unit
  pointwise [unitV]

theorem keyV_at (y : FVec Ideal S64x128 .f32) (n : Fin 64) (d : Fin 128) : keyV y (ix2 n d) = PrepSpec.unit (fun d => y (ix2 n d)) d := by
  unfold PrepSpec.unit
  pointwise [keyV]

theorem scoreV_at (y : FVec Ideal S512x128 .f32) (k : FVec Ideal S64x128 .f32) (r : Fin 512) (n : Fin 64) :
    scoreV y k (ix2 r n) = ∑ d, y (ix2 r d) * k (ix2 n d) := by
  pointwise [scoreV]

theorem writtenV_at (y : FVec Ideal S512x128 .f32) (w : FVec Ideal S128x128 .f32) (r : Fin 512) (d : Fin 128) :
    writtenV y w (ix2 r d) = ∑ e, y (ix2 r e) * w (ix2 e d) := by
  pointwise [writtenV]

theorem firstV_at (q : FVec Ideal S512x128 .f32) (g : FVec Ideal S256x1 .f32) (r : Fin 512) :
    firstV q g (ix2 r 0) = ∑ d, q (ix2 r d) * g (ix2 (PrepSpec.lo d) 0) := by
  pointwise [firstV, PrepSpec.lo]

theorem secondV_at (q : FVec Ideal S512x128 .f32) (g : FVec Ideal S256x1 .f32) (b : FVec Ideal S1 .f32) (r : Fin 512) :
    secondV q g b (ix2 r 0) = (∑ d, q (ix2 r d) * g (ix2 (PrepSpec.hi d) 0)) + b (ix1 0) := by
  pointwise [secondV, PrepSpec.hi]

theorem weightV_at (s : FVec Ideal S1x64x128 .f32) (g : FVec Ideal S256x1 .f32) (n : Fin 64) :
    weightV s g (ix2 n 0) = ∑ d, s (ix3 0 n d) * g (ix2 (PrepSpec.lo d) 0) := by
  pointwise [weightV, PrepSpec.lo]

/-- The companion of a sort of two arrays, at an index. -/
theorem sort2_snd_at {s : Shape} {α β : Type} (a : Fin s.rank) (f : α × β → α × β → BitVec 1) (x : s.Idx → α) (y : s.Idx → β) (j : s.Idx) :
    (Host.sort2 s a.val f x y).2 j
      = y (j.along a (sortedFrom (fun k k' => f (x (j.along a k), y (j.along a k)) (x (j.along a k'), y (j.along a k')) == 1#1) (j a))) := by
  unfold Host.sort2
  rw [dif_pos a.isLt]

theorem topV_at (z : FVec Ideal S512x64 .f32) (r : Fin 512) (j : Fin 3) :
    topV z (ix2 r j) = BitVec.ofNat 32 (sortedFrom (fun m n => Ideal.cmp .ogt (z (ix2 r m)) (z (ix2 r n)) == 1#1) (j.castLE (by decide) : Fin 64)).val := by
  obtain ⟨i, hi⟩ : ∃ i : Fin 64, i = j.castLE (by decide) := ⟨_, rfl⟩
  rw [← hi]
  have ha : ∀ k : Fin 64, (ix2 r i : S512x64.Idx).along (1 : Fin 2) k = ix2 r k := fun k => by
    funext a
    match a with
    | ⟨0, _⟩ => rfl
    | ⟨1, _⟩ => rfl
  unfold topV Host.topK
  dsimp only
  rw [extractStridedSlice_apply _ _ _ _ (ix2 r i) (by subst hi; intro a; fin_cases a <;> simp)]
  refine (sort2_snd_at (s := S512x64) (1 : Fin 2) _ _ _ _).trans ?_
  refine (dif_pos (show 1 < S512x64.rank by decide)).trans ((congrArg (iotaInDim S512x64 32 (1 : Fin 2)) (ha _)).trans ?_)
  have e : ∀ k : Fin 64, z ((ix2 r i : S512x64.Idx).along (1 : Fin 2) k) = z (ix2 r k) := fun k => congrArg z (ha k)
  refine congrArg (fun g : Fin 64 → Fin 64 → Bool => BitVec.ofNat 32 (sortedFrom g i).val) (funext fun k => funext fun k' => ?_)
  exact congrArg₂ (fun a b : EReal => Ideal.cmp .ogt a b == 1#1) (e k) (e k')

/-! ## The four results -/

variable (m : (ℓ : Loc nD τ sig) → Buf (Elt Ideal) ℓ)

/-- The arguments as the reference has them. -/
def args (c : Dev nD) : PrepSpec.Args where
  cs := fun r d => (m ((c : Thread nD τ).loc main_arg0) : Vec Ideal S4x128x128 .f32) (ix3 ⟨r.val / 128, by omega⟩ ⟨r.val % 128, by omega⟩ d)
  s := fun n d => (m ((c : Thread nD τ).loc main_arg1) : Vec Ideal S1x64x128 .f32) (ix3 0 n d)
  keys := fun n d => (m ((c : Thread nD τ).loc main_arg2) : Vec Ideal S64x128 .f32) (ix2 n d)
  ww := fun d e => (m ((c : Thread nD τ).loc main_arg3) : Vec Ideal S128x128 .f32) (ix2 d e)
  wg := fun k => (m ((c : Thread nD τ).loc main_arg4) : Vec Ideal S256x1 .f32) (ix2 k 0)
  bg := (m ((c : Thread nD τ).loc main_arg5) : Vec Ideal S1 .f32) (ix1 0)

theorem score_at (c : Dev nD) (r : Fin 512) (n : Fin 64) :
    scoreV (unitV (rowsV (m ((c : Thread nD τ).loc main_arg0)))) (keyV (m ((c : Thread nD τ).loc main_arg2))) (ix2 r n) = PrepSpec.score (args m c) r n := by
  rw [scoreV_at]
  refine Finset.sum_congr rfl fun d _ => ?_
  rw [unitV_at, keyV_at]
  simp only [rowsV_at]
  rfl

theorem top_at (c : Dev nD) (r : Fin 512) (j : Fin 3) :
    topV (scoreV (unitV (rowsV (m ((c : Thread nD τ).loc main_arg0)))) (keyV (m ((c : Thread nD τ).loc main_arg2)))) (ix2 r j)
      = BitVec.ofNat 32 (PrepSpec.top (args m c) r j).val := by
  rw [topV_at]
  simp only [score_at]
  rfl

theorem written_at (c : Dev nD) (r : Fin 512) (d : Fin 128) :
    writtenV (rowsV (m ((c : Thread nD τ).loc main_arg0))) (m ((c : Thread nD τ).loc main_arg3)) (ix2 r d) = PrepSpec.written (args m c) r d := by
  rw [writtenV_at]
  simp only [rowsV_at]
  rfl

theorem scal_at (c : Dev nD) (r : Fin 512) (j : Fin 2) :
    concatenate S512x2 1 [⟨S512x1, firstV (writtenV (rowsV (m ((c : Thread nD τ).loc main_arg0))) (m ((c : Thread nD τ).loc main_arg3))) (m ((c : Thread nD τ).loc main_arg4))⟩,
      ⟨S512x1, secondV (writtenV (rowsV (m ((c : Thread nD τ).loc main_arg0))) (m ((c : Thread nD τ).loc main_arg3))) (m ((c : Thread nD τ).loc main_arg4)) (m ((c : Thread nD τ).loc main_arg5))⟩]
      concatenates_S512x1_S512x1_S512x2_d1 (ix2 r j) = PrepSpec.scal (args m c) r j := by
  have h1 := firstV_at (writtenV (rowsV (m ((c : Thread nD τ).loc main_arg0))) (m ((c : Thread nD τ).loc main_arg3))) (m ((c : Thread nD τ).loc main_arg4)) r
  have h2 := secondV_at (writtenV (rowsV (m ((c : Thread nD τ).loc main_arg0))) (m ((c : Thread nD τ).loc main_arg3))) (m ((c : Thread nD τ).loc main_arg4)) (m ((c : Thread nD τ).loc main_arg5)) r
  simp only [written_at] at h1 h2
  generalize firstV _ _ = p at h1 ⊢
  generalize secondV _ _ _ = q at h2 ⊢
  match j with
  | 0 => exact Eq.trans (by pointwise) h1
  | 1 => exact Eq.trans (by pointwise) h2

theorem weight_at (c : Dev nD) (n : Fin 64) :
    weightV (m ((c : Thread nD τ).loc main_arg1)) (m ((c : Thread nD τ).loc main_arg4)) (ix2 n 0) = PrepSpec.weight (args m c) n :=
  weightV_at _ _ n

end Cert.PrepRefRun

end
-- ==== Proof.FinalSpec.lean ====
/-
  The call forming the new slots, one slot entry at a time, over the extended reals: the plain recurrence over the 128
  chunks beside the closed form the kernel evaluates through logarithms, and the layer norm of a slot's 128 entries.
-/
module

public import proofs.«01_k».proof.Proof.DenseSpec
public import Idealize.ShloMosaic.Lib.Affine

@[expose] public section

noncomputable section

namespace Cert.FinalSpec

open Idealize.ShloMosaic

/-! ## The layer norm of a slot -/

/-- The mean of a slot's 128 entries. -/
def mean (x : Fin 128 → EReal) : EReal := Ideal.div (∑ k, x k) (Ideal.ofBits .f32 0x43000000#32)

/-- A slot's variance, with the small constant added. -/
def spread (x : Fin 128 → EReal) : EReal :=
  Ideal.div (∑ k, (x k - mean x) * (x k - mean x)) (Ideal.ofBits .f32 0x43000000#32) + Ideal.ofBits .f32 0x3727C5AC#32

/-- The slot normalized, scaled and shifted, at one entry. -/
def normed (x g b : Fin 128 → EReal) (k : Fin 128) : EReal :=
  Ideal.div (x k - mean x) (Ideal.sqrt (spread x)) * g k + b k

theorem ofBits_128 : Ideal.ofBits .f32 0x43000000#32 = ((128 : ℝ) : EReal) := by
  simp [Ideal.ofBits, Ideal.ieee, -EReal.coe_mul]; norm_num

theorem spread_pos (x : Fin 128 → EReal) : 0 < spread x := by
  have h : 0 ≤ Ideal.div (∑ k, (x k - mean x) * (x k - mean x)) (Ideal.ofBits .f32 0x43000000#32) := by
    rw [ofBits_128, Ideal.div_coe (by norm_num)]
    exact mul_nonneg (Finset.sum_nonneg fun k _ => DenseSpec.mul_self_nonneg _) (by exact_mod_cast (by norm_num : (0 : ℝ) ≤ 1 / 128))
  exact lt_of_lt_of_le DenseSpec.ofBits_small_pos (le_add_of_nonneg_left h)

/-! ## A slot entry over the chunks -/

/-- A slot entry after the first `n` chunks: a chunk that hits the slot moves it towards the chunk's write value by the
    chunk's gate. -/
def after (g w : Fin 128 → EReal) (hit : Fin 128 → Prop) [DecidablePred hit] (s : EReal) : ℕ → EReal
  | 0 => s
  | n + 1 => if h : n < 128 then
      if hit ⟨n, h⟩ then (1 - g ⟨n, h⟩) * after g w hit s n + g ⟨n, h⟩ * w ⟨n, h⟩ else after g w hit s n
    else after g w hit s n

/-- What a chunk keeps of a slot entry, held above a tiny constant. -/
def kept (g q : EReal) : EReal := max (1 - g * q) (Ideal.ofBits .f32 0x0DA24260#32)

/-- The closed form: the first contents times the product of what the chunks keep, and each chunk's contribution times
    the product of what the chunks after it keep; the products through logarithms. -/
def closed (g q w : Fin 128 → EReal) (s : EReal) : EReal :=
  Ideal.exp (∑ c, Ideal.log (kept (g c) (q c))) * s
    + ∑ c, g c * q c * Ideal.exp (∑ d, (if c < d then 1 else 0) * Ideal.log (kept (g d) (q d))) * w c

theorem tiny_pos : 0 < Ideal.ofBits .f32 0x0DA24260#32 := by
  simp [Ideal.ofBits, Ideal.ieee, -EReal.coe_mul]

theorem tiny_le_one : Ideal.ofBits .f32 0x0DA24260#32 ≤ 1 := by
  have h : Ideal.ofBits .f32 0x0DA24260#32 = (((2 : ℝ) ^ 23 + 2245216) * 2 ^ (-123 : ℤ) : ℝ) := by
    simp [Ideal.ofBits, Ideal.ieee, -EReal.coe_mul]; norm_num
  rw [h]
  exact_mod_cast (by norm_num : (((2 : ℝ) ^ 23 + 2245216) * 2 ^ (-123 : ℤ) : ℝ) ≤ 1)

/-- A gate that is at least 0 and leaves at least the tiny constant is a real below 1. -/
theorem gate_real (g : EReal) (h0 : 0 ≤ g) (h1 : Ideal.ofBits .f32 0x0DA24260#32 ≤ 1 - g) : ∃ r : ℝ, g = (r : EReal) ∧ 0 < 1 - r := by
  have hp := lt_of_lt_of_le tiny_pos h1
  induction g using EReal.rec with
  | bot => exact absurd h0 (by simp)
  | top => exact absurd hp (by simp)
  | coe r => exact ⟨r, rfl, by exact_mod_cast hp⟩

/-- What a chunk keeps, as a real. -/
def keptR (hit : Prop) [Decidable hit] (r : ℝ) : ℝ := if hit then 1 - r else 1

theorem keptR_pos (hit : Prop) [Decidable hit] (r : ℝ) (h : 0 < 1 - r) : 0 < keptR hit r := by
  unfold keptR; split <;> simp_all

theorem kept_eq (hit : Prop) [Decidable hit] (r : ℝ) (h1 : Ideal.ofBits .f32 0x0DA24260#32 ≤ 1 - (r : EReal)) :
    kept r (if hit then 1 else 0) = (keptR hit r : EReal) := by
  unfold kept keptR
  split
  · rw [mul_one, max_eq_left h1]; rfl
  · rw [mul_zero, sub_zero, max_eq_left tiny_le_one]; rfl

theorem log_real (r : ℝ) (h : 0 < r) : Ideal.log (r : EReal) = (Real.log r : EReal) := by
  show (if r ≤ 0 then ⊥ else (Real.log r : EReal)) = _
  rw [if_neg (not_le.2 h)]

theorem sum_real {ι : Type} (s : Finset ι) (f : ι → ℝ) : ∑ c ∈ s, (f c : EReal) = ((∑ c ∈ s, f c : ℝ) : EReal) := by
  classical
  induction s using Finset.induction_on with
  | empty => simp
  | insert a s ha ih => rw [Finset.sum_insert ha, Finset.sum_insert ha, ih, EReal.coe_add]

theorem exp_sum_log (s : Finset (Fin 128)) (t : Fin 128 → ℝ) (ht : ∀ c, 0 < t c) :
    Ideal.exp (((∑ c ∈ s, Real.log (t c) : ℝ)) : EReal) = ((∏ c ∈ s, t c : ℝ) : EReal) := by
  show ((Real.exp (∑ c ∈ s, Real.log (t c)) : ℝ) : EReal) = _
  rw [Real.exp_sum]
  simp only [Real.exp_log (ht _)]

/-- A nonnegative real factor over a sum. -/
theorem real_mul_sum {ι : Type} (s : Finset ι) (a : ℝ) (ha : 0 ≤ a) (f : ι → EReal) :
    (a : EReal) * ∑ c ∈ s, f c = ∑ c ∈ s, (a : EReal) * f c := by
  classical
  induction s using Finset.induction_on with
  | empty => simp
  | insert x s hx ih =>
    rw [Finset.sum_insert hx, Finset.sum_insert hx, EReal.left_distrib_of_nonneg_of_ne_top (by exact_mod_cast ha) (EReal.coe_ne_top a), ih]

/-- The chunks before `n`, and those of them after `c`. -/
def before (n : ℕ) : Finset (Fin 128) := Finset.univ.filter fun c => c.val < n
def between (c : Fin 128) (n : ℕ) : Finset (Fin 128) := Finset.univ.filter fun d => c < d ∧ d.val < n

theorem before_succ (n : Fin 128) : before (n.val + 1) = insert n (before n.val) := by
  ext c; simp only [before, Finset.mem_filter, Finset.mem_univ, true_and, Finset.mem_insert, Fin.ext_iff]; omega

theorem not_mem_before (n : Fin 128) : n ∉ before n.val := by simp [before]

theorem between_self (n : Fin 128) : between n (n.val + 1) = ∅ := by
  refine Finset.filter_eq_empty_iff.2 fun c _ h => ?_
  have h1 : n.val < c.val := h.1
  have h2 := h.2
  omega

theorem between_succ (c n : Fin 128) (h : c ∈ before n.val) : between c (n.val + 1) = insert n (between c n.val) := by
  have hc : c.val < n.val := by simpa [before] using h
  ext d; simp only [between, Finset.mem_filter, Finset.mem_univ, true_and, Finset.mem_insert, Fin.ext_iff, Fin.lt_def]; omega

theorem not_mem_between (c n : Fin 128) : n ∉ between c n.val := by simp [between]

section Real

variable (r : Fin 128 → ℝ) (w : Fin 128 → EReal) (hit : Fin 128 → Prop) [DecidablePred hit] (s : EReal)

/-- A chunk's share in a slot entry after `n` chunks. -/
def share (n : ℕ) (c : Fin 128) : ℝ := (if hit c then r c else 0) * ∏ d ∈ between c n, keptR (hit d) (r d)

/-- The recurrence in its closed form, chunk by chunk. -/
theorem after_eq (hr : ∀ c, 0 < 1 - r c) (n : ℕ) (hn : n ≤ 128) :
    after (fun c => (r c : EReal)) w hit s n
      = ((∏ c ∈ before n, keptR (hit c) (r c) : ℝ) : EReal) * s + ∑ c ∈ before n, (share r hit n c : EReal) * w c := by
  induction n with
  | zero =>
    have e : before 0 = ∅ := by simp [before]
    rw [e]; simp [after]
  | succ n ih =>
    let x : Fin 128 := ⟨n, hn⟩
    have hb : before (n + 1) = insert x (before n) := before_succ x
    have hx : x ∉ before n := not_mem_before x
    have hself : share r hit (n + 1) x = if hit x then r x else 0 := by
      unfold share
      rw [show between x (n + 1) = ∅ from between_self x]; simp
    have hold : ∀ c ∈ before n, share r hit (n + 1) c = keptR (hit x) (r x) * share r hit n c := fun c hc => by
      unfold share
      rw [show between c (n + 1) = insert x (between c n) from between_succ c x hc, Finset.prod_insert (not_mem_between c x)]
      ring
    have hk : (0 : ℝ) ≤ keptR (hit x) (r x) := (keptR_pos _ _ (hr x)).le
    rw [hb, Finset.prod_insert hx, Finset.sum_insert hx, Finset.sum_congr rfl fun c hc => by rw [hold c hc, EReal.coe_mul, mul_assoc],
      ← real_mul_sum _ _ hk, hself, EReal.coe_mul, mul_assoc]
    show (if h : n < 128 then _ else _) = _
    rw [dif_pos (show n < 128 from hn), ih (by omega)]
    generalize ((∏ c ∈ before n, keptR (hit c) (r c) : ℝ) : EReal) * s = y
    generalize ∑ c ∈ before n, (share r hit n c : EReal) * w c = z
    by_cases h : hit x
    · rw [if_pos h, if_pos h]
      rw [show keptR (hit x) (r x) = 1 - r x from if_pos h] at hk ⊢
      have e : (1 : EReal) - (r x : EReal) = ((1 - r x : ℝ) : EReal) := rfl
      show (1 - (r x : EReal)) * (y + z) + (r x : EReal) * w x = _
      rw [e, EReal.left_distrib_of_nonneg_of_ne_top (by exact_mod_cast hk) (EReal.coe_ne_top _)]
      rw [add_assoc, add_comm _ ((r x : EReal) * w x)]
    · rw [if_neg h, if_neg h, show keptR (hit x) (r x) = 1 from if_neg h]
      simp

end Real

/-- The kernel's closed form is the recurrence after all chunks. -/
theorem closed_eq (g q w : Fin 128 → EReal) (hit : Fin 128 → Prop) [DecidablePred hit] (s : EReal) (h0 : ∀ c, 0 ≤ g c)
    (h1 : ∀ c, Ideal.ofBits .f32 0x0DA24260#32 ≤ 1 - g c) (hq : ∀ c, q c = if hit c then 1 else 0) :
    closed g q w s = after g w hit s 128 := by
  choose r hr using fun c => gate_real (g c) (h0 c) (h1 c)
  obtain rfl : g = fun c => (r c : EReal) := funext fun c => (hr c).1
  obtain rfl : q = fun c => if hit c then 1 else 0 := funext hq
  have hpos : ∀ c, 0 < keptR (hit c) (r c) := fun c => keptR_pos _ _ (hr c).2
  have hlog : ∀ c, Ideal.log (kept (r c : EReal) (if hit c then 1 else 0)) = (Real.log (keptR (hit c) (r c)) : EReal) := fun c => by
    rw [kept_eq _ _ (h1 c), log_real _ (hpos c)]
  have hall : before 128 = Finset.univ := by ext c; simp [before]
  rw [after_eq r w hit s (fun c => (hr c).2) 128 le_rfl, hall]
  unfold closed
  simp only [hlog]
  rw [sum_real, exp_sum_log _ _ hpos]
  refine congrArg (_ + ·) (Finset.sum_congr rfl fun c _ => congrArg (· * w c) ?_)
  have e : ∑ d, (if c < d then (1 : EReal) else 0) * (Real.log (keptR (hit d) (r d)) : EReal)
      = ((∑ d ∈ between c 128, Real.log (keptR (hit d) (r d)) : ℝ) : EReal) := by
    rw [← sum_real]
    have hb : between c 128 = Finset.univ.filter fun d => c < d := by ext d; simp [between]
    rw [hb, Finset.sum_filter]
    exact Finset.sum_congr rfl fun d _ => by split <;> simp
  rw [e, exp_sum_log _ _ hpos]
  unfold share
  rw [EReal.coe_mul]
  refine congrArg (· * _) ?_
  split <;> simp

/-! ## The whole result -/

/-- The call's arguments: the gates, the slot numbers, the write values, the slots, the gain and the shift. -/
structure Args where
  g : Fin 128 → Fin 16 → EReal
  ix : Fin 512 → Fin 3 → BitVec 32
  w : Fin 512 → Fin 128 → EReal
  s : Fin 64 → Fin 128 → EReal
  gain : Fin 128 → EReal
  shift : Fin 128 → EReal

/-- The row of the chunk tables that chunk `c` of batch `b` has, and the column of the gates that batch `b` has. -/
def row (b : Fin 4) (c : Fin 128) : Fin 512 := ⟨128 * b.val + c.val, by omega⟩
def col (b : Fin 4) : Fin 16 := ⟨b.val, by omega⟩

/-- Chunk row `r` names slot `n`. -/
def Hits (X : Args) (n : Fin 64) (r : Fin 512) : Prop := ∃ j, X.ix r j = BitVec.ofNat 32 n.val

instance (X : Args) (n : Fin 64) (r : Fin 512) : Decidable (Hits X n r) := inferInstanceAs (Decidable (∃ _, _))

/-- How often a row of three slot numbers names slot `n`. -/
def count (i : Fin 3 → BitVec 32) (n : Fin 64) : EReal :=
  Scalar.select (IntOp.cmpi .eq (BitVec.ofNat 32 n.val) (i 0)) 1 0 + Scalar.select (IntOp.cmpi .eq (BitVec.ofNat 32 n.val) (i 1)) 1 0
    + Scalar.select (IntOp.cmpi .eq (BitVec.ofNat 32 n.val) (i 2)) 1 0

/-- The result through the closed form. -/
def closedOut (X : Args) (b : Fin 4) (n : Fin 64) (d : Fin 128) : EReal :=
  normed (fun d => closed (fun c => X.g c (col b)) (fun c => count (X.ix (row b c)) n) (fun c => X.w (row b c) d) (X.s n d)) X.gain X.shift d

/-- The result through the recurrence. -/
def out (X : Args) (b : Fin 4) (n : Fin 64) (d : Fin 128) : EReal :=
  normed (fun d => after (fun c => X.g c (col b)) (fun c => X.w (row b c) d) (fun c => Hits X n (row b c)) (X.s n d) 128) X.gain X.shift d

theorem chose_eq (i : BitVec 32) (n : Fin 64) :
    (Scalar.select (IntOp.cmpi .eq (BitVec.ofNat 32 n.val) i) 1 0 : EReal) = if i = BitVec.ofNat 32 n.val then 1 else 0 := by
  unfold Scalar.select
  refine if_congr ?_ rfl rfl
  exact IntOp.cmpi_eq.trans eq_comm

theorem count_eq (X : Args) (n : Fin 64) (r : Fin 512) (h01 : X.ix r 0 ≠ X.ix r 1) (h02 : X.ix r 0 ≠ X.ix r 2) (h12 : X.ix r 1 ≠ X.ix r 2) :
    count (X.ix r) n = if Hits X n r then 1 else 0 := by
  have e : Hits X n r ↔ X.ix r 0 = BitVec.ofNat 32 n.val ∨ X.ix r 1 = BitVec.ofNat 32 n.val ∨ X.ix r 2 = BitVec.ofNat 32 n.val := by
    unfold Hits
    constructor
    · rintro ⟨j, h⟩
      match j with
      | 0 => exact .inl h
      | 1 => exact .inr (.inl h)
      | 2 => exact .inr (.inr h)
    · rintro (h | h | h)
      exacts [⟨0, h⟩, ⟨1, h⟩, ⟨2, h⟩]
  unfold count
  rw [chose_eq, chose_eq, chose_eq, if_congr e rfl rfl]
  by_cases h0 : X.ix r 0 = BitVec.ofNat 32 n.val
  · rw [if_pos h0, if_neg fun h => h01 (h0.trans h.symm), if_neg fun h => h02 (h0.trans h.symm), if_pos (.inl h0)]; simp
  · by_cases h1 : X.ix r 1 = BitVec.ofNat 32 n.val
    · rw [if_neg h0, if_pos h1, if_neg fun h => h12 (h1.trans h.symm), if_pos (.inr (.inl h1))]; simp
    · simp [h0, h1]

/-- The two results agree where every gate lies in the range and no row names a slot twice. -/
theorem closedOut_eq (X : Args) (h0 : ∀ c b, 0 ≤ X.g c (col b)) (h1 : ∀ c b, Ideal.ofBits .f32 0x0DA24260#32 ≤ 1 - X.g c (col b))
    (hd : ∀ r, X.ix r 0 ≠ X.ix r 1 ∧ X.ix r 0 ≠ X.ix r 2 ∧ X.ix r 1 ≠ X.ix r 2) : closedOut X = out X := by
  funext b n d
  unfold closedOut out
  refine congrArg (fun y => normed y X.gain X.shift d) (funext fun d => ?_)
  exact closed_eq _ _ _ _ _ (fun c => h0 c b) (fun c => h1 c b) fun c => count_eq X n _ (hd _).1 (hd _).2.1 (hd _).2.2

end Cert.FinalSpec

end
-- ==== Proof.FinalPre.lean ====
/-
  What the named precondition of the final call says of its arguments at an index: every gate of the batches is at least
  0 and leaves at least the tiny constant, and no row of slot numbers names a slot twice.
-/
module

public import proofs.«01_k».proof.Pre_below_one
public import proofs.«01_k».proof.Proof.FinalSpec
public import Idealize.ShloMosaic.Lib.Pointwise
public import Idealize.ShloMosaic.Lib.ReduceAll
public import Idealize.ShloMosaic.Lib.WordCmp
public import Idealize.ShloMosaic.Lib.IdealHost

@[expose] public section

noncomputable section

namespace Cert.FinalPre

open Cert.Pre_below_one Cert.Pre_below_one.Facts Idealize.ShloMosaic

variable [Cert.Pre_below_one.Facts]

/-- Whether a batch's gate is in the range, as the precondition computes it. -/
def gateV (g : FVec Ideal S128x16 .f32) : IVec S128x4 1 :=
  andi (cmpf .oge (extractStridedSlice S128x4 ![0, 0] g slices_S128x16_S128x4_0_0 : FVec Ideal S128x4 .f32) (broadcastInDim S128x4 ![] bcast_S_S128x4 (constant S_ .f32 0x00000000#32)))
    (cmpf .oge (subf (broadcastInDim S128x4 ![] bcast_S_S128x4 (constant S_ .f32 0x3F800000#32)) (extractStridedSlice S128x4 ![0, 0] g slices_S128x16_S128x4_0_0) : FVec Ideal S128x4 .f32)
      (broadcastInDim S128x4 ![] bcast_S_S128x4 (constant S_ .f32 0x0DA24260#32)))

/-- A column of slot numbers. -/
def colV (x : IVec S512x3 32) (off : Fin 2 → ℕ) (h : S512x3.Slices off S512x1) : IVec S512 32 :=
  shapeCast S512 (extractStridedSlice S512x1 off x h) shapeCasts_S512x1_S512

/-- Whether a row's three slot numbers differ, as the precondition computes it. -/
def rowV (x : IVec S512x3 32) : IVec S512 1 :=
  andi (andi (cmpi .ne (colV x _ slices_S512x3_S512x1_0_0) (colV x _ slices_S512x3_S512x1_0_1)) (cmpi .ne (colV x _ slices_S512x3_S512x1_0_0) (colV x _ slices_S512x3_S512x1_0_2)))
    (cmpi .ne (colV x _ slices_S512x3_S512x1_0_1) (colV x _ slices_S512x3_S512x1_0_2))

theorem gateV_at (g : FVec Ideal S128x16 .f32) (c : Fin 128) (b : Fin 4) :
    gateV g (ix2 c b) = IntOp.andi (BitVec.ofBool (decide (0 ≤ g (ix2 c (FinalSpec.col b)))))
      (BitVec.ofBool (decide (Ideal.ofBits .f32 0x0DA24260#32 ≤ 1 - g (ix2 c (FinalSpec.col b))))) := by
  unfold FinalSpec.col
  pointwise [gateV]

theorem rowV_at (x : IVec S512x3 32) (r : Fin 512) :
    rowV x (ix1 r) = IntOp.andi (IntOp.andi (IntOp.cmpi .ne (x (ix2 r 0)) (x (ix2 r 1))) (IntOp.cmpi .ne (x (ix2 r 0)) (x (ix2 r 2))))
      (IntOp.cmpi .ne (x (ix2 r 1)) (x (ix2 r 2))) := by
  pointwise [rowV, colV]

theorem of_ofBool {p : Prop} [Decidable p] (h : BitVec.ofBool (decide p) = 1#1) : p := by
  by_contra hn
  rw [decide_eq_false hn] at h
  exact absurd h (by decide)

theorem of_ne {x y : BitVec 32} (h : IntOp.cmpi .ne x y = 1#1) : x ≠ y := by
  rw [WordCmp.cmpi_ne_eq] at h
  exact of_ofBool h

/-- The precondition at an index. -/
theorem facts_of_pre (a0 : FVec Ideal S128x16 .f32) (a1 : IVec S512x3 32) (a2 : FVec Ideal S512x128 .f32) (a3 : FVec Ideal S1x64x128 .f32)
    (a4 a5 : FVec Ideal S128 .f32) (h : Cert.Pre_below_one.fn a0 a1 a2 a3 a4 a5 = fun _ => 1#1) :
    (∀ c b, 0 ≤ a0 (ix2 c (FinalSpec.col b))) ∧ (∀ c b, Ideal.ofBits .f32 0x0DA24260#32 ≤ 1 - a0 (ix2 c (FinalSpec.col b)))
      ∧ ∀ r, a1 (ix2 r 0) ≠ a1 (ix2 r 1) ∧ a1 (ix2 r 0) ≠ a1 (ix2 r 2) ∧ a1 (ix2 r 1) ≠ a1 (ix2 r 2) := by
  haveI : Subsingleton S_.Idx := ⟨fun _ _ => funext fun a => a.elim0⟩
  have e := congrFun h fun a => a.elim0
  have e' : IntOp.andi (Host.reduce IntOp.andi (gateV a0) (constantI S_ 1 1#1) reducesTo_S128x4_S_d0_1 h_S_ fun a => a.elim0)
      (Host.reduce IntOp.andi (rowV a1) (constantI S_ 1 1#1) reducesTo_S512_S_d0 h_S_ fun a => a.elim0) = 1#1 := e
  obtain ⟨eg, er⟩ := IntOp.andi_eq_one.1 e'
  have hg : ∀ c b, _ := fun c b => IntOp.andi_eq_one.1 ((gateV_at a0 c b).symm.trans (Host.reduce_andi_all _ _ _ _ _ eg (ix2 c b)))
  refine ⟨fun c b => of_ofBool (hg c b).1, fun c b => of_ofBool (hg c b).2, fun r => ?_⟩
  obtain ⟨h1, h2⟩ := IntOp.andi_eq_one.1 ((rowV_at a1 r).symm.trans (Host.reduce_andi_all _ _ _ _ _ er (ix1 r)))
  obtain ⟨h3, h4⟩ := IntOp.andi_eq_one.1 h1
  exact ⟨of_ne h3, of_ne h4, of_ne h2⟩

end Cert.FinalPre
end
-- ==== Proof.FinalIdealValue.lean ====
/-
  The call forming the new slots, over the extended reals: what the body computes for a batch, read at an index, and the
  result array after the run.
-/
module

public import proofs.«01_k».proof.Proof.Gen.FinalIdeal.Value
public import proofs.«01_k».proof.Proof.FinalSpec
public import Idealize.ShloMosaic.Lib.Pointwise
public import Idealize.ShloMosaic.Lib.StableHlo.ReadAt
public import Idealize.ShloMosaic.Lib.WordCmp
public import Idealize.ShloMosaic.Lib.Pipeline.ValueKit.Tiles

@[expose] public section

set_option maxRecDepth 16384

noncomputable section

namespace Cert.FinalIdealRun

open Cert.FinalIdeal Cert.FinalIdeal.Gen Cert.FinalIdeal.Value
open Idealize.ShloMosaic Idealize.ShloMosaic.TcCoe Idealize.SL.Sem

/-! ## The body's value for one batch -/

/-- What the body stores for a batch: from its gates `g`, its three columns of slot numbers, its write values `w`, the
    slots `s`, and the gain and shift rows. -/
def batch (g : Vec Ideal S128x1 .f32) (i j k : Vec Ideal S128x1 .i32) (w : Vec Ideal S128x128 .f32) (s : Vec Ideal S64x128 .f32)
    (a b : Vec Ideal S1x128 .f32) : FVec Ideal S1x64x128 .f32 :=
  k0_pay8 k0_pay2 k0_pay3 (k0_pay4 s) g (k0_pay5 i j k) (k0_pay6 g i j k) k0_pay7 w a b

section Block

variable (x0 : Vec Ideal S128x16 .f32) (x1 : Vec Ideal S512x3 .i32) (x2 : Vec Ideal S512x128 .f32) (x3 : Vec Ideal S64x128 .f32)
  (x4 x5 : Vec Ideal S1x128 .f32)

theorem out_eq :
    out0_6 x0 x1 x2 x3 x4 x5 = View.canon [
      ⟨r0_25, batch (View.ld x0 r0_20) (View.ld x1 r0_21) (View.ld x1 r0_22) (View.ld x1 r0_23) (View.ld x2 r0_24) (View.ld x3 r0_0) (View.ld x4 r0_6) (View.ld x5 r0_6)⟩,
      ⟨r0_19, batch (View.ld x0 r0_14) (View.ld x1 r0_15) (View.ld x1 r0_16) (View.ld x1 r0_17) (View.ld x2 r0_18) (View.ld x3 r0_0) (View.ld x4 r0_6) (View.ld x5 r0_6)⟩,
      ⟨r0_13, batch (View.ld x0 r0_8) (View.ld x1 r0_9) (View.ld x1 r0_10) (View.ld x1 r0_11) (View.ld x2 r0_12) (View.ld x3 r0_0) (View.ld x4 r0_6) (View.ld x5 r0_6)⟩,
      ⟨r0_7, batch (View.ld x0 r0_1) (View.ld x1 r0_2) (View.ld x1 r0_3) (View.ld x1 r0_4) (View.ld x2 r0_5) (View.ld x3 r0_0) (View.ld x4 r0_6) (View.ld x5 r0_6)⟩] := rfl

end Block

/-- The slots after all chunks, before the layer norm. -/
def slotsV (g : Vec Ideal S128x1 .f32) (i j k : Vec Ideal S128x1 .i32) (w : Vec Ideal S128x128 .f32) (s : Vec Ideal S64x128 .f32) :
    FVec Ideal S64x128 .f32 :=
  addf (mulf (broadcastTo S64x128 (exp (matmul (F := Ideal) (φ₁ := .f32) (φ₂ := .f32) dot_S128x64_S128x1_S64x1_0_0_1_1_n_n none (log (maximumf (k0_pay6 g i j k) k0_pay7)) k0_pay3
      (constant S64x1 .f32 0x00000000#32))) broadcasts_S64x1_S64x128) (k0_pay4 s))
    (matmul (F := Ideal) (φ₁ := .f32) (φ₂ := .f32) dot_S128x64_S128x128_S64x128_0_0_1_1_n_n none (mulf (mulf (broadcastTo S128x64 g broadcasts_S128x1_S128x64) (k0_pay5 i j k))
      (exp (matmul (F := Ideal) (φ₁ := .f32) (φ₂ := .f32) dot_S128x128_S128x64_S128x64_1_0_0_1_n_n none k0_pay2 (log (maximumf (k0_pay6 g i j k) k0_pay7)) (constant S128x64 .f32 0x00000000#32))))
      w (constant S64x128 .f32 0x00000000#32))

theorem count_at (i j k : Vec Ideal S128x1 .i32) (c : Fin 128) (n : Fin 64) :
    k0_pay5 i j k (ix2 c n) = FinalSpec.count ![i (ix2 c 0), j (ix2 c 0), k (ix2 c 0)] n := by
  unfold FinalSpec.count
  pointwise [k0_pay5]

theorem tri_at (c d : Fin 128) : k0_pay2 (F := Ideal) (ix2 c d) = if c < d then 1 else 0 := by
  pointwise [k0_pay2]
  unfold Scalar.select
  refine if_congr ?_ rfl rfl
  have hc := c.isLt
  have hd := d.isLt
  rw [WordCmp.cmpi_slt_eq, WordCmp.toInt_ofNat_of_lt (by omega), WordCmp.toInt_ofNat_of_lt (by omega)]
  by_cases h : c < d
  · simp [h]
  · simp [h]

theorem slotsV_at (g : Vec Ideal S128x1 .f32) (i j k : Vec Ideal S128x1 .i32) (w : Vec Ideal S128x128 .f32) (s : Vec Ideal S64x128 .f32)
    (n : Fin 64) (d : Fin 128) :
    slotsV g i j k w s (ix2 n d) = FinalSpec.closed (fun c => g (ix2 c 0)) (fun c => FinalSpec.count ![i (ix2 c 0), j (ix2 c 0), k (ix2 c 0)] n)
      (fun c => w (ix2 c d)) (s (ix2 n d)) := by
  unfold FinalSpec.closed FinalSpec.kept
  simp only [← count_at, ← tri_at]
  unfold slotsV k0_pay6
  generalize k0_pay5 i j k = q
  generalize k0_pay2 (F := Ideal) = u
  pointwise [k0_pay7, k0_pay3, k0_pay4]

/-- A slot row less its mean. -/
def centredV (y : FVec Ideal S64x128 .f32) : FVec Ideal S64x128 .f32 :=
  subf y (broadcastTo S64x128 (divf (shapeCast S64x1 (multiReduction .add [1] S64 y 0x00000000#32 reduces_S64x128_S64 (.inl rfl) rfl) shapeCasts_S64_S64x1)
    (broadcast S64x1 (Scalar.ofBits .f32 0x43000000#32))) broadcasts_S64x1_S64x128)

/-- The layer norm of the slots. -/
def normV (y : FVec Ideal S64x128 .f32) (a b : Vec Ideal S1x128 .f32) : FVec Ideal S1x64x128 .f32 :=
  shapeCast S1x64x128 (addf (mulf (mulf (centredV y) (broadcastTo S64x128 (rsqrt (addf (divf (shapeCast S64x1
      (multiReduction .add [1] S64 (mulf (centredV y) (centredV y)) 0x00000000#32 reduces_S64x128_S64 (.inl rfl) rfl) shapeCasts_S64_S64x1)
      (broadcast S64x1 (Scalar.ofBits .f32 0x43000000#32))) (broadcast S64x1 (Scalar.ofBits .f32 0x3727C5AC#32)))) broadcasts_S64x1_S64x128))
    (broadcastTo S64x128 (shapeCast S1x128 a shapeCasts_S1x128_S1x128) broadcasts_S1x128_S64x128))
    (broadcastTo S64x128 (shapeCast S1x128 b shapeCasts_S1x128_S1x128) broadcasts_S1x128_S64x128)) shapeCasts_S64x128_S1x64x128

theorem batch_eq (g : Vec Ideal S128x1 .f32) (i j k : Vec Ideal S128x1 .i32) (w : Vec Ideal S128x128 .f32) (s : Vec Ideal S64x128 .f32)
    (a b : Vec Ideal S1x128 .f32) : batch g i j k w s a b = normV (slotsV g i j k w s) a b := rfl

theorem centredV_at (y : FVec Ideal S64x128 .f32) (n : Fin 64) (d : Fin 128) :
    centredV y (ix2 n d) = y (ix2 n d) - FinalSpec.mean fun d => y (ix2 n d) := by
  pointwise [centredV, FinalSpec.mean]

theorem normV_at (y : FVec Ideal S64x128 .f32) (a b : Vec Ideal S1x128 .f32) (n : Fin 64) (d : Fin 128) :
    normV y a b (ix3 0 n d) = FinalSpec.normed (fun d => y (ix2 n d)) (fun d => a (ix2 0 d)) (fun d => b (ix2 0 d)) d := by
  unfold FinalSpec.normed
  rw [← DenseSpec.mul_rsqrt _ _ (FinalSpec.spread_pos _)]
  unfold FinalSpec.spread normV
  simp only [← centredV_at]
  generalize centredV y = z
  pointwise

/-! ## The whole block -/

section Out

variable (x0 : Vec Ideal S128x16 .f32) (x1 : Vec Ideal S512x3 .i32) (x2 : Vec Ideal S512x128 .f32) (x3 : Vec Ideal S64x128 .f32)
  (x4 x5 : Vec Ideal S1x128 .f32)

/-- The arguments as the body's blocks hold them. -/
def blockArgs : FinalSpec.Args where
  g := fun c b => x0 (ix2 c b)
  ix := fun r j => x1 (ix2 r j)
  w := fun r d => x2 (ix2 r d)
  s := fun n d => x3 (ix2 n d)
  gain := fun d => x4 (ix2 0 d)
  shift := fun d => x5 (ix2 0 d)

/-- The closed form at an index of the result array. -/
def whole (y : S4x64x128.Idx) : EReal := FinalSpec.closedOut (blockArgs x0 x1 x2 x3 x4 x5) (y 0) (y 1) (y 2)

/-- What the body stores for batch `b` is batch `b` of the closed form. -/
theorem piece_at (b : Fin 4) (h0 : ∀ a, (![0, b.val] : Fin 2 → ℕ) a + S128x1.size a ≤ S128x16.size a)
    (hi : ∀ a, (![128 * b.val, 0] : Fin 2 → ℕ) a + S128x1.size a ≤ S512x3.size a)
    (hj : ∀ a, (![128 * b.val, 1] : Fin 2 → ℕ) a + S128x1.size a ≤ S512x3.size a)
    (hk : ∀ a, (![128 * b.val, 2] : Fin 2 → ℕ) a + S128x1.size a ≤ S512x3.size a)
    (hw : ∀ a, (![128 * b.val, 0] : Fin 2 → ℕ) a + S128x128.size a ≤ S512x128.size a)
    (ho : ∀ a, (![b.val, 0, 0] : Fin 3 → ℕ) a + S1x64x128.size a ≤ S4x64x128.size a) (x : S1x64x128.Idx) :
    batch (View.ld x0 (Rect.unit (s := S128x16) ![0, b.val] S128x1.size h0)) (View.ld x1 (Rect.unit (s := S512x3) ![128 * b.val, 0] S128x1.size hi))
        (View.ld x1 (Rect.unit (s := S512x3) ![128 * b.val, 1] S128x1.size hj)) (View.ld x1 (Rect.unit (s := S512x3) ![128 * b.val, 2] S128x1.size hk))
        (View.ld x2 (Rect.unit (s := S512x128) ![128 * b.val, 0] S128x128.size hw)) (View.ld x3 r0_0) (View.ld x4 r0_6) (View.ld x5 r0_6) x
      = whole x0 x1 x2 x3 x4 x5 ((Rect.unit (s := S4x64x128) ![b.val, 0, 0] S1x64x128.size ho).emb x) := by
  obtain ⟨n, d, rfl⟩ : ∃ (n : Fin 64) (d : Fin 128), x = ix3 0 n d :=
    ⟨x 1, x 2, by funext a; match a with | ⟨0, _⟩ => exact Subsingleton.elim (α := Fin 1) _ _ | ⟨1, _⟩ => rfl | ⟨2, _⟩ => rfl⟩
  have e : (Rect.unit (s := S4x64x128) ![b.val, 0, 0] S1x64x128.size ho).emb (ix3 0 n d) = ix3 b n d := by
    funext a
    refine Fin.ext ?_
    match a with
    | ⟨0, _⟩ => show b.val + 1 * 0 = b.val; omega
    | ⟨1, _⟩ => show 0 + 1 * n.val = n.val; omega
    | ⟨2, _⟩ => show 0 + 1 * d.val = d.val; omega
  rw [e, batch_eq, normV_at]
  show _ = FinalSpec.normed _ _ _ d
  have hz : (![0, 0] : Fin 2 → ℕ) = fun _ => 0 := by decide
  have hg : ∀ c : Fin 128, View.ld x0 (Rect.unit (s := S128x16) ![0, b.val] S128x1.size h0) (ix2 c 0) = x0 (ix2 c (FinalSpec.col b)) := fun c =>
    View.ld_unit_apply_of _ _ _ _ _ _ fun a => by fin_cases a <;> simp [FinalSpec.col]
  have hx : ∀ (j : Fin 3) (h : ∀ a, (![128 * b.val, j.val] : Fin 2 → ℕ) a + S128x1.size a ≤ S512x3.size a) (c : Fin 128),
      View.ld x1 (Rect.unit (s := S512x3) ![128 * b.val, j.val] S128x1.size h) (ix2 c 0) = x1 (ix2 (FinalSpec.row b c) j) := fun j h c =>
    View.ld_unit_apply_of _ _ _ _ _ _ fun a => by fin_cases a <;> simp [FinalSpec.row]
  have hv : ∀ (c d : Fin 128), View.ld x2 (Rect.unit (s := S512x128) ![128 * b.val, 0] S128x128.size hw) (ix2 c d) = x2 (ix2 (FinalSpec.row b c) d) := fun c d =>
    View.ld_unit_apply_of _ _ _ _ _ _ fun a => by fin_cases a <;> simp [FinalSpec.row]
  rw [View.ld_unit_zero hz, View.ld_unit_zero hz, View.ld_unit_zero hz]
  refine congrArg (fun y => FinalSpec.normed y (fun d => x4 (ix2 0 d)) (fun d => x5 (ix2 0 d)) d) (funext fun d => ?_)
  rw [slotsV_at]
  simp only [hg, hv]
  refine congrArg (fun q => FinalSpec.closed _ q _ _) (funext fun c => congrArg (FinalSpec.count · n) (funext fun j => ?_))
  match j with
  | 0 => exact hx 0 hi c
  | 1 => exact hx 1 hj c
  | 2 => exact hx 2 hk c

theorem out_at (y : S4x64x128.Idx) : out0_6 x0 x1 x2 x3 x4 x5 y = whole x0 x1 x2 x3 x4 x5 y := by
  rw [out_eq]
  refine View.canon_apply_of_pieces _ _ ?_ y (cover0_6 _ _ _ _ y)
  intro p hp
  simp only [List.mem_cons, List.not_mem_nil, or_false] at hp
  rcases hp with rfl | rfl | rfl | rfl
  · exact piece_at x0 x1 x2 x3 x4 x5 3 _ _ _ _ _ inb_S4x64x128_S1x64x128_3_0_0
  · exact piece_at x0 x1 x2 x3 x4 x5 2 _ _ _ _ _ inb_S4x64x128_S1x64x128_2_0_0
  · exact piece_at x0 x1 x2 x3 x4 x5 1 _ _ _ _ _ inb_S4x64x128_S1x64x128_1_0_0
  · exact piece_at x0 x1 x2 x3 x4 x5 0 _ _ _ _ _ inb_S4x64x128_S1x64x128_0_0_0

end Out

/-! ## The result array -/

variable (m : (ℓ : Loc nD τ sig) → Buf (Elt Ideal) ℓ)

theorem V_slots (c : Dev nD) (n : Fin 64) (d : Fin 128) :
    (V m c main_v0 : Vec Ideal S64x128 .f32) (ix2 n d) = (m ((c : Thread nD τ).loc main_arg3) : Vec Ideal S1x64x128 .f32) (ix3 0 n d) := by
  unfold V
  after_reads_at

theorem V_gain (c : Dev nD) (d : Fin 128) :
    (V m c main_v1 : Vec Ideal S1x128 .f32) (ix2 0 d) = (m ((c : Thread nD τ).loc main_arg4) : Vec Ideal S128 .f32) (ix1 d) := by
  unfold V
  after_reads_at

theorem V_shift (c : Dev nD) (d : Fin 128) :
    (V m c main_v2 : Vec Ideal S1x128 .f32) (ix2 0 d) = (m ((c : Thread nD τ).loc main_arg5) : Vec Ideal S128 .f32) (ix1 d) := by
  unfold V
  after_reads_at

/-- The arguments as the launch has them. -/
def args (c : Dev nD) : FinalSpec.Args where
  g := fun k b => (m ((c : Thread nD τ).loc main_arg0) : Vec Ideal S128x16 .f32) (ix2 k b)
  ix := fun r j => (m ((c : Thread nD τ).loc main_arg1) : Vec Ideal S512x3 .i32) (ix2 r j)
  w := fun r d => (m ((c : Thread nD τ).loc main_arg2) : Vec Ideal S512x128 .f32) (ix2 r d)
  s := fun n d => (m ((c : Thread nD τ).loc main_arg3) : Vec Ideal S1x64x128 .f32) (ix3 0 n d)
  gain := fun d => (m ((c : Thread nD τ).loc main_arg4) : Vec Ideal S128 .f32) (ix1 d)
  shift := fun d => (m ((c : Thread nD τ).loc main_arg5) : Vec Ideal S128 .f32) (ix1 d)

/-- The grid's one point. -/
def point : Fin cfg0.N := (⟨0, by decide +kernel⟩ : Fin grid0.N)

theorem read0 (c : Dev nD) : (iblk m c 0 point : Vec Ideal S128x16 .f32) = V m c main_arg0 := by
  funext i
  show V m c main_arg0 (((cfg0.win 0).blk point).view.emb i) = _
  refine congrArg (V m c main_arg0) (funext fun a => Fin.ext ?_)
  match a with
  | ⟨0, _⟩ => show 0 * 128 + 1 * _ = _; omega
  | ⟨1, _⟩ => show 0 * 16 + 1 * _ = _; omega

theorem read1 (c : Dev nD) : (iblk m c 1 point : Vec Ideal S512x3 .i32) = V m c main_arg1 := by
  funext i
  show V m c main_arg1 (((cfg0.win 1).blk point).view.emb i) = _
  refine congrArg (V m c main_arg1) (funext fun a => Fin.ext ?_)
  match a with
  | ⟨0, _⟩ => show 0 * 512 + 1 * _ = _; omega
  | ⟨1, _⟩ => show 0 * 3 + 1 * _ = _; omega

theorem read2 (c : Dev nD) : (iblk m c 2 point : Vec Ideal S512x128 .f32) = V m c main_arg2 := by
  funext i
  show V m c main_arg2 (((cfg0.win 2).blk point).view.emb i) = _
  refine congrArg (V m c main_arg2) (funext fun a => Fin.ext ?_)
  match a with
  | ⟨0, _⟩ => show 0 * 512 + 1 * _ = _; omega
  | ⟨1, _⟩ => show 0 * 128 + 1 * _ = _; omega

theorem read3 (c : Dev nD) : (iblk m c 3 point : Vec Ideal S64x128 .f32) = V m c main_v0 := by
  funext i
  show V m c main_v0 (((cfg0.win 3).blk point).view.emb i) = _
  refine congrArg (V m c main_v0) (funext fun a => Fin.ext ?_)
  match a with
  | ⟨0, _⟩ => show 0 * 64 + 1 * _ = _; omega
  | ⟨1, _⟩ => show 0 * 128 + 1 * _ = _; omega

theorem read4 (c : Dev nD) : (iblk m c 4 point : Vec Ideal S1x128 .f32) = V m c main_v1 := by
  funext i
  show V m c main_v1 (((cfg0.win 4).blk point).view.emb i) = _
  refine congrArg (V m c main_v1) (funext fun a => Fin.ext ?_)
  match a with
  | ⟨0, _⟩ => show 0 * 1 + 1 * _ = _; omega
  | ⟨1, _⟩ => show 0 * 128 + 1 * _ = _; omega

theorem read5 (c : Dev nD) : (iblk m c 5 point : Vec Ideal S1x128 .f32) = V m c main_v2 := by
  funext i
  show V m c main_v2 (((cfg0.win 5).blk point).view.emb i) = _
  refine congrArg (V m c main_v2) (funext fun a => Fin.ext ?_)
  match a with
  | ⟨0, _⟩ => show 0 * 1 + 1 * _ = _; omega
  | ⟨1, _⟩ => show 0 * 128 + 1 * _ = _; omega

theorem blockArgs_eq (c : Dev nD) :
    blockArgs (iblk m c 0 point) (iblk m c 1 point) (iblk m c 2 point) (iblk m c 3 point) (iblk m c 4 point) (iblk m c 5 point) = args m c := by
  have e : blockArgs (V m c main_arg0) (V m c main_arg1) (V m c main_arg2) (V m c main_v0) (V m c main_v1) (V m c main_v2) = args m c := by
    unfold blockArgs args
    rw [V_main_arg0, V_main_arg1, V_main_arg2]
    simp only [show ∀ n d, _ from V_slots m c, show ∀ d, _ from V_gain m c, show ∀ d, _ from V_shift m c]
  rw [← e]
  exact congr (congr (congr (congr (congr (congrArg blockArgs (read0 m c)) (read1 m c)) (read2 m c)) (read3 m c)) (read4 m c)) (read5 m c)

theorem final6 (c : Dev nD) (b : Fin 4) (n : Fin 64) (d : Fin 128) :
    ((dats m 0 c).arrAt 6 cfg0.N : Vec Ideal S4x64x128 .f32) (ix3 b n d) = FinalSpec.closedOut (args m c) b n d := by
  have key := congrFun (blocks6 m c point (flush0_6 _)) (ix3 b n d)
  rw [flushed6] at key
  refine Eq.trans ?_ (key.trans ((out_at _ _ _ _ _ _ (ix3 b n d)).trans ?_))
  · refine congrArg ((dats m 0 c).arrAt 6 cfg0.N) (funext fun a => Fin.ext ?_)
    match a with
    | ⟨0, _⟩ => show b.val = 0 * 4 + 1 * b.val; omega
    | ⟨1, _⟩ => show n.val = 0 * 64 + 1 * n.val; omega
    | ⟨2, _⟩ => show d.val = 0 * 128 + 1 * d.val; omega
  · unfold whole
    rw [blockArgs_eq]
    rfl

end Cert.FinalIdealRun

end
-- ==== Proof.FinalRefValue.lean ====
/-
  The reference of the call forming the new slots, over the extended reals: the loop's body is one chunk of the plain
  recurrence, so that its 128 trips and the layer norm after them leave the slots of `Cert.FinalSpec.out`.
-/
module

public import proofs.«01_k».proof.Proof.Gen.FinalRefIdeal.Run
public import proofs.«01_k».proof.Proof.FinalSpec
public import proofs.«01_k».proof.Proof.GateRefValue
public import Idealize.ShloMosaic.Lib.Pointwise

@[expose] public section

set_option maxRecDepth 16384

noncomputable section

namespace Cert.FinalRefRun

open Cert.FinalRefIdeal Cert.FinalRefIdeal.Gen Cert.FinalRefIdeal.Value
open Idealize.ShloMosaic Idealize.ShloMosaic.TcCoe Idealize.ShloMosaic.StableHlo Idealize.ShloMosaic.WordCmp

/-! ## One chunk -/

/-- A slot entry before chunk `n`. -/
def entry (X : FinalSpec.Args) (n : ℕ) (b : Fin 4) (k : Fin 64) (d : Fin 128) : EReal :=
  FinalSpec.after (fun c => X.g c (FinalSpec.col b)) (fun c => X.w (FinalSpec.row b c) d) (fun c => FinalSpec.Hits X k (FinalSpec.row b c)) (X.s k d) n

theorem entry_succ (X : FinalSpec.Args) (c : Fin 128) (b : Fin 4) (k : Fin 64) (d : Fin 128) :
    entry X (c.val + 1) b k d = if FinalSpec.Hits X k (FinalSpec.row b c) then
      (1 - X.g c (FinalSpec.col b)) * entry X c.val b k d + X.g c (FinalSpec.col b) * X.w (FinalSpec.row b c) d else entry X c.val b k d := by
  show (if h : c.val < 128 then _ else _) = _
  rw [dif_pos c.isLt]
  rfl

/-- The carried buffers before chunk `n`: the tables as they came in and the recurrence's slots. -/
structure At (X : FinalSpec.Args) (V : Valuation τ sig (Elt Ideal)) (n : ℕ) : Prop where
  nums : ∀ (b : Fin 4) (c : Fin 128) (j : Fin 3), (V (Proc.devRef .tc main_v3_0) : Vec Ideal S4x128x3 .i32) (ix3 b c j) = X.ix (FinalSpec.row b c) j
  vals : ∀ (b : Fin 4) (c d : Fin 128), (V (Proc.devRef .tc main_v3_1) : Vec Ideal S4x128x128 .f32) (ix3 b c d) = X.w (FinalSpec.row b c) d
  gates : ∀ (c : Fin 128) (b : Fin 16), (V (Proc.devRef .tc main_v3_2) : Vec Ideal S128x16 .f32) (ix2 c b) = X.g c b
  ctr : (V (Proc.devRef .tc main_v3_4) : Vec Ideal S_ .i32) = fun _ => BitVec.ofNat 32 n
  slots : ∀ (b : Fin 4) (k : Fin 64) (d : Fin 128), (V (Proc.devRef .tc main_v3_5) : Vec Ideal S4x64x128 .f32) (ix3 b k d) = entry X n b k d

variable {X : FinalSpec.Args} {V : Valuation τ sig (Elt Ideal)} {c : Fin 128}

/-- The chunk's row of slot numbers. -/
def numsV (V : Valuation τ sig (Elt Ideal)) : IVec S4x3 32 :=
  shapeCast S4x3 (Host.dynamicSlice S4x1x3 (V (Proc.devRef .tc main_v3_0)) (fun k => (((![constantI S_ 32 0#32, select (cmpi .slt (V (Proc.devRef .tc main_v3_4)) (constantI S_ 32 0#32)) (addi (id (V (Proc.devRef .tc main_v3_4))) (constantI S_ 32 128#32)) (V (Proc.devRef .tc main_v3_4)), constantI S_ 32 0#32] : Fin 3 → (⟨S_, .i32⟩ : BufTy).Contents (Elt Ideal))) k (Shape.Idx.first h_S_)).toInt) sliceFits_S4x128x3_S4x1x3) shapeCasts_S4x1x3_S4x3

/-- The chunk's write values. -/
def valsV (V : Valuation τ sig (Elt Ideal)) : FVec Ideal S4x128 .f32 :=
  shapeCast S4x128 (Host.dynamicSlice S4x1x128 (V (Proc.devRef .tc main_v3_1)) (fun k => (((![constantI S_ 32 0#32, select (cmpi .slt (V (Proc.devRef .tc main_v3_4)) (constantI S_ 32 0#32)) (addi (id (V (Proc.devRef .tc main_v3_4))) (constantI S_ 32 128#32)) (V (Proc.devRef .tc main_v3_4)), constantI S_ 32 0#32] : Fin 3 → (⟨S_, .i32⟩ : BufTy).Contents (Elt Ideal))) k (Shape.Idx.first h_S_)).toInt) sliceFits_S4x128x128_S4x1x128) shapeCasts_S4x1x128_S4x128

theorem nums_at (hV : At X V c.val) (b : Fin 4) (j : Fin 3) : numsV V (ix2 b j) = X.ix (FinalSpec.row b c) j := by
  unfold numsV
  have hoff : S4x128x3.Slices ![0, c.val, 0] S4x1x3 := ⟨rfl, fun a => by fin_cases a <;> simp <;> omega⟩
  refine (congrArg (fun z : Vec Ideal S4x1x3 .i32 => shapeCast S4x3 z shapeCasts_S4x1x3_S4x3 (ix2 b j))
    (Host.dynamicSlice_eq_extractStridedSlice S4x1x3 _ _ ![0, c.val, 0] _ hoff fun a => ?_)).trans ?_
  · match a with
    | ⟨0, _⟩ => rfl
    | ⟨1, _⟩ => exact GateRefRun.index_at _ hV.ctr _
    | ⟨2, _⟩ => rfl
  · rw [shapeCast_apply _ _ _ (ix3 b (⟨0, by decide⟩ : Fin 1) j) (by rw [Shape.rowMajor_val_two, Shape.rowMajor_val_three]; simp)]
    rw [extractStridedSlice_apply _ _ _ _ (ix3 b c j) (by intro a; fin_cases a <;> simp)]
    exact hV.nums b c j

theorem vals_at (hV : At X V c.val) (b : Fin 4) (d : Fin 128) : valsV V (ix2 b d) = X.w (FinalSpec.row b c) d := by
  unfold valsV
  have hoff : S4x128x128.Slices ![0, c.val, 0] S4x1x128 := ⟨rfl, fun a => by fin_cases a <;> simp <;> omega⟩
  refine (congrArg (fun z : Vec Ideal S4x1x128 .f32 => shapeCast S4x128 z shapeCasts_S4x1x128_S4x128 (ix2 b d))
    (Host.dynamicSlice_eq_extractStridedSlice S4x1x128 _ _ ![0, c.val, 0] _ hoff fun a => ?_)).trans ?_
  · match a with
    | ⟨0, _⟩ => rfl
    | ⟨1, _⟩ => exact GateRefRun.index_at _ hV.ctr _
    | ⟨2, _⟩ => rfl
  · rw [shapeCast_apply _ _ _ (ix3 b (⟨0, by decide⟩ : Fin 1) d) (by rw [Shape.rowMajor_val_two, Shape.rowMajor_val_three]; simp)]
    rw [extractStridedSlice_apply _ _ _ _ (ix3 b c d) (by intro a; fin_cases a <;> simp)]
    exact hV.vals b c d

/-- The chunk's gates, from the row that holds them. -/
def gateV (z : FVec Ideal S1x4 .f32) : FVec Ideal S4x1x1 .f32 := broadcastInDim S4x1x1 ![0] bcast_S4_S4x1x1_0 (shapeCast S4 z shapeCasts_S1x4_S4)

theorem gateV_at (z : FVec Ideal S1x4 .f32) (b : Fin 4) : gateV z (ix3 b 0 0) = z (ix2 0 b) := by
  pointwise [gateV]

/-- The columns of the gates that the batches have. -/
def gatesV (x : FVec Ideal S128x16 .f32) : FVec Ideal S128x4 .f32 := extractStridedSlice S128x4 ![0, 0] x slices_S128x16_S128x4_0_0

theorem gatesV_at (x : FVec Ideal S128x16 .f32) (c : Fin 128) (b : Fin 4) : gatesV x (ix2 c b) = x (ix2 c (FinalSpec.col b)) :=
  extractStridedSlice_apply _ _ _ _ _ (by intro a; fin_cases a <;> simp [FinalSpec.col])

theorem rowOf_at (x : FVec Ideal S128x4 .f32) (start : Fin S128x4.rank → Int) (hs : ∀ a, start a = ((![c.val, 0] : Fin S128x4.rank → ℕ) a : Int)) (h) (b : Fin 4) :
    (Host.dynamicSlice S1x4 x start h : FVec Ideal S1x4 .f32) (ix2 0 b) = x (ix2 c b) := by
  have hoff : S128x4.Slices ![c.val, 0] S1x4 := ⟨rfl, fun a => by fin_cases a <;> simp <;> omega⟩
  rw [Host.dynamicSlice_eq_extractStridedSlice S1x4 x start ![c.val, 0] h hoff hs]
  exact extractStridedSlice_apply _ _ _ _ _ (by intro a; fin_cases a <;> simp)

theorem gate_at (hV : At X V c.val) (b : Fin 4) :
    (res_main_while0b_v33 V : Vec Ideal S4x1x1 .f32) (ix3 b 0 0) = X.g c (FinalSpec.col b) := by
  have e : (res_main_while0b_v33 V : Vec Ideal S4x1x1 .f32) = gateV (Host.dynamicSlice S1x4 (gatesV (V (Proc.devRef .tc main_v3_2))) (fun k => (((![select (cmpi .slt (V (Proc.devRef .tc main_v3_4)) (constantI S_ 32 0#32)) (addi (id (V (Proc.devRef .tc main_v3_4))) (constantI S_ 32 128#32)) (V (Proc.devRef .tc main_v3_4)), constantI S_ 32 0#32] : Fin 2 → (⟨S_, .i32⟩ : BufTy).Contents (Elt Ideal))) k (Shape.Idx.first h_S_)).toInt) sliceFits_S128x4_S1x4) := rfl
  rw [e, gateV_at, rowOf_at (c := c), gatesV_at]
  · exact hV.gates c _
  · intro a
    match a with
    | ⟨0, _⟩ => exact GateRefRun.index_at _ hV.ctr _
    | ⟨1, _⟩ => rfl

/-- Which slots a row of slot numbers names. -/
def hitV (x : IVec S4x3 32) : IVec S4x64 1 :=
  Host.reduce IntOp.ori (cmpi .eq (broadcastInDim S4x3x64 ![0, 1, 2] bcast_S4x3x1_S4x3x64_0_1_2 (broadcastInDim S4x3x1 ![0, 1] bcast_S4x3_S4x3x1_0_1 x)) (broadcastInDim S4x3x64 ![0, 1, 2] bcast_S1x1x64_S4x3x64_0_1_2 (broadcastInDim S1x1x64 ![2] bcast_S64_S1x1x64_2 (iotaInDim S64 32 0)))) (constantI S_ 1 0#1) reducesTo_S4x3x64_S4x64_d1 h_S_

theorem hit_iff (hV : At X V c.val) (b : Fin 4) (k : Fin 64) :
    hitV (numsV V) (ix2 b k) = 1#1 ↔ FinalSpec.Hits X k (FinalSpec.row b c) := by
  have hx : ∀ (b : Fin 4) (j : Fin 3) (k : Fin 64), (cmpi .eq (broadcastInDim S4x3x64 ![0, 1, 2] bcast_S4x3x1_S4x3x64_0_1_2 (broadcastInDim S4x3x1 ![0, 1] bcast_S4x3_S4x3x1_0_1 (numsV V))) (broadcastInDim S4x3x64 ![0, 1, 2] bcast_S1x1x64_S4x3x64_0_1_2 (broadcastInDim S1x1x64 ![2] bcast_S64_S1x1x64_2 (iotaInDim S64 32 0)))) (ix3 b j k) = 1#1
      ↔ X.ix (FinalSpec.row b c) j = BitVec.ofNat 32 k.val := by
    intro b j k
    rw [← nums_at hV b j]
    generalize numsV V = x
    refine Iff.trans (Eq.to_iff (congrArg (· = 1#1) (?_ : _ = IntOp.cmpi .eq (x (ix2 b j)) (BitVec.ofNat 32 k.val)))) IntOp.cmpi_eq
    pointwise
  unfold hitV
  rw [GateRefRun.reduce_ori_iff _ _ _ _ _ rfl]
  constructor
  · rintro ⟨i, hd, hi⟩
    obtain ⟨b', j, k', rfl⟩ : ∃ (b' : Fin 4) (j : Fin 3) (k' : Fin 64), i = ix3 b' j k' := ⟨i 0, i 1, i 2, by funext a; fin_cases a <;> rfl⟩
    have h0 : b' = b := congrFun hd (0 : Fin 2)
    have h1 : k' = k := congrFun hd (1 : Fin 2)
    subst h0; subst h1
    exact ⟨j, (hx _ _ _).1 hi⟩
  · rintro ⟨j, hj⟩
    refine ⟨ix3 b j k, ?_, (hx _ _ _).2 hj⟩
    funext a
    match a with
    | ⟨0, _⟩ => rfl
    | ⟨1, _⟩ => rfl

/-- The body's slots of the hits, the gates, the write values and the slots before. -/
def nextV (h : IVec S4x64 1) (g : FVec Ideal S4x1x1 .f32) (w : FVec Ideal S4x128 .f32) (s : FVec Ideal S4x64x128 .f32) : FVec Ideal S4x64x128 .f32 :=
  select (broadcastInDim S4x64x128 ![0, 1, 2] bcast_S4x64x1_S4x64x128_0_1_2 (broadcastInDim S4x64x1 ![0, 1] bcast_S4x64_S4x64x1_0_1 h))
    (addf (mulf (broadcastInDim S4x64x128 ![0, 1, 2] bcast_S4x1x1_S4x64x128_0_1_2 (subf (broadcastInDim S4x1x1 ![] bcast_S_S4x1x1 (constant S_ .f32 0x3F800000#32)) g)) s)
      (broadcastInDim S4x64x128 ![0, 1, 2] bcast_S4x1x128_S4x64x128_0_1_2 (mulf (broadcastInDim S4x1x128 ![0, 1, 2] bcast_S4x1x1_S4x1x128_0_1_2 g) (broadcastInDim S4x1x128 ![0, 2] bcast_S4x128_S4x1x128_0_2 w)))) s

theorem nextV_at (h : IVec S4x64 1) (g : FVec Ideal S4x1x1 .f32) (w : FVec Ideal S4x128 .f32) (s : FVec Ideal S4x64x128 .f32)
    (b : Fin 4) (k : Fin 64) (d : Fin 128) :
    nextV h g w s (ix3 b k d) = Scalar.select (h (ix2 b k)) ((1 - g (ix3 b 0 0)) * s (ix3 b k d) + g (ix3 b 0 0) * w (ix2 b d)) (s (ix3 b k d)) := by
  pointwise [nextV]

theorem slots_at (hV : At X V c.val) (b : Fin 4) (k : Fin 64) (d : Fin 128) :
    (step_main_v3_5 V : Vec Ideal S4x64x128 .f32) (ix3 b k d) = entry X (c.val + 1) b k d := by
  have e : (step_main_v3_5 V : Vec Ideal S4x64x128 .f32) = nextV (hitV (numsV V)) (res_main_while0b_v33 V) (valsV V) (V (Proc.devRef .tc main_v3_5)) := rfl
  rw [e, nextV_at, entry_succ, gate_at hV, vals_at hV, hV.slots]
  unfold Scalar.select
  exact if_congr (hit_iff hV b k) rfl rfl

/-- The body is one chunk. -/
theorem step_at (hV : At X V c.val) : At X (STEP V) (c.val + 1) where
  nums := fun b c' j => by rw [STEP_main_v3_0]; exact hV.nums b c' j
  vals := fun b c' d => by rw [STEP_main_v3_1]; exact hV.vals b c' d
  gates := fun c' b => by rw [STEP_main_v3_2]; exact hV.gates c' b
  ctr := by
    rw [STEP_main_v3_4]
    unfold step_main_v3_4
    rw [hV.ctr]
    funext i
    exact (BitVec.ofNat_add c.val 1).symm
  slots := fun b k d => by rw [STEP_main_v3_5]; exact slots_at hV b k d

theorem steps_at (hV : At X V 0) : ∀ n, n ≤ 128 → At X (STEP^[n] V) n
  | 0, _ => hV
  | n + 1, h => by
    rw [Function.iterate_succ_apply']
    exact step_at (c := ⟨n, h⟩) (steps_at hV n (by omega))

/-! ## The whole loop -/

variable (m : (ℓ : Loc nD τ sig) → Buf (Elt Ideal) ℓ)

/-- The arguments as the launch has them. -/
def args (c : Dev nD) : FinalSpec.Args where
  g := fun k b => (m ((c.tc : Thread nD τ).loc main_arg0) : Vec Ideal S128x16 .f32) (ix2 k b)
  ix := fun r j => (m ((c.tc : Thread nD τ).loc main_arg1) : Vec Ideal S512x3 .i32) (ix2 r j)
  w := fun r d => (m ((c.tc : Thread nD τ).loc main_arg2) : Vec Ideal S512x128 .f32) (ix2 r d)
  s := fun n d => (m ((c.tc : Thread nD τ).loc main_arg3) : Vec Ideal S1x64x128 .f32) (ix3 0 n d)
  gain := fun d => (m ((c.tc : Thread nD τ).loc main_arg4) : Vec Ideal S128 .f32) (ix1 d)
  shift := fun d => (m ((c.tc : Thread nD τ).loc main_arg5) : Vec Ideal S128 .f32) (ix1 d)

/-- The loop's carried buffers as the host stretch before it leaves them. -/
theorem entry_at (c : Dev nD) : At (args m c) (entryContents preI m c) 0 := by
  have e0 : (entryContents preI m c) (Proc.devRef .tc main_v3_0) = (shapeCast S4x128x3 (m ((c.tc : Thread nD τ).loc main_arg1)) shapeCasts_S512x3_S4x128x3 : Vec Ideal S4x128x3 .i32) := by
    simp only [entryContents, afterL_cons, afterL_nil]; after_results_simp; rfl
  have e1 : (entryContents preI m c) (Proc.devRef .tc main_v3_1) = (shapeCast S4x128x128 (m ((c.tc : Thread nD τ).loc main_arg2)) shapeCasts_S512x128_S4x128x128 : Vec Ideal S4x128x128 .f32) := by
    simp only [entryContents, afterL_cons, afterL_nil]; after_results_simp; rfl
  have e2 : (entryContents preI m c) (Proc.devRef .tc main_v3_2) = (m ((c.tc : Thread nD τ).loc main_arg0) : Vec Ideal S128x16 .f32) := by
    simp only [entryContents, afterL_cons, afterL_nil]; after_results_simp; rfl
  have e4 : (entryContents preI m c) (Proc.devRef .tc main_v3_4) = (constantI S_ 32 0#32 : Vec Ideal S_ .i32) := by
    simp only [entryContents, afterL_cons, afterL_nil]; after_results_simp; rfl
  have e5 : (entryContents preI m c) (Proc.devRef .tc main_v3_5) = (broadcastInDim S4x64x128 ![0, 1, 2] bcast_S1x64x128_S4x64x128_0_1_2 (m ((c.tc : Thread nD τ).loc main_arg3)) : Vec Ideal S4x64x128 .f32) := by
    simp only [entryContents, afterL_cons, afterL_nil]; after_results_simp; rfl
  refine ⟨fun b k j => ?_, fun b k d => ?_, fun k b => ?_, ?_, fun b k d => ?_⟩
  · rw [e0]
    exact shapeCast_apply (s := S512x3) _ _ _ (ix2 (FinalSpec.row b k) j) (by rw [Shape.rowMajor_val_two, Shape.rowMajor_val_three]; simp [FinalSpec.row]; omega)
  · rw [e1]
    exact shapeCast_apply (s := S512x128) _ _ _ (ix2 (FinalSpec.row b k) d) (by rw [Shape.rowMajor_val_two, Shape.rowMajor_val_three]; simp [FinalSpec.row]; omega)
  · rw [e2]; rfl
  · rw [e4]; rfl
  · rw [e5, broadcastInDim_apply _ _ _ _ (ix3 (0 : Fin 1) k d) (by intro a; fin_cases a <;> rfl)]
    rfl

/-! ## The layer norm -/

/-- Every slot row less its mean. -/
def centredV (y : FVec Ideal S4x64x128 .f32) : FVec Ideal S4x64x128 .f32 :=
  subf y (broadcastInDim S4x64x128 ![0, 1, 2] bcast_S4x64x1_S4x64x128_0_1_2 (Host.divf (broadcastInDim S4x64x1 ![0, 1] bcast_S4x64_S4x64x1_0_1
    (Host.reduceAdd y (constant S_ .f32 0x00000000#32) reducesTo_S4x64x128_S4x64_d2 h_S_)) (broadcastInDim S4x64x1 ![] bcast_S_S4x64x1 (constant S_ .f32 0x43000000#32))))

theorem centredV_at (y : FVec Ideal S4x64x128 .f32) (b : Fin 4) (n : Fin 64) (d : Fin 128) :
    centredV y (ix3 b n d) = y (ix3 b n d) - FinalSpec.mean fun d => y (ix3 b n d) := by
  pointwise [centredV, FinalSpec.mean]

/-- The layer norm of the slots. -/
def normV (y : FVec Ideal S4x64x128 .f32) (a b : FVec Ideal S128 .f32) : FVec Ideal S4x64x128 .f32 :=
  addf (mulf (Host.divf (centredV y) (broadcastInDim S4x64x128 ![0, 1, 2] bcast_S4x64x1_S4x64x128_0_1_2 (Host.sqrt (addf (Host.divf (broadcastInDim S4x64x1 ![0, 1] bcast_S4x64_S4x64x1_0_1
        (Host.reduceAdd (mulf (centredV y) (centredV y)) (constant S_ .f32 0x00000000#32) reducesTo_S4x64x128_S4x64_d2 h_S_)) (broadcastInDim S4x64x1 ![] bcast_S_S4x64x1 (constant S_ .f32 0x43000000#32)))
      (broadcastInDim S4x64x1 ![] bcast_S_S4x64x1 (constant S_ .f32 0x3727C5AC#32))))))
    (broadcastInDim S4x64x128 ![0, 1, 2] bcast_S1x1x128_S4x64x128_0_1_2 (broadcastInDim S1x1x128 ![2] bcast_S128_S1x1x128_2 a)))
    (broadcastInDim S4x64x128 ![0, 1, 2] bcast_S1x1x128_S4x64x128_0_1_2 (broadcastInDim S1x1x128 ![2] bcast_S128_S1x1x128_2 b))

theorem normV_at (y : FVec Ideal S4x64x128 .f32) (a g : FVec Ideal S128 .f32) (b : Fin 4) (n : Fin 64) (d : Fin 128) :
    normV y a g (ix3 b n d) = FinalSpec.normed (fun d => y (ix3 b n d)) (fun d => a (ix1 d)) (fun d => g (ix1 d)) d := by
  unfold normV FinalSpec.normed FinalSpec.spread
  simp only [← centredV_at]
  generalize centredV y = z
  pointwise

/-- The reference's result: the recurrence's slots after all chunks, normalized. -/
theorem result_eq (c : Dev nD) (b : Fin 4) (n : Fin 64) (d : Fin 128) :
    (out_main_v27 (STEP^[128] (entryContents preI m c)) : Vec Ideal S4x64x128 .f32) (ix3 b n d) = FinalSpec.out (args m c) b n d := by
  have h := (steps_at (entry_at m c) 128 le_rfl).slots
  have h4 := iter_main_arg4 m c 128
  have h5 := iter_main_arg5 m c 128
  generalize STEP^[128] (entryContents preI m c) = V at h h4 h5 ⊢
  have e : (out_main_v27 V : Vec Ideal S4x64x128 .f32) = normV (V (Proc.devRef .tc main_v3_5)) (V (Proc.devRef .tc main_arg4)) (V (Proc.devRef .tc main_arg5)) := rfl
  rw [e, normV_at, h4, h5]
  exact congrArg (fun y => FinalSpec.normed y (args m c).gain (args m c).shift d) (funext fun d => h b n d)

end Cert.FinalRefRun

end
-- ==== Proof.lean ====
/-
  The gate call of the kernel against the plain recurrence: what each claim says, from the runs of the three programs
  (`Cert.GateRun.run_main`, `Cert.GateIdealRun.run_main`, the reference's generated run) and the two values
  (`Cert.GateIdealRun.result_eq`, `Cert.GateRefRun.result_eq`). The dense call against the plain layer norm, projection
  and attention: from the generated runs and the values of both results at an index. The call preparing the writes against
  the plain products and the three greatest of them: from the generated runs and the values of its four results at an
  index. The call forming the new slots
  against the plain recurrence and layer norm: from the generated runs and the two values at an index, joined by
  `Cert.FinalSpec.closedOut_eq` where the precondition holds.
-/
module

public import proofs.«01_k».proof.Proof.Gen.GateRefIdeal.Run
public import proofs.«01_k».proof.Proof.Gen.Dense.Frame
public import proofs.«01_k».proof.Proof.Gen.DenseIdeal.Frame
public import proofs.«01_k».proof.Proof.Gen.DenseIdeal.Value
public import proofs.«01_k».proof.Proof.Gen.DenseRefIdeal.Run
public import proofs.«01_k».proof.Defs
public import proofs.«01_k».proof.Proof.Gen.Gate
public import proofs.«01_k».proof.Proof.Gen.Gate.Skeleton
public import proofs.«01_k».proof.Proof.Gen.GateIdeal
public import proofs.«01_k».proof.Proof.Gen.GateIdeal.Skeleton
public import proofs.«01_k».proof.Proof.Gen.GateRefIdeal
public import proofs.«01_k».proof.Proof.Gen.Pre_in_range
public import proofs.«01_k».proof.Proof.GateMain
public import proofs.«01_k».proof.Proof.GateIdealMain
public import proofs.«01_k».proof.Proof.GateIdealValue
public import proofs.«01_k».proof.Proof.GateRefValue
public import proofs.«01_k».proof.Proof.Gen.Final
public import proofs.«01_k».proof.Proof.Gen.Final.Frame
public import proofs.«01_k».proof.Proof.Gen.FinalIdeal
public import proofs.«01_k».proof.Proof.Gen.FinalIdeal.Frame
public import proofs.«01_k».proof.Proof.Gen.FinalIdeal.Value
public import proofs.«01_k».proof.Proof.Gen.FinalRefIdeal
public import proofs.«01_k».proof.Proof.Gen.FinalRefIdeal.Run
public import proofs.«01_k».proof.Proof.Gen.Pre_below_one
public import proofs.«01_k».proof.Proof.Gen.Prep
public import proofs.«01_k».proof.Proof.Gen.Prep.Frame
public import proofs.«01_k».proof.Proof.Gen.PrepIdeal
public import proofs.«01_k».proof.Proof.Gen.PrepIdeal.Frame
public import proofs.«01_k».proof.Proof.Gen.PrepIdeal.Value
public import proofs.«01_k».proof.Proof.Gen.PrepRefIdeal
public import proofs.«01_k».proof.Proof.Gen.PrepRefIdeal.Run
public import proofs.«01_k».proof.Proof.Gen.Dense
public import proofs.«01_k».proof.Proof.Gen.DenseIdeal
public import proofs.«01_k».proof.Proof.Gen.DenseRefIdeal
public import proofs.«01_k».proof.Proof.DenseIdealValue
public import proofs.«01_k».proof.Proof.DenseRefValue
public import proofs.«01_k».proof.Proof.PrepIdealValue
public import proofs.«01_k».proof.Proof.PrepRefValue
public import proofs.«01_k».proof.Proof.FinalPre
public import proofs.«01_k».proof.Proof.FinalIdealValue
public import proofs.«01_k».proof.Proof.FinalRefValue
public import Idealize.ShloMosaic.Lib.Quiescent
public import Idealize.ShloMosaic.Adequacy
public import Idealize.ShloMosaic.Init

@[expose] public section

noncomputable section

namespace Cert.Proof

open Idealize.ShloMosaic Idealize.SL.Sem

section Claims

variable [hPre : Cert.Pre_in_range.Facts]

theorem frame_gate : Cert.quiescent_Gate := fun m g h => by
  have hm : Cert.GateRun.SlotsOK m := fun d i => Cert.GateRun.lt_of_pre _ _ _ (h d) i
  exact (θ_run (Cert.Gate.defs (F := Bits)) _ _).mono (fun r hr => ⟨fun c => (hr.1 c).2, hr.2⟩) (Cert.GateRun.run_main m g hm)

theorem frame_gateIdeal : Cert.quiescent_GateIdeal := fun m g h => by
  have hm : Cert.GateIdealRun.SlotsOK m := fun d i => Cert.GateIdealRun.lt_of_pre _ _ _ (h d) i
  exact (θ_run (Cert.GateIdeal.defs (F := Ideal)) _ _).mono (fun r hr => ⟨fun c => (hr.1 c).2, hr.2⟩) (Cert.GateIdealRun.run_main m g hm)

theorem frame_gateRefIdeal : Cert.quiescent_GateRefIdeal := fun m g _ =>
  (θ_run (Cert.GateRefIdeal.defs (F := Ideal)) _ _).mono
    (fun r hr => ⟨fun c => (hr c).2, sem_eq_zero_of_no_sems (by decide) _⟩) (Cert.GateRefIdeal.Value.run m g)

theorem preserves : Cert.preserves_Gate_GateIdeal :=
  IdealRules.named_const.statement Cert.GateIdeal.κ "third" .f32 0x3EAAAAAB#32 ((3⁻¹ : ℝ) : EReal) rfl

theorem algebraic : Cert.algebraic_GateIdeal_GateRefIdeal := by
  intro m g m' g' h hargs
  have hm : Cert.GateIdealRun.SlotsOK m := fun d i => Cert.GateIdealRun.lt_of_pre _ _ _ (h d) i
  refine ⟨Cert.GateIdealRun.result m hm, ?_, ?_⟩
  · exact (θ_run (Cert.GateIdeal.defs (F := Ideal)) _ _).mono (fun r hr c => hr.1 c) (Cert.GateIdealRun.run_main m g hm)
  · refine (θ_run (Cert.GateRefIdeal.defs (F := Ideal)) _ _).mono (fun r hr c => ⟨(hr c).1.trans ?_, (hr c).2⟩) (Cert.GateRefIdeal.Value.run m' g')
    funext i
    obtain ⟨d, b, rfl⟩ : ∃ (d : Fin 128) (b : Fin 4), i = ix2 d b := ⟨i 0, i 1, by funext a; fin_cases a <;> rfl⟩
    exact (Cert.GateRefRun.result_eq m' c _ _ _ (hm c) (hargs c).1 (hargs c).2.1 (hargs c).2.2 d b).trans
      (Cert.GateIdealRun.result_eq m hm c d b).symm

end Claims

/-! ## The dense call -/

theorem frame_denseRefIdeal : Cert.quiescent_DenseRefIdeal := fun m g _ =>
  (θ_run (Cert.DenseRefIdeal.defs (F := Ideal)) _ _).mono
    (fun r hr => ⟨fun c => (hr c).2.2, sem_eq_zero_of_no_sems (by decide) _⟩) (Cert.DenseRefIdeal.Value.run m g)

theorem algebraic_dense : Cert.algebraic_DenseIdeal_DenseRefIdeal := by
  intro m g m' g' _ hargs
  refine ⟨fun c => (Cert.DenseIdeal.Gen.dats m 0 c).arrAt 6 Cert.DenseIdeal.cfg0.N,
    fun c => (Cert.DenseIdeal.Gen.dats m 0 c).arrAt 7 Cert.DenseIdeal.cfg0.N, Cert.DenseIdeal.Value.run_blocks m g, ?_⟩
  refine (θ_run (Cert.DenseRefIdeal.defs (F := Ideal)) _ _).mono
    (fun r hr c => ⟨(hr c).1.trans ?_, (hr c).2.1.trans ?_, (hr c).2.2⟩) (Cert.DenseRefIdeal.Value.run m' g')
  all_goals
    obtain ⟨h0, h1, h2, h3, h4, h5⟩ := hargs c
    have htok : ∀ b t, Cert.DenseRefRun.token m' c b t = Cert.DenseIdealRun.token m c b t := fun b t => by
      unfold Cert.DenseRefRun.token Cert.DenseIdealRun.token
      rw [h0, h2, h3, h4]
    have hslots : Cert.DenseRefRun.slots m' c = Cert.DenseIdealRun.slots m c := by
      unfold Cert.DenseRefRun.slots Cert.DenseIdealRun.slots
      rw [h1]
    funext i
  · obtain ⟨b, t, e, rfl⟩ : ∃ (b : Fin 4) (t e : Fin 2048), i = ix3 b t e := ⟨i 0, i 1, i 2, by funext a; fin_cases a <;> rfl⟩
    refine (Cert.DenseRefRun.out0_at m' c b t e).trans (Eq.trans ?_ (Cert.DenseIdealRun.final6 m c b t e).symm)
    rw [htok, hslots, h5]
  · obtain ⟨b, n, d, rfl⟩ : ∃ (b : Fin 4) (n d : Fin 128), i = ix3 b n d := ⟨i 0, i 1, i 2, by funext a; fin_cases a <;> rfl⟩
    refine (Cert.DenseRefRun.out1_at m' c b n d).trans (Eq.trans ?_ (Cert.DenseIdealRun.final7 m c b n d).symm)
    simp only [htok, hslots]

/-! ## The call preparing the writes -/

theorem frame_prepRefIdeal : Cert.quiescent_PrepRefIdeal := fun m g _ =>
  (θ_run (Cert.PrepRefIdeal.defs (F := Ideal)) _ _).mono
    (fun r hr => ⟨fun c => (hr c).2.2.2.2, sem_eq_zero_of_no_sems (by decide) _⟩) (Cert.PrepRefIdeal.Value.run m g)

theorem preserves_prep : Cert.preserves_Prep_PrepIdeal :=
  IdealRules.named_const.statement Cert.PrepIdeal.κ "mask" .f32 0xF149F2CA#32 ⊥ rfl

theorem algebraic_prep : Cert.algebraic_PrepIdeal_PrepRefIdeal := by
  intro m g m' g' _ hargs
  refine ⟨fun c => (Cert.PrepIdeal.Gen.dats m 0 c).arrAt 6 Cert.PrepIdeal.cfg0.N,
    fun c => (Cert.PrepIdeal.Gen.dats m 0 c).arrAt 7 Cert.PrepIdeal.cfg0.N,
    fun c => (Cert.PrepIdeal.Gen.dats m 0 c).arrAt 8 Cert.PrepIdeal.cfg0.N,
    fun c => (Cert.PrepIdeal.Gen.dats m 0 c).arrAt 9 Cert.PrepIdeal.cfg0.N, Cert.PrepIdeal.Value.run_blocks m g, ?_⟩
  refine (θ_run (Cert.PrepRefIdeal.defs (F := Ideal)) _ _).mono
    (fun r hr c => ⟨(hr c).1.trans ?_, (hr c).2.1.trans ?_, (hr c).2.2.1.trans ?_, (hr c).2.2.2.1.trans ?_, (hr c).2.2.2.2⟩)
    (Cert.PrepRefIdeal.Value.run m' g')
  all_goals
    obtain ⟨h0, h1, h2, h3, h4, h5⟩ := hargs c
    have ha : Cert.PrepRefRun.args m' c = Cert.PrepIdealRun.args m c := by
      unfold Cert.PrepRefRun.args Cert.PrepIdealRun.args
      rw [h0, h1, h2, h3, h4, h5]
    funext i
  · obtain ⟨r, j, rfl⟩ : ∃ (r : Fin 512) (j : Fin 3), i = ix2 r j := ⟨i 0, i 1, by funext a; fin_cases a <;> rfl⟩
    exact (Cert.PrepRefRun.top_at m' c r j).trans (Eq.trans (by rw [ha]) (Cert.PrepIdealRun.final6 m c r j).symm)
  · obtain ⟨r, d, rfl⟩ : ∃ (r : Fin 512) (d : Fin 128), i = ix2 r d := ⟨i 0, i 1, by funext a; fin_cases a <;> rfl⟩
    exact (Cert.PrepRefRun.written_at m' c r d).trans (Eq.trans (by rw [ha]) (Cert.PrepIdealRun.final7 m c r d).symm)
  · obtain ⟨r, j, rfl⟩ : ∃ (r : Fin 512) (j : Fin 2), i = ix2 r j := ⟨i 0, i 1, by funext a; fin_cases a <;> rfl⟩
    exact (Cert.PrepRefRun.scal_at m' c r j).trans (Eq.trans (by rw [ha]) (Cert.PrepIdealRun.final8 m c r j).symm)
  · obtain ⟨n, rfl⟩ : ∃ n : Fin 64, i = ix2 n 0 :=
      ⟨i 0, by funext a; match a with | ⟨0, _⟩ => rfl | ⟨1, _⟩ => exact Subsingleton.elim (α := Fin 1) _ _⟩
    exact (Cert.PrepRefRun.weight_at m' c n).trans (Eq.trans (by rw [ha]) (Cert.PrepIdealRun.final9 m c n).symm)

/-! ## The call forming the new slots -/

theorem frame_finalRefIdeal : Cert.quiescent_FinalRefIdeal := fun m g _ =>
  (θ_run (Cert.FinalRefIdeal.defs (F := Ideal)) _ _).mono
    (fun r hr => ⟨fun c => (hr c).2, sem_eq_zero_of_no_sems (by decide) _⟩) (Cert.FinalRefIdeal.Value.run m g)

section Final

variable [hPre : Cert.Pre_below_one.Facts]

theorem algebraic_final : Cert.algebraic_FinalIdeal_FinalRefIdeal_pre_below_one := by
  intro m g m' g' h hargs
  refine ⟨fun c => (Cert.FinalIdeal.Gen.dats m 0 c).arrAt 6 Cert.FinalIdeal.cfg0.N, Cert.FinalIdeal.Value.run_blocks m g, ?_⟩
  refine (θ_run (Cert.FinalRefIdeal.defs (F := Ideal)) _ _).mono
    (fun r hr c => ⟨(hr c).1.trans ?_, (hr c).2⟩) (Cert.FinalRefIdeal.Value.run m' g')
  obtain ⟨h0, h1, h2, h3, h4, h5⟩ := hargs c
  obtain ⟨p0, p1, p2⟩ := Cert.FinalPre.facts_of_pre _ _ _ _ _ _ (h c)
  have ha : Cert.FinalRefRun.args m' c = Cert.FinalIdealRun.args m c := by
    unfold Cert.FinalRefRun.args Cert.FinalIdealRun.args
    rw [h0, h1, h2, h3, h4, h5]
  funext i
  obtain ⟨b, n, d, rfl⟩ : ∃ (b : Fin 4) (n : Fin 64) (d : Fin 128), i = ix3 b n d := ⟨i 0, i 1, i 2, by funext a; fin_cases a <;> rfl⟩
  refine (Cert.FinalRefRun.result_eq m' c b n d).trans (Eq.trans ?_ (Cert.FinalIdealRun.final6 m c b n d).symm)
  rw [ha, Cert.FinalSpec.closedOut_eq (Cert.FinalIdealRun.args m c) p0 p1 p2]

end Final

theorem claim : Cert.Claim := ⟨Cert.Gate.Gen.facts, Cert.GateIdeal.Gen.facts, Cert.GateRefIdeal.Gen.facts,
  Cert.Dense.Gen.facts, Cert.DenseIdeal.Gen.facts, Cert.DenseRefIdeal.Gen.facts,
  Cert.Prep.Gen.facts, Cert.PrepIdeal.Gen.facts, Cert.PrepRefIdeal.Gen.facts,
  Cert.Final.Gen.facts, Cert.FinalIdeal.Gen.facts, Cert.FinalRefIdeal.Gen.facts, Cert.Pre_in_range.Gen.facts, Cert.Pre_below_one.Gen.facts,
  frame_gate, frame_gateIdeal, frame_gateRefIdeal,
  fun m ρ _ => Cert.Dense.Gen.frame m ρ, fun m ρ _ => Cert.DenseIdeal.Gen.frame m ρ, frame_denseRefIdeal,
  fun m ρ _ => Cert.Prep.Gen.frame m ρ, fun m ρ _ => Cert.PrepIdeal.Gen.frame m ρ, frame_prepRefIdeal,
  fun m ρ _ => Cert.Final.Gen.frame m ρ, fun m ρ _ => Cert.FinalIdeal.Gen.frame m ρ, fun m ρ _ => Cert.FinalIdeal.Gen.frame m ρ,
  frame_finalRefIdeal, fun m ρ _ => frame_finalRefIdeal m ρ trivial,
  preserves, algebraic, trivial, algebraic_dense, preserves_prep, algebraic_prep, trivial, algebraic_final⟩

end Cert.Proof

end
